-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_fit [hPre_scales_fit : Cert.Pre_scales_fit.Facts] (m : (ℓ : Loc Cert.KernelIdeal.nD Cert.KernelIdeal.τ Cert.KernelIdeal.sig) → Buf (Elt Ideal) ℓ) : Prop :=
  ∀ c : Dev Cert.KernelIdeal.nD,
    (Cert.Pre_scales_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_fit [hPre_scales_fit : Cert.Pre_scales_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scales_fit [hKernelIdeal : Cert.KernelIdeal.Facts] [hPre_scales_fit : Cert.Pre_scales_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scales_fit [hReferenceIdeal : Cert.ReferenceIdeal.Facts] [hPre_scales_fit : Cert.Pre_scales_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_scales_fit [hKernelIdeal : Cert.KernelIdeal.Facts] [hReferenceIdeal : Cert.ReferenceIdeal.Facts] [hPre_scales_fit : Cert.Pre_scales_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scales_fit : Cert.Pre_scales_fit.Facts),
    quiescent_Kernel (hKernel := hKernel)
    ∧ quiescent_KernelIdeal (hKernelIdeal := hKernelIdeal)
    ∧ quiescent_KernelIdeal_pre_scales_fit (hKernelIdeal := hKernelIdeal) (hPre_scales_fit := hPre_scales_fit)
    ∧ quiescent_ReferenceIdeal (hReferenceIdeal := hReferenceIdeal)
    ∧ quiescent_ReferenceIdeal_pre_scales_fit (hReferenceIdeal := hReferenceIdeal) (hPre_scales_fit := hPre_scales_fit)
    ∧ preserves_Kernel_KernelIdeal
    ∧ algebraic_KernelIdeal_ReferenceIdeal_pre_scales_fit (hKernelIdeal := hKernelIdeal) (hReferenceIdeal := hReferenceIdeal) (hPre_scales_fit := hPre_scales_fit)
-- ==== Pre_scales_fit.lean ====
abbrev S4x4096x1152 : Shape := ⟨3, ![4, 4096, 1152]⟩
abbrev S1152 : Shape := ⟨1, ![1152]⟩
abbrev S_ : Shape := ⟨0, ![]⟩
abbrev S576x4608 : Shape := ⟨2, ![576, 4608]⟩
abbrev S72x4608 : Shape := ⟨2, ![72, 4608]⟩
abbrev S1152x32 : Shape := ⟨2, ![1152, 32]⟩
abbrev S32x4608 : Shape := ⟨2, ![32, 4608]⟩
abbrev S4608 : Shape := ⟨1, ![4608]⟩

class Facts : Prop where
  bitsLt_bf16_f32 : FTy.bits .bf16 < FTy.bits .f32
  bcast_S_S32x4608 : S_.BroadcastsInDim S32x4608 (![] : Fin 0 → Fin S32x4608.rank)

variable [Facts]

def fn {F : FTy → Type} [FloatOps F] (main_arg0 : FVec F S4x4096x1152 .bf16) (main_arg1 : FVec F S1152 .f32) (main_arg2 : FVec F S_ .f32) (main_arg3 : IVec S576x4608 8) (main_arg4 : FVec F S72x4608 .fp8e4m3) (main_arg5 : FVec F S_ .f32) (main_arg6 : FVec F S1152x32 .bf16) (main_arg7 : FVec F S32x4608 .bf16) (main_arg8 : FVec F S4608 .f32) : IVec S32x4608 1 :=
  let main_cst : FVec F S_ .f32 := constant S_ .f32 0x00000000#32
  let main_v0 : IVec S_ 1 := cmpf .une main_arg2 main_cst
  let main_v1 : FVec F S_ .f32 := mulf main_arg2 main_arg5
  let main_cst_0 : FVec F S_ .f32 := constant S_ .f32 0x00000000#32
  let main_v2 : IVec S_ 1 := cmpf .oge main_v1 main_cst_0
  let main_v3 : IVec S_ 1 := andi main_v0 main_v2
  let main_v4 : FVec F S32x4608 .f32 := (extf .f32 · bitsLt_bf16_f32) main_arg7
  let main_v5 : FVec F S32x4608 .f32 := Host.absf main_v4
  let main_cst_1 : FVec F S_ .f32 := constant S_ .f32 0x7F800000#32
  let main_v6 : FVec F S32x4608 .f32 := broadcastInDim S32x4608 ![] bcast_S_S32x4608 main_cst_1
  let main_v7 : IVec S32x4608 1 := cmpf .olt main_v5 main_v6
  let main_v8 : IVec S32x4608 1 := broadcastInDim S32x4608 ![] bcast_S_S32x4608 main_v3
  let main_v9 : IVec S32x4608 1 := andi main_v7 main_v8
  main_v9
-- ==== Kernel.lean ====
abbrev S4x4096x1152 : Shape := ⟨3, ![4, 4096, 1152]⟩
abbrev S1152 : Shape := ⟨1, ![1152]⟩
abbrev S_ : Shape := ⟨0, ![]⟩
abbrev S576x4608 : Shape := ⟨2, ![576, 4608]⟩
abbrev S72x4608 : Shape := ⟨2, ![72, 4608]⟩
abbrev S1152x32 : Shape := ⟨2, ![1152, 32]⟩
abbrev S32x4608 : Shape := ⟨2, ![32, 4608]⟩
abbrev S4608 : Shape := ⟨1, ![4608]⟩
abbrev S1 : Shape := ⟨1, ![1]⟩
abbrev S16384x1152 : Shape := ⟨2, ![16384, 1152]⟩
abbrev S1x1152 : Shape := ⟨2, ![1, 1152]⟩
abbrev S1x4608 : Shape := ⟨2, ![1, 4608]⟩
abbrev S16384x4608 : Shape := ⟨2, ![16384, 4608]⟩
abbrev S16384x576 : Shape := ⟨2, ![16384, 576]⟩
abbrev S16384x72 : Shape := ⟨2, ![16384, 72]⟩
abbrev S256x1152 : Shape := ⟨2, ![256, 1152]⟩
abbrev S512x4608 : Shape := ⟨2, ![512, 4608]⟩
abbrev S512x576 : Shape := ⟨2, ![512, 576]⟩
abbrev S512x72 : Shape := ⟨2, ![512, 72]⟩
abbrev S1280x4608 : Shape := ⟨2, ![1280, 4608]⟩
abbrev S1152x128 : Shape := ⟨2, ![1152, 128]⟩
abbrev S256x1280 : Shape := ⟨2, ![256, 1280]⟩
abbrev S256x576 : Shape := ⟨2, ![256, 576]⟩
abbrev S256x72 : Shape := ⟨2, ![256, 72]⟩
abbrev S8x128 : Shape := ⟨2, ![8, 128]⟩
abbrev S64x128 : Shape := ⟨2, ![64, 128]⟩
abbrev S128x128 : Shape := ⟨2, ![128, 128]⟩
abbrev S8x1x128 : Shape := ⟨3, ![8, 1, 128]⟩
abbrev S8x16x128 : Shape := ⟨3, ![8, 16, 128]⟩
abbrev S256x128 : Shape := ⟨2, ![256, 128]⟩
abbrev S1x128 : Shape := ⟨2, ![1, 128]⟩
abbrev S128x256 : Shape := ⟨2, ![128, 256]⟩
abbrev S8x16x256 : Shape := ⟨3, ![8, 16, 256]⟩
abbrev S8x256 : Shape := ⟨2, ![8, 256]⟩
abbrev S72x256 : Shape := ⟨2, ![72, 256]⟩
abbrev S56x256 : Shape := ⟨2, ![56, 256]⟩
abbrev S256x128x1 : Shape := ⟨3, ![256, 128, 1]⟩
abbrev S64x128x1 : Shape := ⟨3, ![64, 128, 1]⟩
abbrev S256x64 : Shape := ⟨2, ![256, 64]⟩
abbrev S1280x512 : Shape := ⟨2, ![1280, 512]⟩
abbrev S256x512 : Shape := ⟨2, ![256, 512]⟩
abbrev S1x512 : Shape := ⟨2, ![1, 512]⟩
abbrev S1152x512 : Shape := ⟨2, ![1152, 512]⟩
abbrev S256x32 : Shape := ⟨2, ![256, 32]⟩
abbrev S32x512 : Shape := ⟨2, ![32, 512]⟩
abbrev S4x4096x4608 : Shape := ⟨3, ![4, 4096, 4608]⟩
abbrev S4x4096x576 : Shape := ⟨3, ![4, 4096, 576]⟩
abbrev S4x4096x72 : Shape := ⟨3, ![4, 4096, 72]⟩

abbrev nBuf : Space → Nat
  | .hbm => 22
  | .vmem => 27
  | .smem => 2
  | _ => 0

abbrev bufTy : (tb : Table) → Fin (tcTables nBuf tb) → BufTy
  | .hbm, ⟨0, _⟩ => ⟨S4x4096x1152, .bf16⟩
  | .hbm, ⟨1, _⟩ => ⟨S1152, .f32⟩
  | .hbm, ⟨2, _⟩ => ⟨S_, .f32⟩
  | .hbm, ⟨3, _⟩ => ⟨S576x4608, .i8⟩
  | .hbm, ⟨4, _⟩ => ⟨S72x4608, .fp8e4m3⟩
  | .hbm, ⟨5, _⟩ => ⟨S_, .f32⟩
  | .hbm, ⟨6, _⟩ => ⟨S1152x32, .bf16⟩
  | .hbm, ⟨7, _⟩ => ⟨S32x4608, .bf16⟩
  | .hbm, ⟨8, _⟩ => ⟨S4608, .f32⟩
  | .hbm, ⟨9, _⟩ => ⟨S1, .f32⟩
  | .hbm, ⟨10, _⟩ => ⟨S1, .f32⟩
  | .hbm, ⟨11, _⟩ => ⟨S16384x1152, .bf16⟩
  | .hbm, ⟨12, _⟩ => ⟨S16384x1152, .bf16⟩
  | .hbm, ⟨13, _⟩ => ⟨S16384x1152, .bf16⟩
  | .hbm, ⟨14, _⟩ => ⟨S1x1152, .f32⟩
  | .hbm, ⟨15, _⟩ => ⟨S1x4608, .f32⟩
  | .hbm, ⟨16, _⟩ => ⟨S16384x4608, .bf16⟩
  | .hbm, ⟨17, _⟩ => ⟨S16384x576, .i8⟩
  | .hbm, ⟨18, _⟩ => ⟨S16384x72, .fp8e4m3⟩
  | .hbm, ⟨19, _⟩ => ⟨S4x4096x4608, .bf16⟩
  | .hbm, ⟨20, _⟩ => ⟨S4x4096x576, .i8⟩
  | .hbm, ⟨21, _⟩ => ⟨S4x4096x72, .fp8e4m3⟩
  | .local _ .vmem, ⟨0, _⟩ => ⟨S256x1152, .bf16⟩
  | .local _ .vmem, ⟨1, _⟩ => ⟨S256x1152, .bf16⟩
  | .local _ .vmem, ⟨2, _⟩ => ⟨S256x1152, .bf16⟩
  | .local _ .vmem, ⟨3, _⟩ => ⟨S256x1152, .bf16⟩
  | .local _ .vmem, ⟨4, _⟩ => ⟨S256x1152, .bf16⟩
  | .local _ .vmem, ⟨5, _⟩ => ⟨S1x1152, .f32⟩
  | .local _ .vmem, ⟨6, _⟩ => ⟨S576x4608, .i8⟩
  | .local _ .vmem, ⟨7, _⟩ => ⟨S72x4608, .fp8e4m3⟩
  | .local _ .vmem, ⟨8, _⟩ => ⟨S1152x32, .bf16⟩
  | .local _ .vmem, ⟨9, _⟩ => ⟨S32x4608, .bf16⟩
  | .local _ .vmem, ⟨10, _⟩ => ⟨S1x4608, .f32⟩
  | .local _ .vmem, ⟨11, _⟩ => ⟨S512x4608, .bf16⟩
  | .local _ .vmem, ⟨12, _⟩ => ⟨S512x4608, .bf16⟩
  | .local _ .vmem, ⟨13, _⟩ => ⟨S512x576, .i8⟩
  | .local _ .vmem, ⟨14, _⟩ => ⟨S512x576, .i8⟩
  | .local _ .vmem, ⟨15, _⟩ => ⟨S512x72, .fp8e4m3⟩
  | .local _ .vmem, ⟨16, _⟩ => ⟨S512x72, .fp8e4m3⟩
  | .local _ .vmem, ⟨17, _⟩ => ⟨S1280x4608, .bf16⟩
  | .local _ .vmem, ⟨18, _⟩ => ⟨S1152x128, .bf16⟩
  | .local _ .vmem, ⟨19, _⟩ => ⟨S256x1152, .bf16⟩
  | .local _ .vmem, ⟨20, _⟩ => ⟨S256x1280, .bf16⟩
  | .local _ .vmem, ⟨21, _⟩ => ⟨S256x1280, .bf16⟩
  | .local _ .vmem, ⟨22, _⟩ => ⟨S256x576, .i8⟩
  | .local _ .vmem, ⟨23, _⟩ => ⟨S256x576, .i8⟩
  | .local _ .vmem, ⟨24, _⟩ => ⟨S256x72, .fp8e4m3⟩
  | .local _ .vmem, ⟨25, _⟩ => ⟨S256x72, .fp8e4m3⟩
  | .local _ .vmem, ⟨26, _⟩ => ⟨S72x4608, .f32⟩
  | .local _ .smem, ⟨0, _⟩ => ⟨S1, .f32⟩
  | .local _ .smem, ⟨1, _⟩ => ⟨S1, .f32⟩
  | _, _ => ⟨S4x4096x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_2 : BitVec 32 := 0#32
  let v9 : BitVec 1 := Scalar.cmpi .ne v8 c0_i32_2
  v9

@[reducible] def k0_t1_loop : Scf.Loop 32 :=
  let c0_i32_9 : BitVec 32 := 0#32
  let c9_i32 : BitVec 32 := 9#32
  let v20 : BitVec 32 := Scalar.addi c0_i32_9 c9_i32
  let c1_i32 : BitVec 32 := 1#32
  ⟨c0_i32_9, v20, c1_i32⟩
def k0_mult1 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  v1859
def k0_mult2 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_699 : BitVec 32 := 8#32
  let v1861 : BitVec 32 := Scalar.muli arg25 c8_i32_699
  v1861
def k0_off1 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_699 : BitVec 32 := 8#32
  let v1861 : BitVec 32 := Scalar.muli arg25 c8_i32_699
  let v1862 : BitVec 32 := v1861
  let v1863 : Index := Scalar.indexCast v1862
  let c0_700 : Index := 0#32
  ![v1863.toNat, 0]
def k0_off2 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v1865 : Index := Scalar.indexCast v1860
  let c0_701 : Index := 0#32
  ![v1865.toNat, 0]
def k0_mult3 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_704 : BitVec 32 := 2#32
  let v1896 : BitVec 32 := Scalar.muli v1860 c2_i32_704
  v1896
def k0_off3 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_704 : BitVec 32 := 2#32
  let v1896 : BitVec 32 := Scalar.muli v1860 c2_i32_704
  let v1897 : BitVec 32 := v1896
  let v1898 : Index := Scalar.indexCast v1897
  let c0_705 : Index := 0#32
  ![v1898.toNat, 0]
def k0_mult4 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_706 : BitVec 32 := 8#32
  let v1902 : BitVec 32 := Scalar.muli arg25 c8_i32_706
  v1902
def k0_off4 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_706 : BitVec 32 := 8#32
  let v1902 : BitVec 32 := Scalar.muli arg25 c8_i32_706
  let v1903 : BitVec 32 := v1902
  let v1904 : Index := Scalar.indexCast v1903
  let c128_707 : Index := 128#32
  ![v1904.toNat, 128]
def k0_off5 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v1906 : Index := Scalar.indexCast v1860
  let c128_708 : Index := 128#32
  ![v1906.toNat, 128]
def k0_mult5 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_717 : BitVec 32 := 2#32
  let v1937 : BitVec 32 := Scalar.muli v1860 c2_i32_717
  v1937
def k0_off6 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_717 : BitVec 32 := 2#32
  let v1937 : BitVec 32 := Scalar.muli v1860 c2_i32_717
  let v1938 : BitVec 32 := v1937
  let v1939 : Index := Scalar.indexCast v1938
  let c128_718 : Index := 128#32
  ![v1939.toNat, 128]
def k0_mult6 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_719 : BitVec 32 := 8#32
  let v1943 : BitVec 32 := Scalar.muli arg25 c8_i32_719
  v1943
def k0_off7 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_719 : BitVec 32 := 8#32
  let v1943 : BitVec 32 := Scalar.muli arg25 c8_i32_719
  let v1944 : BitVec 32 := v1943
  let v1945 : Index := Scalar.indexCast v1944
  let c256_720 : Index := 256#32
  ![v1945.toNat, 256]
def k0_off8 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v1947 : Index := Scalar.indexCast v1860
  let c256_721 : Index := 256#32
  ![v1947.toNat, 256]
def k0_mult7 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_730 : BitVec 32 := 2#32
  let v1978 : BitVec 32 := Scalar.muli v1860 c2_i32_730
  v1978
def k0_off9 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_730 : BitVec 32 := 2#32
  let v1978 : BitVec 32 := Scalar.muli v1860 c2_i32_730
  let v1979 : BitVec 32 := v1978
  let v1980 : Index := Scalar.indexCast v1979
  let c256_731 : Index := 256#32
  ![v1980.toNat, 256]
def k0_mult8 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_732 : BitVec 32 := 8#32
  let v1984 : BitVec 32 := Scalar.muli arg25 c8_i32_732
  v1984
def k0_off10 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_732 : BitVec 32 := 8#32
  let v1984 : BitVec 32 := Scalar.muli arg25 c8_i32_732
  let v1985 : BitVec 32 := v1984
  let v1986 : Index := Scalar.indexCast v1985
  let c384_733 : Index := 384#32
  ![v1986.toNat, 384]
def k0_off11 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v1988 : Index := Scalar.indexCast v1860
  let c384_734 : Index := 384#32
  ![v1988.toNat, 384]
def k0_mult9 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_743 : BitVec 32 := 2#32
  let v2019 : BitVec 32 := Scalar.muli v1860 c2_i32_743
  v2019
def k0_off12 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_743 : BitVec 32 := 2#32
  let v2019 : BitVec 32 := Scalar.muli v1860 c2_i32_743
  let v2020 : BitVec 32 := v2019
  let v2021 : Index := Scalar.indexCast v2020
  let c384_744 : Index := 384#32
  ![v2021.toNat, 384]
def k0_mult10 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_745 : BitVec 32 := 8#32
  let v2025 : BitVec 32 := Scalar.muli arg25 c8_i32_745
  v2025
def k0_off13 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_745 : BitVec 32 := 8#32
  let v2025 : BitVec 32 := Scalar.muli arg25 c8_i32_745
  let v2026 : BitVec 32 := v2025
  let v2027 : Index := Scalar.indexCast v2026
  let c512_746 : Index := 512#32
  ![v2027.toNat, 512]
def k0_off14 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2029 : Index := Scalar.indexCast v1860
  let c512_747 : Index := 512#32
  ![v2029.toNat, 512]
def k0_mult11 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_756 : BitVec 32 := 2#32
  let v2060 : BitVec 32 := Scalar.muli v1860 c2_i32_756
  v2060
def k0_off15 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_756 : BitVec 32 := 2#32
  let v2060 : BitVec 32 := Scalar.muli v1860 c2_i32_756
  let v2061 : BitVec 32 := v2060
  let v2062 : Index := Scalar.indexCast v2061
  let c512_757 : Index := 512#32
  ![v2062.toNat, 512]
def k0_mult12 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_758 : BitVec 32 := 8#32
  let v2066 : BitVec 32 := Scalar.muli arg25 c8_i32_758
  v2066
def k0_off16 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_758 : BitVec 32 := 8#32
  let v2066 : BitVec 32 := Scalar.muli arg25 c8_i32_758
  let v2067 : BitVec 32 := v2066
  let v2068 : Index := Scalar.indexCast v2067
  let c640_759 : Index := 640#32
  ![v2068.toNat, 640]
def k0_off17 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2070 : Index := Scalar.indexCast v1860
  let c640_760 : Index := 640#32
  ![v2070.toNat, 640]
def k0_mult13 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_769 : BitVec 32 := 2#32
  let v2101 : BitVec 32 := Scalar.muli v1860 c2_i32_769
  v2101
def k0_off18 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_769 : BitVec 32 := 2#32
  let v2101 : BitVec 32 := Scalar.muli v1860 c2_i32_769
  let v2102 : BitVec 32 := v2101
  let v2103 : Index := Scalar.indexCast v2102
  let c640_770 : Index := 640#32
  ![v2103.toNat, 640]
def k0_mult14 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_771 : BitVec 32 := 8#32
  let v2107 : BitVec 32 := Scalar.muli arg25 c8_i32_771
  v2107
def k0_off19 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_771 : BitVec 32 := 8#32
  let v2107 : BitVec 32 := Scalar.muli arg25 c8_i32_771
  let v2108 : BitVec 32 := v2107
  let v2109 : Index := Scalar.indexCast v2108
  let c768_772 : Index := 768#32
  ![v2109.toNat, 768]
def k0_off20 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2111 : Index := Scalar.indexCast v1860
  let c768_773 : Index := 768#32
  ![v2111.toNat, 768]
def k0_mult15 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_782 : BitVec 32 := 2#32
  let v2142 : BitVec 32 := Scalar.muli v1860 c2_i32_782
  v2142
def k0_off21 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_782 : BitVec 32 := 2#32
  let v2142 : BitVec 32 := Scalar.muli v1860 c2_i32_782
  let v2143 : BitVec 32 := v2142
  let v2144 : Index := Scalar.indexCast v2143
  let c768_783 : Index := 768#32
  ![v2144.toNat, 768]
def k0_mult16 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_784 : BitVec 32 := 8#32
  let v2148 : BitVec 32 := Scalar.muli arg25 c8_i32_784
  v2148
def k0_off22 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_784 : BitVec 32 := 8#32
  let v2148 : BitVec 32 := Scalar.muli arg25 c8_i32_784
  let v2149 : BitVec 32 := v2148
  let v2150 : Index := Scalar.indexCast v2149
  let c896_785 : Index := 896#32
  ![v2150.toNat, 896]
def k0_off23 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2152 : Index := Scalar.indexCast v1860
  let c896_786 : Index := 896#32
  ![v2152.toNat, 896]
def k0_mult17 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_795 : BitVec 32 := 2#32
  let v2183 : BitVec 32 := Scalar.muli v1860 c2_i32_795
  v2183
def k0_off24 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_795 : BitVec 32 := 2#32
  let v2183 : BitVec 32 := Scalar.muli v1860 c2_i32_795
  let v2184 : BitVec 32 := v2183
  let v2185 : Index := Scalar.indexCast v2184
  let c896_796 : Index := 896#32
  ![v2185.toNat, 896]
def k0_mult18 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_797 : BitVec 32 := 8#32
  let v2189 : BitVec 32 := Scalar.muli arg25 c8_i32_797
  v2189
def k0_off25 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_797 : BitVec 32 := 8#32
  let v2189 : BitVec 32 := Scalar.muli arg25 c8_i32_797
  let v2190 : BitVec 32 := v2189
  let v2191 : Index := Scalar.indexCast v2190
  let c1024_798 : Index := 1024#32
  ![v2191.toNat, 1024]
def k0_off26 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2193 : Index := Scalar.indexCast v1860
  let c1024_799 : Index := 1024#32
  ![v2193.toNat, 1024]
def k0_mult19 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_808 : BitVec 32 := 2#32
  let v2224 : BitVec 32 := Scalar.muli v1860 c2_i32_808
  v2224
def k0_off27 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_808 : BitVec 32 := 2#32
  let v2224 : BitVec 32 := Scalar.muli v1860 c2_i32_808
  let v2225 : BitVec 32 := v2224
  let v2226 : Index := Scalar.indexCast v2225
  let c1024_809 : Index := 1024#32
  ![v2226.toNat, 1024]
def k0_mult20 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_810 : BitVec 32 := 8#32
  let v2230 : BitVec 32 := Scalar.muli arg25 c8_i32_810
  v2230
def k0_off28 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_810 : BitVec 32 := 8#32
  let v2230 : BitVec 32 := Scalar.muli arg25 c8_i32_810
  let v2231 : BitVec 32 := v2230
  let v2232 : Index := Scalar.indexCast v2231
  let c1152_811 : Index := 1152#32
  ![v2232.toNat, 1152]
def k0_off29 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2234 : Index := Scalar.indexCast v1860
  let c1152_812 : Index := 1152#32
  ![v2234.toNat, 1152]
def k0_mult21 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_821 : BitVec 32 := 2#32
  let v2265 : BitVec 32 := Scalar.muli v1860 c2_i32_821
  v2265
def k0_off30 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_821 : BitVec 32 := 2#32
  let v2265 : BitVec 32 := Scalar.muli v1860 c2_i32_821
  let v2266 : BitVec 32 := v2265
  let v2267 : Index := Scalar.indexCast v2266
  let c1152_822 : Index := 1152#32
  ![v2267.toNat, 1152]
def k0_mult22 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_823 : BitVec 32 := 8#32
  let v2271 : BitVec 32 := Scalar.muli arg25 c8_i32_823
  v2271
def k0_off31 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_823 : BitVec 32 := 8#32
  let v2271 : BitVec 32 := Scalar.muli arg25 c8_i32_823
  let v2272 : BitVec 32 := v2271
  let v2273 : Index := Scalar.indexCast v2272
  let c1280 : Index := 1280#32
  ![v2273.toNat, 1280]
def k0_off32 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2275 : Index := Scalar.indexCast v1860
  let c1280_824 : Index := 1280#32
  ![v2275.toNat, 1280]
def k0_mult23 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_833 : BitVec 32 := 2#32
  let v2306 : BitVec 32 := Scalar.muli v1860 c2_i32_833
  v2306
def k0_off33 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_833 : BitVec 32 := 2#32
  let v2306 : BitVec 32 := Scalar.muli v1860 c2_i32_833
  let v2307 : BitVec 32 := v2306
  let v2308 : Index := Scalar.indexCast v2307
  let c1280_834 : Index := 1280#32
  ![v2308.toNat, 1280]
def k0_mult24 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_835 : BitVec 32 := 8#32
  let v2312 : BitVec 32 := Scalar.muli arg25 c8_i32_835
  v2312
def k0_off34 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_835 : BitVec 32 := 8#32
  let v2312 : BitVec 32 := Scalar.muli arg25 c8_i32_835
  let v2313 : BitVec 32 := v2312
  let v2314 : Index := Scalar.indexCast v2313
  let c1408 : Index := 1408#32
  ![v2314.toNat, 1408]
def k0_off35 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2316 : Index := Scalar.indexCast v1860
  let c1408_836 : Index := 1408#32
  ![v2316.toNat, 1408]
def k0_mult25 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_845 : BitVec 32 := 2#32
  let v2347 : BitVec 32 := Scalar.muli v1860 c2_i32_845
  v2347
def k0_off36 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_845 : BitVec 32 := 2#32
  let v2347 : BitVec 32 := Scalar.muli v1860 c2_i32_845
  let v2348 : BitVec 32 := v2347
  let v2349 : Index := Scalar.indexCast v2348
  let c1408_846 : Index := 1408#32
  ![v2349.toNat, 1408]
def k0_mult26 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_847 : BitVec 32 := 8#32
  let v2353 : BitVec 32 := Scalar.muli arg25 c8_i32_847
  v2353
def k0_off37 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_847 : BitVec 32 := 8#32
  let v2353 : BitVec 32 := Scalar.muli arg25 c8_i32_847
  let v2354 : BitVec 32 := v2353
  let v2355 : Index := Scalar.indexCast v2354
  let c1536 : Index := 1536#32
  ![v2355.toNat, 1536]
def k0_off38 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2357 : Index := Scalar.indexCast v1860
  let c1536_848 : Index := 1536#32
  ![v2357.toNat, 1536]
def k0_mult27 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_857 : BitVec 32 := 2#32
  let v2388 : BitVec 32 := Scalar.muli v1860 c2_i32_857
  v2388
def k0_off39 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_857 : BitVec 32 := 2#32
  let v2388 : BitVec 32 := Scalar.muli v1860 c2_i32_857
  let v2389 : BitVec 32 := v2388
  let v2390 : Index := Scalar.indexCast v2389
  let c1536_858 : Index := 1536#32
  ![v2390.toNat, 1536]
def k0_mult28 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_859 : BitVec 32 := 8#32
  let v2394 : BitVec 32 := Scalar.muli arg25 c8_i32_859
  v2394
def k0_off40 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_859 : BitVec 32 := 8#32
  let v2394 : BitVec 32 := Scalar.muli arg25 c8_i32_859
  let v2395 : BitVec 32 := v2394
  let v2396 : Index := Scalar.indexCast v2395
  let c1664 : Index := 1664#32
  ![v2396.toNat, 1664]
def k0_off41 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2398 : Index := Scalar.indexCast v1860
  let c1664_860 : Index := 1664#32
  ![v2398.toNat, 1664]
def k0_mult29 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_869 : BitVec 32 := 2#32
  let v2429 : BitVec 32 := Scalar.muli v1860 c2_i32_869
  v2429
def k0_off42 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_869 : BitVec 32 := 2#32
  let v2429 : BitVec 32 := Scalar.muli v1860 c2_i32_869
  let v2430 : BitVec 32 := v2429
  let v2431 : Index := Scalar.indexCast v2430
  let c1664_870 : Index := 1664#32
  ![v2431.toNat, 1664]
def k0_mult30 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_871 : BitVec 32 := 8#32
  let v2435 : BitVec 32 := Scalar.muli arg25 c8_i32_871
  v2435
def k0_off43 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_871 : BitVec 32 := 8#32
  let v2435 : BitVec 32 := Scalar.muli arg25 c8_i32_871
  let v2436 : BitVec 32 := v2435
  let v2437 : Index := Scalar.indexCast v2436
  let c1792 : Index := 1792#32
  ![v2437.toNat, 1792]
def k0_off44 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2439 : Index := Scalar.indexCast v1860
  let c1792_872 : Index := 1792#32
  ![v2439.toNat, 1792]
def k0_mult31 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_881 : BitVec 32 := 2#32
  let v2470 : BitVec 32 := Scalar.muli v1860 c2_i32_881
  v2470
def k0_off45 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_881 : BitVec 32 := 2#32
  let v2470 : BitVec 32 := Scalar.muli v1860 c2_i32_881
  let v2471 : BitVec 32 := v2470
  let v2472 : Index := Scalar.indexCast v2471
  let c1792_882 : Index := 1792#32
  ![v2472.toNat, 1792]
def k0_mult32 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_883 : BitVec 32 := 8#32
  let v2476 : BitVec 32 := Scalar.muli arg25 c8_i32_883
  v2476
def k0_off46 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_883 : BitVec 32 := 8#32
  let v2476 : BitVec 32 := Scalar.muli arg25 c8_i32_883
  let v2477 : BitVec 32 := v2476
  let v2478 : Index := Scalar.indexCast v2477
  let c1920 : Index := 1920#32
  ![v2478.toNat, 1920]
def k0_off47 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2480 : Index := Scalar.indexCast v1860
  let c1920_884 : Index := 1920#32
  ![v2480.toNat, 1920]
def k0_mult33 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_893 : BitVec 32 := 2#32
  let v2511 : BitVec 32 := Scalar.muli v1860 c2_i32_893
  v2511
def k0_off48 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_893 : BitVec 32 := 2#32
  let v2511 : BitVec 32 := Scalar.muli v1860 c2_i32_893
  let v2512 : BitVec 32 := v2511
  let v2513 : Index := Scalar.indexCast v2512
  let c1920_894 : Index := 1920#32
  ![v2513.toNat, 1920]
def k0_mult34 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_895 : BitVec 32 := 8#32
  let v2517 : BitVec 32 := Scalar.muli arg25 c8_i32_895
  v2517
def k0_off49 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_895 : BitVec 32 := 8#32
  let v2517 : BitVec 32 := Scalar.muli arg25 c8_i32_895
  let v2518 : BitVec 32 := v2517
  let v2519 : Index := Scalar.indexCast v2518
  let c2048 : Index := 2048#32
  ![v2519.toNat, 2048]
def k0_off50 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2521 : Index := Scalar.indexCast v1860
  let c2048_896 : Index := 2048#32
  ![v2521.toNat, 2048]
def k0_mult35 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_905 : BitVec 32 := 2#32
  let v2552 : BitVec 32 := Scalar.muli v1860 c2_i32_905
  v2552
def k0_off51 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_905 : BitVec 32 := 2#32
  let v2552 : BitVec 32 := Scalar.muli v1860 c2_i32_905
  let v2553 : BitVec 32 := v2552
  let v2554 : Index := Scalar.indexCast v2553
  let c2048_906 : Index := 2048#32
  ![v2554.toNat, 2048]
def k0_mult36 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_907 : BitVec 32 := 8#32
  let v2558 : BitVec 32 := Scalar.muli arg25 c8_i32_907
  v2558
def k0_off52 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_907 : BitVec 32 := 8#32
  let v2558 : BitVec 32 := Scalar.muli arg25 c8_i32_907
  let v2559 : BitVec 32 := v2558
  let v2560 : Index := Scalar.indexCast v2559
  let c2176 : Index := 2176#32
  ![v2560.toNat, 2176]
def k0_off53 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2562 : Index := Scalar.indexCast v1860
  let c2176_908 : Index := 2176#32
  ![v2562.toNat, 2176]
def k0_mult37 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_917 : BitVec 32 := 2#32
  let v2593 : BitVec 32 := Scalar.muli v1860 c2_i32_917
  v2593
def k0_off54 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_917 : BitVec 32 := 2#32
  let v2593 : BitVec 32 := Scalar.muli v1860 c2_i32_917
  let v2594 : BitVec 32 := v2593
  let v2595 : Index := Scalar.indexCast v2594
  let c2176_918 : Index := 2176#32
  ![v2595.toNat, 2176]
def k0_mult38 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_919 : BitVec 32 := 8#32
  let v2599 : BitVec 32 := Scalar.muli arg25 c8_i32_919
  v2599
def k0_off55 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_919 : BitVec 32 := 8#32
  let v2599 : BitVec 32 := Scalar.muli arg25 c8_i32_919
  let v2600 : BitVec 32 := v2599
  let v2601 : Index := Scalar.indexCast v2600
  let c2304 : Index := 2304#32
  ![v2601.toNat, 2304]
def k0_off56 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2603 : Index := Scalar.indexCast v1860
  let c2304_920 : Index := 2304#32
  ![v2603.toNat, 2304]
def k0_mult39 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_929 : BitVec 32 := 2#32
  let v2634 : BitVec 32 := Scalar.muli v1860 c2_i32_929
  v2634
def k0_off57 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_929 : BitVec 32 := 2#32
  let v2634 : BitVec 32 := Scalar.muli v1860 c2_i32_929
  let v2635 : BitVec 32 := v2634
  let v2636 : Index := Scalar.indexCast v2635
  let c2304_930 : Index := 2304#32
  ![v2636.toNat, 2304]
def k0_mult40 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_931 : BitVec 32 := 8#32
  let v2640 : BitVec 32 := Scalar.muli arg25 c8_i32_931
  v2640
def k0_off58 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_931 : BitVec 32 := 8#32
  let v2640 : BitVec 32 := Scalar.muli arg25 c8_i32_931
  let v2641 : BitVec 32 := v2640
  let v2642 : Index := Scalar.indexCast v2641
  let c2432 : Index := 2432#32
  ![v2642.toNat, 2432]
def k0_off59 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2644 : Index := Scalar.indexCast v1860
  let c2432_932 : Index := 2432#32
  ![v2644.toNat, 2432]
def k0_mult41 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_941 : BitVec 32 := 2#32
  let v2675 : BitVec 32 := Scalar.muli v1860 c2_i32_941
  v2675
def k0_off60 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_941 : BitVec 32 := 2#32
  let v2675 : BitVec 32 := Scalar.muli v1860 c2_i32_941
  let v2676 : BitVec 32 := v2675
  let v2677 : Index := Scalar.indexCast v2676
  let c2432_942 : Index := 2432#32
  ![v2677.toNat, 2432]
def k0_mult42 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_943 : BitVec 32 := 8#32
  let v2681 : BitVec 32 := Scalar.muli arg25 c8_i32_943
  v2681
def k0_off61 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_943 : BitVec 32 := 8#32
  let v2681 : BitVec 32 := Scalar.muli arg25 c8_i32_943
  let v2682 : BitVec 32 := v2681
  let v2683 : Index := Scalar.indexCast v2682
  let c2560 : Index := 2560#32
  ![v2683.toNat, 2560]
def k0_off62 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2685 : Index := Scalar.indexCast v1860
  let c2560_944 : Index := 2560#32
  ![v2685.toNat, 2560]
def k0_mult43 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_953 : BitVec 32 := 2#32
  let v2716 : BitVec 32 := Scalar.muli v1860 c2_i32_953
  v2716
def k0_off63 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_953 : BitVec 32 := 2#32
  let v2716 : BitVec 32 := Scalar.muli v1860 c2_i32_953
  let v2717 : BitVec 32 := v2716
  let v2718 : Index := Scalar.indexCast v2717
  let c2560_954 : Index := 2560#32
  ![v2718.toNat, 2560]
def k0_mult44 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_955 : BitVec 32 := 8#32
  let v2722 : BitVec 32 := Scalar.muli arg25 c8_i32_955
  v2722
def k0_off64 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_955 : BitVec 32 := 8#32
  let v2722 : BitVec 32 := Scalar.muli arg25 c8_i32_955
  let v2723 : BitVec 32 := v2722
  let v2724 : Index := Scalar.indexCast v2723
  let c2688 : Index := 2688#32
  ![v2724.toNat, 2688]
def k0_off65 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2726 : Index := Scalar.indexCast v1860
  let c2688_956 : Index := 2688#32
  ![v2726.toNat, 2688]
def k0_mult45 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_965 : BitVec 32 := 2#32
  let v2757 : BitVec 32 := Scalar.muli v1860 c2_i32_965
  v2757
def k0_off66 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_965 : BitVec 32 := 2#32
  let v2757 : BitVec 32 := Scalar.muli v1860 c2_i32_965
  let v2758 : BitVec 32 := v2757
  let v2759 : Index := Scalar.indexCast v2758
  let c2688_966 : Index := 2688#32
  ![v2759.toNat, 2688]
def k0_mult46 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_967 : BitVec 32 := 8#32
  let v2763 : BitVec 32 := Scalar.muli arg25 c8_i32_967
  v2763
def k0_off67 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_967 : BitVec 32 := 8#32
  let v2763 : BitVec 32 := Scalar.muli arg25 c8_i32_967
  let v2764 : BitVec 32 := v2763
  let v2765 : Index := Scalar.indexCast v2764
  let c2816 : Index := 2816#32
  ![v2765.toNat, 2816]
def k0_off68 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2767 : Index := Scalar.indexCast v1860
  let c2816_968 : Index := 2816#32
  ![v2767.toNat, 2816]
def k0_mult47 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_977 : BitVec 32 := 2#32
  let v2798 : BitVec 32 := Scalar.muli v1860 c2_i32_977
  v2798
def k0_off69 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_977 : BitVec 32 := 2#32
  let v2798 : BitVec 32 := Scalar.muli v1860 c2_i32_977
  let v2799 : BitVec 32 := v2798
  let v2800 : Index := Scalar.indexCast v2799
  let c2816_978 : Index := 2816#32
  ![v2800.toNat, 2816]
def k0_mult48 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_979 : BitVec 32 := 8#32
  let v2804 : BitVec 32 := Scalar.muli arg25 c8_i32_979
  v2804
def k0_off70 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_979 : BitVec 32 := 8#32
  let v2804 : BitVec 32 := Scalar.muli arg25 c8_i32_979
  let v2805 : BitVec 32 := v2804
  let v2806 : Index := Scalar.indexCast v2805
  let c2944 : Index := 2944#32
  ![v2806.toNat, 2944]
def k0_off71 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2808 : Index := Scalar.indexCast v1860
  let c2944_980 : Index := 2944#32
  ![v2808.toNat, 2944]
def k0_mult49 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_989 : BitVec 32 := 2#32
  let v2839 : BitVec 32 := Scalar.muli v1860 c2_i32_989
  v2839
def k0_off72 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_989 : BitVec 32 := 2#32
  let v2839 : BitVec 32 := Scalar.muli v1860 c2_i32_989
  let v2840 : BitVec 32 := v2839
  let v2841 : Index := Scalar.indexCast v2840
  let c2944_990 : Index := 2944#32
  ![v2841.toNat, 2944]
def k0_mult50 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_991 : BitVec 32 := 8#32
  let v2845 : BitVec 32 := Scalar.muli arg25 c8_i32_991
  v2845
def k0_off73 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_991 : BitVec 32 := 8#32
  let v2845 : BitVec 32 := Scalar.muli arg25 c8_i32_991
  let v2846 : BitVec 32 := v2845
  let v2847 : Index := Scalar.indexCast v2846
  let c3072 : Index := 3072#32
  ![v2847.toNat, 3072]
def k0_off74 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2849 : Index := Scalar.indexCast v1860
  let c3072_992 : Index := 3072#32
  ![v2849.toNat, 3072]
def k0_mult51 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1001 : BitVec 32 := 2#32
  let v2880 : BitVec 32 := Scalar.muli v1860 c2_i32_1001
  v2880
def k0_off75 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1001 : BitVec 32 := 2#32
  let v2880 : BitVec 32 := Scalar.muli v1860 c2_i32_1001
  let v2881 : BitVec 32 := v2880
  let v2882 : Index := Scalar.indexCast v2881
  let c3072_1002 : Index := 3072#32
  ![v2882.toNat, 3072]
def k0_mult52 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_1003 : BitVec 32 := 8#32
  let v2886 : BitVec 32 := Scalar.muli arg25 c8_i32_1003
  v2886
def k0_off76 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_1003 : BitVec 32 := 8#32
  let v2886 : BitVec 32 := Scalar.muli arg25 c8_i32_1003
  let v2887 : BitVec 32 := v2886
  let v2888 : Index := Scalar.indexCast v2887
  let c3200 : Index := 3200#32
  ![v2888.toNat, 3200]
def k0_off77 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2890 : Index := Scalar.indexCast v1860
  let c3200_1004 : Index := 3200#32
  ![v2890.toNat, 3200]
def k0_mult53 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1013 : BitVec 32 := 2#32
  let v2921 : BitVec 32 := Scalar.muli v1860 c2_i32_1013
  v2921
def k0_off78 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1013 : BitVec 32 := 2#32
  let v2921 : BitVec 32 := Scalar.muli v1860 c2_i32_1013
  let v2922 : BitVec 32 := v2921
  let v2923 : Index := Scalar.indexCast v2922
  let c3200_1014 : Index := 3200#32
  ![v2923.toNat, 3200]
def k0_mult54 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_1015 : BitVec 32 := 8#32
  let v2927 : BitVec 32 := Scalar.muli arg25 c8_i32_1015
  v2927
def k0_off79 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_1015 : BitVec 32 := 8#32
  let v2927 : BitVec 32 := Scalar.muli arg25 c8_i32_1015
  let v2928 : BitVec 32 := v2927
  let v2929 : Index := Scalar.indexCast v2928
  let c3328 : Index := 3328#32
  ![v2929.toNat, 3328]
def k0_off80 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2931 : Index := Scalar.indexCast v1860
  let c3328_1016 : Index := 3328#32
  ![v2931.toNat, 3328]
def k0_mult55 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1025 : BitVec 32 := 2#32
  let v2962 : BitVec 32 := Scalar.muli v1860 c2_i32_1025
  v2962
def k0_off81 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1025 : BitVec 32 := 2#32
  let v2962 : BitVec 32 := Scalar.muli v1860 c2_i32_1025
  let v2963 : BitVec 32 := v2962
  let v2964 : Index := Scalar.indexCast v2963
  let c3328_1026 : Index := 3328#32
  ![v2964.toNat, 3328]
def k0_mult56 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_1027 : BitVec 32 := 8#32
  let v2968 : BitVec 32 := Scalar.muli arg25 c8_i32_1027
  v2968
def k0_off82 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_1027 : BitVec 32 := 8#32
  let v2968 : BitVec 32 := Scalar.muli arg25 c8_i32_1027
  let v2969 : BitVec 32 := v2968
  let v2970 : Index := Scalar.indexCast v2969
  let c3456 : Index := 3456#32
  ![v2970.toNat, 3456]
def k0_off83 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v2972 : Index := Scalar.indexCast v1860
  let c3456_1028 : Index := 3456#32
  ![v2972.toNat, 3456]
def k0_mult57 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1037 : BitVec 32 := 2#32
  let v3003 : BitVec 32 := Scalar.muli v1860 c2_i32_1037
  v3003
def k0_off84 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1037 : BitVec 32 := 2#32
  let v3003 : BitVec 32 := Scalar.muli v1860 c2_i32_1037
  let v3004 : BitVec 32 := v3003
  let v3005 : Index := Scalar.indexCast v3004
  let c3456_1038 : Index := 3456#32
  ![v3005.toNat, 3456]
def k0_mult58 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_1039 : BitVec 32 := 8#32
  let v3009 : BitVec 32 := Scalar.muli arg25 c8_i32_1039
  v3009
def k0_off85 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_1039 : BitVec 32 := 8#32
  let v3009 : BitVec 32 := Scalar.muli arg25 c8_i32_1039
  let v3010 : BitVec 32 := v3009
  let v3011 : Index := Scalar.indexCast v3010
  let c3584 : Index := 3584#32
  ![v3011.toNat, 3584]
def k0_off86 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v3013 : Index := Scalar.indexCast v1860
  let c3584_1040 : Index := 3584#32
  ![v3013.toNat, 3584]
def k0_mult59 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1049 : BitVec 32 := 2#32
  let v3044 : BitVec 32 := Scalar.muli v1860 c2_i32_1049
  v3044
def k0_off87 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1049 : BitVec 32 := 2#32
  let v3044 : BitVec 32 := Scalar.muli v1860 c2_i32_1049
  let v3045 : BitVec 32 := v3044
  let v3046 : Index := Scalar.indexCast v3045
  let c3584_1050 : Index := 3584#32
  ![v3046.toNat, 3584]
def k0_mult60 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_1051 : BitVec 32 := 8#32
  let v3050 : BitVec 32 := Scalar.muli arg25 c8_i32_1051
  v3050
def k0_off88 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_1051 : BitVec 32 := 8#32
  let v3050 : BitVec 32 := Scalar.muli arg25 c8_i32_1051
  let v3051 : BitVec 32 := v3050
  let v3052 : Index := Scalar.indexCast v3051
  let c3712 : Index := 3712#32
  ![v3052.toNat, 3712]
def k0_off89 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v3054 : Index := Scalar.indexCast v1860
  let c3712_1052 : Index := 3712#32
  ![v3054.toNat, 3712]
def k0_mult61 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1061 : BitVec 32 := 2#32
  let v3085 : BitVec 32 := Scalar.muli v1860 c2_i32_1061
  v3085
def k0_off90 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1061 : BitVec 32 := 2#32
  let v3085 : BitVec 32 := Scalar.muli v1860 c2_i32_1061
  let v3086 : BitVec 32 := v3085
  let v3087 : Index := Scalar.indexCast v3086
  let c3712_1062 : Index := 3712#32
  ![v3087.toNat, 3712]
def k0_mult62 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_1063 : BitVec 32 := 8#32
  let v3091 : BitVec 32 := Scalar.muli arg25 c8_i32_1063
  v3091
def k0_off91 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_1063 : BitVec 32 := 8#32
  let v3091 : BitVec 32 := Scalar.muli arg25 c8_i32_1063
  let v3092 : BitVec 32 := v3091
  let v3093 : Index := Scalar.indexCast v3092
  let c3840 : Index := 3840#32
  ![v3093.toNat, 3840]
def k0_off92 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v3095 : Index := Scalar.indexCast v1860
  let c3840_1064 : Index := 3840#32
  ![v3095.toNat, 3840]
def k0_mult63 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1073 : BitVec 32 := 2#32
  let v3126 : BitVec 32 := Scalar.muli v1860 c2_i32_1073
  v3126
def k0_off93 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1073 : BitVec 32 := 2#32
  let v3126 : BitVec 32 := Scalar.muli v1860 c2_i32_1073
  let v3127 : BitVec 32 := v3126
  let v3128 : Index := Scalar.indexCast v3127
  let c3840_1074 : Index := 3840#32
  ![v3128.toNat, 3840]
def k0_mult64 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_1075 : BitVec 32 := 8#32
  let v3132 : BitVec 32 := Scalar.muli arg25 c8_i32_1075
  v3132
def k0_off94 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_1075 : BitVec 32 := 8#32
  let v3132 : BitVec 32 := Scalar.muli arg25 c8_i32_1075
  let v3133 : BitVec 32 := v3132
  let v3134 : Index := Scalar.indexCast v3133
  let c3968 : Index := 3968#32
  ![v3134.toNat, 3968]
def k0_off95 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v3136 : Index := Scalar.indexCast v1860
  let c3968_1076 : Index := 3968#32
  ![v3136.toNat, 3968]
def k0_mult65 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1085 : BitVec 32 := 2#32
  let v3167 : BitVec 32 := Scalar.muli v1860 c2_i32_1085
  v3167
def k0_off96 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1085 : BitVec 32 := 2#32
  let v3167 : BitVec 32 := Scalar.muli v1860 c2_i32_1085
  let v3168 : BitVec 32 := v3167
  let v3169 : Index := Scalar.indexCast v3168
  let c3968_1086 : Index := 3968#32
  ![v3169.toNat, 3968]
def k0_mult66 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_1087 : BitVec 32 := 8#32
  let v3173 : BitVec 32 := Scalar.muli arg25 c8_i32_1087
  v3173
def k0_off97 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_1087 : BitVec 32 := 8#32
  let v3173 : BitVec 32 := Scalar.muli arg25 c8_i32_1087
  let v3174 : BitVec 32 := v3173
  let v3175 : Index := Scalar.indexCast v3174
  let c4096 : Index := 4096#32
  ![v3175.toNat, 4096]
def k0_off98 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v3177 : Index := Scalar.indexCast v1860
  let c4096_1088 : Index := 4096#32
  ![v3177.toNat, 4096]
def k0_mult67 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1097 : BitVec 32 := 2#32
  let v3208 : BitVec 32 := Scalar.muli v1860 c2_i32_1097
  v3208
def k0_off99 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1097 : BitVec 32 := 2#32
  let v3208 : BitVec 32 := Scalar.muli v1860 c2_i32_1097
  let v3209 : BitVec 32 := v3208
  let v3210 : Index := Scalar.indexCast v3209
  let c4096_1098 : Index := 4096#32
  ![v3210.toNat, 4096]
def k0_mult68 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_1099 : BitVec 32 := 8#32
  let v3214 : BitVec 32 := Scalar.muli arg25 c8_i32_1099
  v3214
def k0_off100 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_1099 : BitVec 32 := 8#32
  let v3214 : BitVec 32 := Scalar.muli arg25 c8_i32_1099
  let v3215 : BitVec 32 := v3214
  let v3216 : Index := Scalar.indexCast v3215
  let c4224 : Index := 4224#32
  ![v3216.toNat, 4224]
def k0_off101 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v3218 : Index := Scalar.indexCast v1860
  let c4224_1100 : Index := 4224#32
  ![v3218.toNat, 4224]
def k0_mult69 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1109 : BitVec 32 := 2#32
  let v3249 : BitVec 32 := Scalar.muli v1860 c2_i32_1109
  v3249
def k0_off102 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1109 : BitVec 32 := 2#32
  let v3249 : BitVec 32 := Scalar.muli v1860 c2_i32_1109
  let v3250 : BitVec 32 := v3249
  let v3251 : Index := Scalar.indexCast v3250
  let c4224_1110 : Index := 4224#32
  ![v3251.toNat, 4224]
def k0_mult70 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_1111 : BitVec 32 := 8#32
  let v3255 : BitVec 32 := Scalar.muli arg25 c8_i32_1111
  v3255
def k0_off103 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_1111 : BitVec 32 := 8#32
  let v3255 : BitVec 32 := Scalar.muli arg25 c8_i32_1111
  let v3256 : BitVec 32 := v3255
  let v3257 : Index := Scalar.indexCast v3256
  let c4352 : Index := 4352#32
  ![v3257.toNat, 4352]
def k0_off104 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v3259 : Index := Scalar.indexCast v1860
  let c4352_1112 : Index := 4352#32
  ![v3259.toNat, 4352]
def k0_mult71 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1121 : BitVec 32 := 2#32
  let v3290 : BitVec 32 := Scalar.muli v1860 c2_i32_1121
  v3290
def k0_off105 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1121 : BitVec 32 := 2#32
  let v3290 : BitVec 32 := Scalar.muli v1860 c2_i32_1121
  let v3291 : BitVec 32 := v3290
  let v3292 : Index := Scalar.indexCast v3291
  let c4352_1122 : Index := 4352#32
  ![v3292.toNat, 4352]
def k0_mult72 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_1123 : BitVec 32 := 8#32
  let v3296 : BitVec 32 := Scalar.muli arg25 c8_i32_1123
  v3296
def k0_off106 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_1123 : BitVec 32 := 8#32
  let v3296 : BitVec 32 := Scalar.muli arg25 c8_i32_1123
  let v3297 : BitVec 32 := v3296
  let v3298 : Index := Scalar.indexCast v3297
  let c4480 : Index := 4480#32
  ![v3298.toNat, 4480]
def k0_off107 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let v3300 : Index := Scalar.indexCast v1860
  let c4480_1124 : Index := 4480#32
  ![v3300.toNat, 4480]
def k0_mult73 (k0_t1 : Fin k0_t1_loop.trips) : BitVec 32 :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1133 : BitVec 32 := 2#32
  let v3331 : BitVec 32 := Scalar.muli v1860 c2_i32_1133
  v3331
def k0_off108 (k0_t1 : Fin k0_t1_loop.trips) : Fin 2 → Nat :=
  let c0_i32_9 : BitVec 32 := 0#32
  let c1_i32 : BitVec 32 := 1#32
  let arg25 : BitVec 32 := Scf.iv c0_i32_9 c1_i32 k0_t1
  let c8_i32_697 : BitVec 32 := 8#32
  let v1858 : BitVec 32 := Scalar.muli arg25 c8_i32_697
  let c8_i32_698 : BitVec 32 := 8#32
  let v1859 : BitVec 32 := Scalar.muli v1858 c8_i32_698
  let v1860 : BitVec 32 := v1859
  let c2_i32_1133 : BitVec 32 := 2#32
  let v3331 : BitVec 32 := Scalar.muli v1860 c2_i32_1133
  let v3332 : BitVec 32 := v3331
  let v3333 : Index := Scalar.indexCast v3332
  let c4480_1134 : Index := 4480#32
  ![v3333.toNat, 4480]
@[reducible] def k0_t2_loop : Scf.Loop 32 :=
  let c0_i32_683 : BitVec 32 := 0#32
  let c9_i32 : BitVec 32 := 9#32
  let v1823 : BitVec 32 := Scalar.addi c0_i32_683 c9_i32
  let c1_i32_684 : BitVec 32 := 1#32
  ⟨c0_i32_683, v1823, c1_i32_684⟩
def k0_mult74 (k0_t2 : Fin k0_t2_loop.trips) : BitVec 32 :=
  let c0_i32_683 : BitVec 32 := 0#32
  let c1_i32_684 : BitVec 32 := 1#32
  let arg25 : BitVec 32 := Scf.iv c0_i32_683 c1_i32_684 k0_t2
  let c512_i32 : BitVec 32 := 512#32
  let v3633 : BitVec 32 := Scalar.muli arg25 c512_i32
  v3633
def k0_off109 (k0_t2 : Fin k0_t2_loop.trips) : Fin 2 → Nat :=
  let c0_1393 : Index := 0#32
  let c0_i32_683 : BitVec 32 := 0#32
  let c1_i32_684 : BitVec 32 := 1#32
  let arg25 : BitVec 32 := Scf.iv c0_i32_683 c1_i32_684 k0_t2
  let c512_i32 : BitVec 32 := 512#32
  let v3633 : BitVec 32 := Scalar.muli arg25 c512_i32
  let v3634 : BitVec 32 := v3633
  let v3636 : Index := Scalar.indexCast v3634
  ![0, v3636.toNat]
def k0_off110 (k0_t2 : Fin k0_t2_loop.trips) : Fin 2 → Nat :=
  let c0_1397 : Index := 0#32
  let c0_i32_683 : BitVec 32 := 0#32
  let c1_i32_684 : BitVec 32 := 1#32
  let arg25 : BitVec 32 := Scf.iv c0_i32_683 c1_i32_684 k0_t2
  let c512_i32 : BitVec 32 := 512#32
  let v3633 : BitVec 32 := Scalar.muli arg25 c512_i32
  let v3634 : BitVec 32 := v3633
  let v3640 : Index := Scalar.indexCast v3634
  ![0, v3640.toNat]
def k0_off111 (k0_t2 : Fin k0_t2_loop.trips) : Fin 2 → Nat :=
  let c0_1399 : Index := 0#32
  let c0_i32_683 : BitVec 32 := 0#32
  let c1_i32_684 : BitVec 32 := 1#32
  let arg25 : BitVec 32 := Scf.iv c0_i32_683 c1_i32_684 k0_t2
  let c512_i32 : BitVec 32 := 512#32
  let v3633 : BitVec 32 := Scalar.muli arg25 c512_i32
  let v3634 : BitVec 32 := v3633
  let v3646 : Index := Scalar.indexCast v3634
  ![0, v3646.toNat]
def k0_off112 (k0_t2 : Fin k0_t2_loop.trips) : Fin 2 → Nat :=
  let c0_1400 : Index := 0#32
  let c0_i32_683 : BitVec 32 := 0#32
  let c1_i32_684 : BitVec 32 := 1#32
  let arg25 : BitVec 32 := Scf.iv c0_i32_683 c1_i32_684 k0_t2
  let c512_i32 : BitVec 32 := 512#32
  let v3633 : BitVec 32 := Scalar.muli arg25 c512_i32
  let v3634 : BitVec 32 := v3633
  let v3652 : Index := Scalar.indexCast v3634
  ![0, v3652.toNat]
@[reducible] def k0_t3_loop : Scf.Loop 32 :=
  let c0_i32_1387 : BitVec 32 := 0#32
  let c9_i32_1388 : BitVec 32 := 9#32
  let v3632 : BitVec 32 := Scalar.addi c0_i32_1387 c9_i32_1388
  let c1_i32_1389 : BitVec 32 := 1#32
  ⟨c0_i32_1387, v3632, c1_i32_1389⟩
def k0_mult75 (k0_t3 : Fin k0_t3_loop.trips) : BitVec 32 :=
  let c0_i32_1387 : BitVec 32 := 0#32
  let c1_i32_1389 : BitVec 32 := 1#32
  let arg25 : BitVec 32 := Scf.iv c0_i32_1387 c1_i32_1389 k0_t3
  let c512_i32 : BitVec 32 := 512#32
  let v3633 : BitVec 32 := Scalar.muli arg25 c512_i32
  v3633
def k0_off113 (k0_t3 : Fin k0_t3_loop.trips) : Fin 2 → Nat :=
  let c0_1393 : Index := 0#32
  let c0_i32_1387 : BitVec 32 := 0#32
  let c1_i32_1389 : BitVec 32 := 1#32
  let arg25 : BitVec 32 := Scf.iv c0_i32_1387 c1_i32_1389 k0_t3
  let c512_i32 : BitVec 32 := 512#32
  let v3633 : BitVec 32 := Scalar.muli arg25 c512_i32
  let v3634 : BitVec 32 := v3633
  let v3636 : Index := Scalar.indexCast v3634
  ![0, v3636.toNat]
def k0_off114 (k0_t3 : Fin k0_t3_loop.trips) : Fin 2 → Nat :=
  let c0_1397 : Index := 0#32
  let c0_i32_1387 : BitVec 32 := 0#32
  let c1_i32_1389 : BitVec 32 := 1#32
  let arg25 : BitVec 32 := Scf.iv c0_i32_1387 c1_i32_1389 k0_t3
  let c512_i32 : BitVec 32 := 512#32
  let v3633 : BitVec 32 := Scalar.muli arg25 c512_i32
  let v3634 : BitVec 32 := v3633
  let v3640 : Index := Scalar.indexCast v3634
  ![0, v3640.toNat]
def k0_off115 (k0_t3 : Fin k0_t3_loop.trips) : Fin 2 → Nat :=
  let c0_1399 : Index := 0#32
  let c0_i32_1387 : BitVec 32 := 0#32
  let c1_i32_1389 : BitVec 32 := 1#32
  let arg25 : BitVec 32 := Scf.iv c0_i32_1387 c1_i32_1389 k0_t3
  let c512_i32 : BitVec 32 := 512#32
  let v3633 : BitVec 32 := Scalar.muli arg25 c512_i32
  let v3634 : BitVec 32 := v3633
  let v3646 : Index := Scalar.indexCast v3634
  ![0, v3646.toNat]
def k0_off116 (k0_t3 : Fin k0_t3_loop.trips) : Fin 2 → Nat :=
  let c256_1400 : Index := 256#32
  let c0_i32_1387 : BitVec 32 := 0#32
  let c1_i32_1389 : BitVec 32 := 1#32
  let arg25 : BitVec 32 := Scf.iv c0_i32_1387 c1_i32_1389 k0_t3
  let c512_i32 : BitVec 32 := 512#32
  let v3633 : BitVec 32 := Scalar.muli arg25 c512_i32
  let v3634 : BitVec 32 := v3633
  let v3652 : Index := Scalar.indexCast v3634
  ![256, v3652.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S576x4608 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S72x4608 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1152x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x4608 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4608 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x4608 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x576 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x72 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x4096x1152 : Shape := ⟨3, ![4, 4096, 1152]⟩
abbrev S1152 : Shape := ⟨1, ![1152]⟩
abbrev S_ : Shape := ⟨0, ![]⟩
abbrev S576x4608 : Shape := ⟨2, ![576, 4608]⟩
abbrev S72x4608 : Shape := ⟨2, ![72, 4608]⟩
abbrev S1152x32 : Shape := ⟨2, ![1152, 32]⟩
abbrev S32x4608 : Shape := ⟨2, ![32, 4608]⟩
abbrev S4608 : Shape := ⟨1, ![4608]⟩
abbrev S16384x1152 : Shape := ⟨2, ![16384, 1152]⟩
abbrev S1x1152 : Shape := ⟨2, ![1, 1152]⟩
abbrev S1 : Shape := ⟨1, ![1]⟩
abbrev S1x4608 : Shape := ⟨2, ![1, 4608]⟩
abbrev S16384x4608 : Shape := ⟨2, ![16384, 4608]⟩
abbrev S16384x576 : Shape := ⟨2, ![16384, 576]⟩
abbrev S16384x72 : Shape := ⟨2, ![16384, 72]⟩
abbrev S16384x72x16 : Shape := ⟨3, ![16384, 72, 16]⟩
abbrev S16384x72x1 : Shape := ⟨3, ![16384, 72, 1]⟩
abbrev S16384x576x2 : Shape := ⟨3, ![16384, 576, 2]⟩
abbrev S16384x576x1 : Shape := ⟨3, ![16384, 576, 1]⟩
abbrev S576x2x4608 : Shape := ⟨3, ![576, 2, 4608]⟩
abbrev S576x1x4608 : Shape := ⟨3, ![576, 1, 4608]⟩
abbrev S72x16x4608 : Shape := ⟨3, ![72, 16, 4608]⟩
abbrev S72x1x4608 : Shape := ⟨3, ![72, 1, 4608]⟩
abbrev S1152x4608 : Shape := ⟨2, ![1152, 4608]⟩
abbrev S16384x32 : Shape := ⟨2, ![16384, 32]⟩
abbrev S4x4096x4608 : Shape := ⟨3, ![4, 4096, 4608]⟩
abbrev S4x4096x576 : Shape := ⟨3, ![4, 4096, 576]⟩
abbrev S4x4096x72 : Shape := ⟨3, ![4, 4096, 72]⟩

abbrev nBuf : Space → Nat
  | .hbm => 20
  | .vmem => 10
  | .smem => 2
  | _ => 0

abbrev bufTy : (tb : Table) → Fin (tcTables nBuf tb) → BufTy
  | .hbm, ⟨0, _⟩ => ⟨S4x4096x1152, .bf16⟩
  | .hbm, ⟨1, _⟩ => ⟨S1152, .f32⟩
  | .hbm, ⟨2, _⟩ => ⟨S_, .f32⟩
  | .hbm, ⟨3, _⟩ => ⟨S576x4608, .i8⟩
  | .hbm, ⟨4, _⟩ => ⟨S72x4608, .fp8e4m3⟩
  | .hbm, ⟨5, _⟩ => ⟨S_, .f32⟩
  | .hbm, ⟨6, _⟩ => ⟨S1152x32, .bf16⟩
  | .hbm, ⟨7, _⟩ => ⟨S32x4608, .bf16⟩
  | .hbm, ⟨8, _⟩ => ⟨S4608, .f32⟩
  | .hbm, ⟨9, _⟩ => ⟨S16384x1152, .bf16⟩
  | .hbm, ⟨10, _⟩ => ⟨S1x1152, .f32⟩
  | .hbm, ⟨11, _⟩ => ⟨S1, .f32⟩
  | .hbm, ⟨12, _⟩ => ⟨S1, .f32⟩
  | .hbm, ⟨13, _⟩ => ⟨S1x4608, .f32⟩
  | .hbm, ⟨14, _⟩ => ⟨S16384x4608, .bf16⟩
  | .hbm, ⟨15, _⟩ => ⟨S16384x576, .i8⟩
  | .hbm, ⟨16, _⟩ => ⟨S16384x72, .fp8e4m3⟩
  | .hbm, ⟨17, _⟩ => ⟨S4x4096x4608, .bf16⟩
  | .hbm, ⟨18, _⟩ => ⟨S4x4096x576, .i8⟩
  | .hbm, ⟨19, _⟩ => ⟨S4x4096x72, .fp8e4m3⟩
  | .local _ .vmem, ⟨0, _⟩ => ⟨S16384x1152, .bf16⟩
  | .local _ .vmem, ⟨1, _⟩ => ⟨S1x1152, .f32⟩
  | .local _ .vmem, ⟨2, _⟩ => ⟨S576x4608, .i8⟩
  | .local _ .vmem, ⟨3, _⟩ => ⟨S72x4608, .fp8e4m3⟩
  | .local _ .vmem, ⟨4, _⟩ => ⟨S1152x32, .bf16⟩
  | .local _ .vmem, ⟨5, _⟩ => ⟨S32x4608, .bf16⟩
  | .local _ .vmem, ⟨6, _⟩ => ⟨S1x4608, .f32⟩
  | .local _ .vmem, ⟨7, _⟩ => ⟨S16384x4608, .bf16⟩
  | .local _ .vmem, ⟨8, _⟩ => ⟨S16384x576, .i8⟩
  | .local _ .vmem, ⟨9, _⟩ => ⟨S16384x72, .fp8e4m3⟩
  | .local _ .smem, ⟨0, _⟩ => ⟨S1, .f32⟩
  | .local _ .smem, ⟨1, _⟩ => ⟨S1, .f32⟩
  | _, _ => ⟨S4x4096x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg2_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16384x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S576x4608 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x4608 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4608 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x4608 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x576 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16384x72 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Frames.KernelCuts.lean ====
/-
  The kernel's body in four stretches: the two words it reads first, the preparation of the first grid point, the step of
  a representable scale, the step of any other scale. Also `Held`, what every stretch owns: the inputs at their contents and
  every other buffer at some contents.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

cut_chain top := cc0_svdquant_linear_skel at 3, 4, 5

/-- What the body owns when nothing is said about its outputs and its scratch: the eleven inputs at their contents, the three
    output buffers and the ten scratch buffers at some contents. -/
def Held (c : Dev nD)
  (arg1 : Memref sig .tc .smem S1 .f32)
  (arg2 : Memref sig .tc .smem S1 .f32)
  (arg3 : Memref sig .tc .vmem S256x1152 .bf16)
  (arg4 : Memref sig .tc .vmem S256x1152 .bf16)
  (arg5 : Memref sig .tc .vmem S256x1152 .bf16)
  (arg6 : Memref sig .tc .vmem S1x1152 .f32)
  (arg7 : Memref sig .tc .vmem S576x4608 .i8)
  (arg8 : Memref sig .tc .vmem S72x4608 .fp8e4m3)
  (arg9 : Memref sig .tc .vmem S1152x32 .bf16)
  (arg10 : Memref sig .tc .vmem S32x4608 .bf16)
  (arg11 : Memref sig .tc .vmem S1x4608 .f32)
  (arg12 : Memref sig .tc .vmem S512x4608 .bf16)
  (arg13 : Memref sig .tc .vmem S512x576 .i8)
  (arg14 : Memref sig .tc .vmem S512x72 .fp8e4m3)
  (arg15 : Memref sig .tc .vmem S1280x4608 .bf16)
  (arg16 : Memref sig .tc .vmem S1152x128 .bf16)
  (arg17 : Memref sig .tc .vmem S256x1152 .bf16)
  (arg18 : Memref sig .tc .vmem S256x1280 .bf16)
  (arg19 : Memref sig .tc .vmem S256x1280 .bf16)
  (arg20 : Memref sig .tc .vmem S256x576 .i8)
  (arg21 : Memref sig .tc .vmem S256x576 .i8)
  (arg22 : Memref sig .tc .vmem S256x72 .fp8e4m3)
  (arg23 : Memref sig .tc .vmem S256x72 .fp8e4m3)
  (arg24 : Memref sig .tc .vmem S72x4608 .f32)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d))

end Cert.Kernel.Hand

end
-- ==== Proof.Frames.KernelPrep.lean ====
/-
  The preparation of the first grid point keeps what the body owns.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import proofs.«01_k».proof.Proof.Frames.KernelCuts
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

-- the run visits every memory operation of the stretch
set_option maxHeartbeats 4000000 in
/-- The preparation of the first grid point keeps what the body owns. -/
theorem prep_run (v0 v1 : Elt F .f32) {R : Type} (κ : Prog (TpuEff nD τ sig (Elt F) Λ₀ .tc) R) (Q : R → sProp 𝕄) :
    Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10
      ⊢ iprop((Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 -∗ wp frame (wpE (defs₀ (F := F)) Variants.none c none) Set.univ κ Q)
          -∗ wp frame (wpE (defs₀ (F := F)) Variants.none c none) Set.univ (top2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q) := by
  unfold top2 Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩⟩ Hk
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  dsimp only
  split
  · simp only [
      k0_part34_eq_skeleton, k0_part35_eq_skeleton, k0_part36_eq_skeleton, k0_part37_eq_skeleton,
      k0_part38_eq_skeleton, k0_part39_eq_skeleton, k0_part40_eq_skeleton, k0_part41_eq_skeleton,
      k0_part42_eq_skeleton, k0_part43_eq_skeleton, k0_part44_eq_skeleton, k0_part45_eq_skeleton,
      k0_part46_eq_skeleton, k0_part47_eq_skeleton, k0_part48_eq_skeleton, k0_part49_eq_skeleton,
      k0_part50_eq_skeleton, k0_part51_eq_skeleton, k0_part52_eq_skeleton, k0_part53_eq_skeleton,
      k0_part54_eq_skeleton, k0_part55_eq_skeleton, k0_part56_eq_skeleton, k0_part57_eq_skeleton,
      k0_part58_eq_skeleton, k0_part59_eq_skeleton, k0_part60_eq_skeleton, k0_part61_eq_skeleton,
      k0_part62_eq_skeleton, k0_part63_eq_skeleton, k0_part64_eq_skeleton, k0_part65_eq_skeleton,
      k0_part66_eq_skeleton, k0_part67_eq_skeleton, k0_part68_eq_skeleton, k0_part69_eq_skeleton,
      k0_part70_eq_skeleton, k0_part71_eq_skeleton, k0_part72_eq_skeleton, k0_part73_eq_skeleton,
      k0_part74_eq_skeleton, k0_part75_eq_skeleton, k0_part76_eq_skeleton]
    sl_exec
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl
  · iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl

end Cert.Kernel.Hand

end
-- ==== Proof.Frames.KernelSafe.lean ====
/-
  The step taken when the scale lies in the safe range keeps what the body owns.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import proofs.«01_k».proof.Proof.Frames.KernelCuts
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

-- the run visits every memory operation of the stretch
set_option maxHeartbeats 4000000 in
/-- The step taken when the scale lies in the safe range keeps what the body owns. -/
theorem safe_run (v0 v1 : Elt F .f32) {R : Type} (κ : Prog (TpuEff nD τ sig (Elt F) Λ₀ .tc) R) (Q : R → sProp 𝕄) :
    Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10
      ⊢ iprop((Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 -∗ wp frame (wpE (defs₀ (F := F)) Variants.none c none) Set.univ κ Q)
          -∗ wp frame (wpE (defs₀ (F := F)) Variants.none c none) Set.univ (top3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q) := by
  unfold top3 Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩⟩ Hk
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  dsimp only
  split
  · simp only [
      k0_part167_eq_skeleton, k0_part168_eq_skeleton, k0_part77_eq_skeleton, k0_part78_eq_skeleton,
      k0_part79_eq_skeleton, k0_part80_eq_skeleton, k0_part81_eq_skeleton, k0_part82_eq_skeleton,
      k0_part83_eq_skeleton, k0_part84_eq_skeleton, k0_part85_eq_skeleton, k0_part86_eq_skeleton,
      k0_part87_eq_skeleton, k0_part88_eq_skeleton, k0_part89_eq_skeleton, k0_part90_eq_skeleton,
      k0_part91_eq_skeleton, k0_part92_eq_skeleton, k0_part93_eq_skeleton, k0_part94_eq_skeleton,
      k0_part95_eq_skeleton, k0_part96_eq_skeleton, k0_part97_eq_skeleton, k0_part98_eq_skeleton,
      k0_part99_eq_skeleton, k0_part100_eq_skeleton, k0_part101_eq_skeleton, k0_part102_eq_skeleton,
      k0_part103_eq_skeleton, k0_part104_eq_skeleton, k0_part105_eq_skeleton, k0_part106_eq_skeleton,
      k0_part107_eq_skeleton, k0_part108_eq_skeleton, k0_part109_eq_skeleton, k0_part110_eq_skeleton,
      k0_part111_eq_skeleton, k0_part112_eq_skeleton, k0_part113_eq_skeleton, k0_part114_eq_skeleton,
      k0_part115_eq_skeleton, k0_part116_eq_skeleton, k0_part117_eq_skeleton, k0_part118_eq_skeleton,
      k0_part119_eq_skeleton, k0_part120_eq_skeleton, k0_part121_eq_skeleton, k0_part122_eq_skeleton,
      k0_part123_eq_skeleton, k0_part124_eq_skeleton, k0_part125_eq_skeleton, k0_part126_eq_skeleton,
      k0_part127_eq_skeleton, k0_part128_eq_skeleton, k0_part129_eq_skeleton, k0_part130_eq_skeleton,
      k0_part131_eq_skeleton, k0_part132_eq_skeleton, k0_part133_eq_skeleton, k0_part134_eq_skeleton,
      k0_part135_eq_skeleton, k0_part136_eq_skeleton, k0_part137_eq_skeleton, k0_part138_eq_skeleton,
      k0_part139_eq_skeleton, k0_part140_eq_skeleton, k0_part141_eq_skeleton, k0_part142_eq_skeleton,
      k0_part143_eq_skeleton, k0_part144_eq_skeleton, k0_part145_eq_skeleton, k0_part146_eq_skeleton,
      k0_part147_eq_skeleton, k0_part148_eq_skeleton, k0_part149_eq_skeleton, k0_part150_eq_skeleton,
      k0_part151_eq_skeleton, k0_part152_eq_skeleton, k0_part153_eq_skeleton, k0_part154_eq_skeleton,
      k0_part155_eq_skeleton, k0_part156_eq_skeleton, k0_part157_eq_skeleton, k0_part158_eq_skeleton,
      k0_part159_eq_skeleton, k0_part160_eq_skeleton, k0_part161_eq_skeleton, k0_part162_eq_skeleton,
      k0_part163_eq_skeleton, k0_part164_eq_skeleton, k0_part165_eq_skeleton, k0_part166_eq_skeleton]
    sl_exec
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl
  · iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl

end Cert.Kernel.Hand

end
-- ==== Proof.Frames.KernelUnsafe.lean ====
/-
  The step taken when the scale lies outside the safe range keeps what the body owns.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import proofs.«01_k».proof.Proof.Frames.KernelCuts
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

-- the run visits every memory operation of the stretch
set_option maxHeartbeats 4000000 in
/-- The step taken when the scale lies outside the safe range keeps what the body owns. -/
theorem unsafe_run (v0 v1 : Elt F .f32) {R : Type} (κ : Prog (TpuEff nD τ sig (Elt F) Λ₀ .tc) R) (Q : R → sProp 𝕄) :
    Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10
      ⊢ iprop((Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 -∗ wp frame (wpE (defs₀ (F := F)) Variants.none c none) Set.univ κ Q)
          -∗ wp frame (wpE (defs₀ (F := F)) Variants.none c none) Set.univ (top4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q) := by
  unfold top4 Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩⟩ Hk
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  dsimp only
  split
  · simp only [
      k0_part253_eq_skeleton, k0_part254_eq_skeleton, k0_part169_eq_skeleton, k0_part170_eq_skeleton,
      k0_part171_eq_skeleton, k0_part172_eq_skeleton, k0_part173_eq_skeleton, k0_part174_eq_skeleton,
      k0_part175_eq_skeleton, k0_part176_eq_skeleton, k0_part177_eq_skeleton, k0_part178_eq_skeleton,
      k0_part179_eq_skeleton, k0_part180_eq_skeleton, k0_part181_eq_skeleton, k0_part182_eq_skeleton,
      k0_part183_eq_skeleton, k0_part184_eq_skeleton, k0_part185_eq_skeleton, k0_part186_eq_skeleton,
      k0_part187_eq_skeleton, k0_part188_eq_skeleton, k0_part189_eq_skeleton, k0_part190_eq_skeleton,
      k0_part191_eq_skeleton, k0_part192_eq_skeleton, k0_part193_eq_skeleton, k0_part194_eq_skeleton,
      k0_part195_eq_skeleton, k0_part196_eq_skeleton, k0_part197_eq_skeleton, k0_part198_eq_skeleton,
      k0_part199_eq_skeleton, k0_part200_eq_skeleton, k0_part201_eq_skeleton, k0_part202_eq_skeleton,
      k0_part203_eq_skeleton, k0_part204_eq_skeleton, k0_part205_eq_skeleton, k0_part206_eq_skeleton,
      k0_part207_eq_skeleton, k0_part208_eq_skeleton, k0_part209_eq_skeleton, k0_part210_eq_skeleton,
      k0_part211_eq_skeleton, k0_part212_eq_skeleton, k0_part213_eq_skeleton, k0_part214_eq_skeleton,
      k0_part215_eq_skeleton, k0_part216_eq_skeleton, k0_part217_eq_skeleton, k0_part218_eq_skeleton,
      k0_part219_eq_skeleton, k0_part220_eq_skeleton, k0_part221_eq_skeleton, k0_part222_eq_skeleton,
      k0_part223_eq_skeleton, k0_part224_eq_skeleton, k0_part225_eq_skeleton, k0_part226_eq_skeleton,
      k0_part227_eq_skeleton, k0_part228_eq_skeleton, k0_part229_eq_skeleton, k0_part230_eq_skeleton,
      k0_part231_eq_skeleton, k0_part232_eq_skeleton, k0_part233_eq_skeleton, k0_part234_eq_skeleton,
      k0_part235_eq_skeleton, k0_part236_eq_skeleton, k0_part237_eq_skeleton, k0_part238_eq_skeleton,
      k0_part239_eq_skeleton, k0_part240_eq_skeleton, k0_part241_eq_skeleton, k0_part242_eq_skeleton,
      k0_part243_eq_skeleton, k0_part244_eq_skeleton, k0_part245_eq_skeleton, k0_part246_eq_skeleton,
      k0_part247_eq_skeleton, k0_part248_eq_skeleton, k0_part249_eq_skeleton, k0_part250_eq_skeleton,
      k0_part251_eq_skeleton, k0_part252_eq_skeleton]
    sl_exec
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl
  · iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl

end Cert.Kernel.Hand

end
-- ==== Proof.Frames.KernelFrame.lean ====
/-
  The frame of the program: the body's stretches in order, the pipeline's proof data with nothing said of the outputs, and
  the run of the whole program.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import proofs.«01_k».proof.Proof.Frames.KernelCuts
public import proofs.«01_k».proof.Proof.Frames.KernelPrep
public import proofs.«01_k».proof.Proof.Frames.KernelSafe
public import proofs.«01_k».proof.Proof.Frames.KernelUnsafe
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

/-- The two words the body reads first; what follows is run at whatever they are. -/
theorem words_run {R : Type} (κ : top1.K (F := F) arg1 arg2 (R := R)) (Q : R → sProp 𝕄) :
    iprop(owns (c : Thread nD τ) arg1 fullShare x0 ∗ owns (c : Thread nD τ) arg2 fullShare x1)
      ⊢ iprop((∀ v0 v1, (owns (c : Thread nD τ) arg1 fullShare x0 ∗ owns (c : Thread nD τ) arg2 fullShare x1) -∗ wp frame (wpE (defs₀ (F := F)) Variants.none c none) Set.univ (κ v0 v1) Q)
          -∗ wp frame (wpE (defs₀ (F := F)) Variants.none c none) Set.univ (top1 arg1 arg2 κ) Q) := by
  unfold top1 owns
  iintro ⟨⟨%f0, %hf0, H0⟩, ⟨%f1, %hf1, H1⟩⟩ Hk
  sl_exec
  iapply Hk
  isplitl [H0]; · iexists _; isplitr; swap; · iexact H0
                  ipureintro; exact hf0
  iexists _; isplitr; swap; · iexact H1
  ipureintro; exact hf1

/-- The body keeps what it owns. -/
theorem body_run (Q : PUnit → sProp 𝕄) :
    iprop(Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 ∗ (Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 -∗ Q ⟨⟩))
      ⊢ wp frame (wpE (defs₀ (F := F)) Variants.none c none) Set.univ (cc0_svdquant_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) Q := by
  iintro ⟨HH, Hk⟩
  rw [cc0_svdquant_linear_eq_skeleton, top1.eq]
  unfold Held
  icases HH with ⟨H0, H1, Hr⟩
  iapply (words_run c arg1 arg2 x0 x1) $$ [H0 H1]
  · isplitl [H0]; · iexact H0
    iexact H1
  iintro %v0 %v1 ⟨H0, H1⟩
  rw [top2.eq]
  iapply (prep_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10) $$ [H0 H1 Hr]
  · unfold Held
    isplitl [H0]; · iexact H0
    isplitl [H1]; · iexact H1
    iexact Hr
  iintro HH
  rw [top3.eq]
  iapply (safe_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10) $$ HH
  iintro HH
  rw [top4.eq]
  iapply (unsafe_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10) $$ HH
  iintro HH
  unfold top4.tail
  sl_step
  iapply Hk
  unfold Held
  iexact HH

end Body

variable (m : (ℓ : Loc nD τ sig) → Buf (Elt F) ℓ) (ρ : Dev nD → PrngReg)

/-! ## The memrefs the pipeline passes -/

abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1152 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1152 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1152 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1152 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S576x4608 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S72x4608 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1152x32 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x4608 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4608 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x4608 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x576 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x72 .fp8e4m3 := win0_13.stage (cfg0.slots t 13)
abbrev hs0_13 (t : Fin cfg0.N) : (ms0_13 t).IsWhole := hstage0_13 ((cfg0.slots t 13).cast nbuf0_13)
abbrev scM0_0 : Memref sig .tc .vmem S1280x4608 .bf16 := Memref.whole cc0_scratch0
abbrev scM0_1 : Memref sig .tc .vmem S1152x128 .bf16 := Memref.whole cc0_scratch1
abbrev scM0_2 : Memref sig .tc .vmem S256x1152 .bf16 := Memref.whole cc0_scratch2
abbrev scM0_3 : Memref sig .tc .vmem S256x1280 .bf16 := Memref.whole cc0_scratch3
abbrev scM0_4 : Memref sig .tc .vmem S256x1280 .bf16 := Memref.whole cc0_scratch4
abbrev scM0_5 : Memref sig .tc .vmem S256x576 .i8 := Memref.whole cc0_scratch5
abbrev scM0_6 : Memref sig .tc .vmem S256x576 .i8 := Memref.whole cc0_scratch6
abbrev scM0_7 : Memref sig .tc .vmem S256x72 .fp8e4m3 := Memref.whole cc0_scratch7
abbrev scM0_8 : Memref sig .tc .vmem S256x72 .fp8e4m3 := Memref.whole cc0_scratch8
abbrev scM0_9 : Memref sig .tc .vmem S72x4608 .f32 := Memref.whole cc0_scratch9

/-- The scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

/-! ## The proof data -/

/-- The output windows of which nothing is stated. -/
def forgets0 : Fin 14 → Bool := fun w => w.val == 11 || w.val == 12 || w.val == 13

/-- The proof data of the one pipeline on core `c`: the arrays as the region finds them (`V`); after the body at
    point `t` each input's buffer at its block and the outputs, FORGOTTEN, at `Dat.unnamed`; the invariant owns the scratch at
    some contents (`ΦA`);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = Pipeline.ΦA spec0 c from rfl, show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13⟩
  iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t))
  isplitr [Hg Ho]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HS
  · unfold Held
    iintro ⟨H0, H1, H2, H3, H4, H5, H6, H7, H8, H9, H10, H11, H12, H13, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant. -/
theorem hin (c : Dev nD) : Pipeline.ΦA spec0 c ⊢ (dats m 0 c).Φ 0 := Idealize.SL.BI.Entails.refl _

/-- The invariant gives it back after the last point. -/
theorem hout (c : Dev nD) : (dats m 0 c).Φ (Fin.last cfg0.N) ⊢ Pipeline.ΦA spec0 c := Idealize.SL.BI.Entails.refl _

/-- The buffers the lines after the region WRITE, as references: results computed from contents the run does not name
    (the pipeline's outputs), so nothing is stated of them either. -/
def T0 : Finset (Ref sig .tc) := {main_v10, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame's post from a run that states nothing of the outputs. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 6 rfl).trans ((hA c 6).trans (V_main_arg3 m c)),
      (Pipeline.RDat.FramePostR.arr_in h c 7 rfl).trans ((hA c 7).trans (V_main_arg4 m c)),
      ((h c).2 main_arg5 (Finset.mem_sdiff.mpr ⟨Pipeline.mem_restRefs_of main_arg5 (by decide) (by decide), by decide⟩)).trans (V_main_arg5 m c),
      (Pipeline.RDat.FramePostR.arr_in h c 8 rfl).trans ((hA c 8).trans (V_main_arg6 m c)),
      (Pipeline.RDat.FramePostR.arr_in h c 9 rfl).trans ((hA c 9).trans (V_main_arg7 m c)),
      ((h c).2 main_arg8 (Finset.mem_sdiff.mpr ⟨Pipeline.mem_restRefs_of main_arg8 (by decide) (by decide), by decide⟩)).trans (V_main_arg8 m c)⟩) h

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- The run, without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_forget m ρ (fun c => (dats m 0 c).toRForget forgets0) (A_eq m) (run_main m ρ)

/-- The frame: every weakly fair execution of the program ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Hand

end
-- ==== Proof.Frames.KernelIdealCuts.lean ====
/-
  The kernel's body in four stretches: the two words it reads first, the preparation of the first grid point, the step of
  a representable scale, the step of any other scale. Also `Held`, what every stretch owns: the inputs at their contents and
  every other buffer at some contents.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

cut_chain top := cc0_svdquant_linear_skel at 3, 4, 5

/-- What the body owns when nothing is said about its outputs and its scratch: the eleven inputs at their contents, the three
    output buffers and the ten scratch buffers at some contents. -/
def Held (c : Dev nD)
  (arg1 : Memref sig .tc .smem S1 .f32)
  (arg2 : Memref sig .tc .smem S1 .f32)
  (arg3 : Memref sig .tc .vmem S256x1152 .bf16)
  (arg4 : Memref sig .tc .vmem S256x1152 .bf16)
  (arg5 : Memref sig .tc .vmem S256x1152 .bf16)
  (arg6 : Memref sig .tc .vmem S1x1152 .f32)
  (arg7 : Memref sig .tc .vmem S576x4608 .i8)
  (arg8 : Memref sig .tc .vmem S72x4608 .fp8e4m3)
  (arg9 : Memref sig .tc .vmem S1152x32 .bf16)
  (arg10 : Memref sig .tc .vmem S32x4608 .bf16)
  (arg11 : Memref sig .tc .vmem S1x4608 .f32)
  (arg12 : Memref sig .tc .vmem S512x4608 .bf16)
  (arg13 : Memref sig .tc .vmem S512x576 .i8)
  (arg14 : Memref sig .tc .vmem S512x72 .fp8e4m3)
  (arg15 : Memref sig .tc .vmem S1280x4608 .bf16)
  (arg16 : Memref sig .tc .vmem S1152x128 .bf16)
  (arg17 : Memref sig .tc .vmem S256x1152 .bf16)
  (arg18 : Memref sig .tc .vmem S256x1280 .bf16)
  (arg19 : Memref sig .tc .vmem S256x1280 .bf16)
  (arg20 : Memref sig .tc .vmem S256x576 .i8)
  (arg21 : Memref sig .tc .vmem S256x576 .i8)
  (arg22 : Memref sig .tc .vmem S256x72 .fp8e4m3)
  (arg23 : Memref sig .tc .vmem S256x72 .fp8e4m3)
  (arg24 : Memref sig .tc .vmem S72x4608 .f32)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d))

end Cert.KernelIdeal.Hand

end
-- ==== Proof.Frames.KernelIdealPrep.lean ====
/-
  The preparation of the first grid point keeps what the body owns.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Frames.KernelIdealCuts
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

-- the run visits every memory operation of the stretch
set_option maxHeartbeats 4000000 in
/-- The preparation of the first grid point keeps what the body owns. -/
theorem prep_run (v0 v1 : Elt F .f32) {R : Type} (κ : Prog (TpuEff nD τ sig (Elt F) Λ₀ .tc) R) (Q : R → sProp 𝕄) :
    Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10
      ⊢ iprop((Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 -∗ wp frame (wpE (defs₀ (F := F)) Variants.none c none) Set.univ κ Q)
          -∗ wp frame (wpE (defs₀ (F := F)) Variants.none c none) Set.univ (top2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q) := by
  unfold top2 Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩⟩ Hk
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  dsimp only
  split
  · simp only [
      k0_part34_eq_skeleton, k0_part35_eq_skeleton, k0_part36_eq_skeleton, k0_part37_eq_skeleton,
      k0_part38_eq_skeleton, k0_part39_eq_skeleton, k0_part40_eq_skeleton, k0_part41_eq_skeleton,
      k0_part42_eq_skeleton, k0_part43_eq_skeleton, k0_part44_eq_skeleton, k0_part45_eq_skeleton,
      k0_part46_eq_skeleton, k0_part47_eq_skeleton, k0_part48_eq_skeleton, k0_part49_eq_skeleton,
      k0_part50_eq_skeleton, k0_part51_eq_skeleton, k0_part52_eq_skeleton, k0_part53_eq_skeleton,
      k0_part54_eq_skeleton, k0_part55_eq_skeleton, k0_part56_eq_skeleton, k0_part57_eq_skeleton,
      k0_part58_eq_skeleton, k0_part59_eq_skeleton, k0_part60_eq_skeleton, k0_part61_eq_skeleton,
      k0_part62_eq_skeleton, k0_part63_eq_skeleton, k0_part64_eq_skeleton, k0_part65_eq_skeleton,
      k0_part66_eq_skeleton, k0_part67_eq_skeleton, k0_part68_eq_skeleton, k0_part69_eq_skeleton,
      k0_part70_eq_skeleton, k0_part71_eq_skeleton, k0_part72_eq_skeleton, k0_part73_eq_skeleton,
      k0_part74_eq_skeleton, k0_part75_eq_skeleton, k0_part76_eq_skeleton]
    sl_exec
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl
  · iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl

end Cert.KernelIdeal.Hand

end
-- ==== Proof.Frames.KernelIdealSafe.lean ====
/-
  The step taken when the scale lies in the safe range keeps what the body owns.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Frames.KernelIdealCuts
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

-- the run visits every memory operation of the stretch
set_option maxHeartbeats 4000000 in
/-- The step taken when the scale lies in the safe range keeps what the body owns. -/
theorem safe_run (v0 v1 : Elt F .f32) {R : Type} (κ : Prog (TpuEff nD τ sig (Elt F) Λ₀ .tc) R) (Q : R → sProp 𝕄) :
    Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10
      ⊢ iprop((Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 -∗ wp frame (wpE (defs₀ (F := F)) Variants.none c none) Set.univ κ Q)
          -∗ wp frame (wpE (defs₀ (F := F)) Variants.none c none) Set.univ (top3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q) := by
  unfold top3 Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩⟩ Hk
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  dsimp only
  split
  · simp only [
      k0_part167_eq_skeleton, k0_part168_eq_skeleton, k0_part77_eq_skeleton, k0_part78_eq_skeleton,
      k0_part79_eq_skeleton, k0_part80_eq_skeleton, k0_part81_eq_skeleton, k0_part82_eq_skeleton,
      k0_part83_eq_skeleton, k0_part84_eq_skeleton, k0_part85_eq_skeleton, k0_part86_eq_skeleton,
      k0_part87_eq_skeleton, k0_part88_eq_skeleton, k0_part89_eq_skeleton, k0_part90_eq_skeleton,
      k0_part91_eq_skeleton, k0_part92_eq_skeleton, k0_part93_eq_skeleton, k0_part94_eq_skeleton,
      k0_part95_eq_skeleton, k0_part96_eq_skeleton, k0_part97_eq_skeleton, k0_part98_eq_skeleton,
      k0_part99_eq_skeleton, k0_part100_eq_skeleton, k0_part101_eq_skeleton, k0_part102_eq_skeleton,
      k0_part103_eq_skeleton, k0_part104_eq_skeleton, k0_part105_eq_skeleton, k0_part106_eq_skeleton,
      k0_part107_eq_skeleton, k0_part108_eq_skeleton, k0_part109_eq_skeleton, k0_part110_eq_skeleton,
      k0_part111_eq_skeleton, k0_part112_eq_skeleton, k0_part113_eq_skeleton, k0_part114_eq_skeleton,
      k0_part115_eq_skeleton, k0_part116_eq_skeleton, k0_part117_eq_skeleton, k0_part118_eq_skeleton,
      k0_part119_eq_skeleton, k0_part120_eq_skeleton, k0_part121_eq_skeleton, k0_part122_eq_skeleton,
      k0_part123_eq_skeleton, k0_part124_eq_skeleton, k0_part125_eq_skeleton, k0_part126_eq_skeleton,
      k0_part127_eq_skeleton, k0_part128_eq_skeleton, k0_part129_eq_skeleton, k0_part130_eq_skeleton,
      k0_part131_eq_skeleton, k0_part132_eq_skeleton, k0_part133_eq_skeleton, k0_part134_eq_skeleton,
      k0_part135_eq_skeleton, k0_part136_eq_skeleton, k0_part137_eq_skeleton, k0_part138_eq_skeleton,
      k0_part139_eq_skeleton, k0_part140_eq_skeleton, k0_part141_eq_skeleton, k0_part142_eq_skeleton,
      k0_part143_eq_skeleton, k0_part144_eq_skeleton, k0_part145_eq_skeleton, k0_part146_eq_skeleton,
      k0_part147_eq_skeleton, k0_part148_eq_skeleton, k0_part149_eq_skeleton, k0_part150_eq_skeleton,
      k0_part151_eq_skeleton, k0_part152_eq_skeleton, k0_part153_eq_skeleton, k0_part154_eq_skeleton,
      k0_part155_eq_skeleton, k0_part156_eq_skeleton, k0_part157_eq_skeleton, k0_part158_eq_skeleton,
      k0_part159_eq_skeleton, k0_part160_eq_skeleton, k0_part161_eq_skeleton, k0_part162_eq_skeleton,
      k0_part163_eq_skeleton, k0_part164_eq_skeleton, k0_part165_eq_skeleton, k0_part166_eq_skeleton]
    sl_exec
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl
  · iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl

end Cert.KernelIdeal.Hand

end
-- ==== Proof.Frames.KernelIdealUnsafe.lean ====
/-
  The step taken when the scale lies outside the safe range keeps what the body owns.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Frames.KernelIdealCuts
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

-- the run visits every memory operation of the stretch
set_option maxHeartbeats 4000000 in
/-- The step taken when the scale lies outside the safe range keeps what the body owns. -/
theorem unsafe_run (v0 v1 : Elt F .f32) {R : Type} (κ : Prog (TpuEff nD τ sig (Elt F) Λ₀ .tc) R) (Q : R → sProp 𝕄) :
    Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10
      ⊢ iprop((Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 -∗ wp frame (wpE (defs₀ (F := F)) Variants.none c none) Set.univ κ Q)
          -∗ wp frame (wpE (defs₀ (F := F)) Variants.none c none) Set.univ (top4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q) := by
  unfold top4 Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩⟩ Hk
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  dsimp only
  split
  · simp only [
      k0_part253_eq_skeleton, k0_part254_eq_skeleton, k0_part169_eq_skeleton, k0_part170_eq_skeleton,
      k0_part171_eq_skeleton, k0_part172_eq_skeleton, k0_part173_eq_skeleton, k0_part174_eq_skeleton,
      k0_part175_eq_skeleton, k0_part176_eq_skeleton, k0_part177_eq_skeleton, k0_part178_eq_skeleton,
      k0_part179_eq_skeleton, k0_part180_eq_skeleton, k0_part181_eq_skeleton, k0_part182_eq_skeleton,
      k0_part183_eq_skeleton, k0_part184_eq_skeleton, k0_part185_eq_skeleton, k0_part186_eq_skeleton,
      k0_part187_eq_skeleton, k0_part188_eq_skeleton, k0_part189_eq_skeleton, k0_part190_eq_skeleton,
      k0_part191_eq_skeleton, k0_part192_eq_skeleton, k0_part193_eq_skeleton, k0_part194_eq_skeleton,
      k0_part195_eq_skeleton, k0_part196_eq_skeleton, k0_part197_eq_skeleton, k0_part198_eq_skeleton,
      k0_part199_eq_skeleton, k0_part200_eq_skeleton, k0_part201_eq_skeleton, k0_part202_eq_skeleton,
      k0_part203_eq_skeleton, k0_part204_eq_skeleton, k0_part205_eq_skeleton, k0_part206_eq_skeleton,
      k0_part207_eq_skeleton, k0_part208_eq_skeleton, k0_part209_eq_skeleton, k0_part210_eq_skeleton,
      k0_part211_eq_skeleton, k0_part212_eq_skeleton, k0_part213_eq_skeleton, k0_part214_eq_skeleton,
      k0_part215_eq_skeleton, k0_part216_eq_skeleton, k0_part217_eq_skeleton, k0_part218_eq_skeleton,
      k0_part219_eq_skeleton, k0_part220_eq_skeleton, k0_part221_eq_skeleton, k0_part222_eq_skeleton,
      k0_part223_eq_skeleton, k0_part224_eq_skeleton, k0_part225_eq_skeleton, k0_part226_eq_skeleton,
      k0_part227_eq_skeleton, k0_part228_eq_skeleton, k0_part229_eq_skeleton, k0_part230_eq_skeleton,
      k0_part231_eq_skeleton, k0_part232_eq_skeleton, k0_part233_eq_skeleton, k0_part234_eq_skeleton,
      k0_part235_eq_skeleton, k0_part236_eq_skeleton, k0_part237_eq_skeleton, k0_part238_eq_skeleton,
      k0_part239_eq_skeleton, k0_part240_eq_skeleton, k0_part241_eq_skeleton, k0_part242_eq_skeleton,
      k0_part243_eq_skeleton, k0_part244_eq_skeleton, k0_part245_eq_skeleton, k0_part246_eq_skeleton,
      k0_part247_eq_skeleton, k0_part248_eq_skeleton, k0_part249_eq_skeleton, k0_part250_eq_skeleton,
      k0_part251_eq_skeleton, k0_part252_eq_skeleton]
    sl_exec
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl
  · iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl

end Cert.KernelIdeal.Hand

end
-- ==== Proof.Frames.KernelIdealFrame.lean ====
/-
  The frame of the program: the body's stretches in order, the pipeline's proof data with nothing said of the outputs, and
  the run of the whole program.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Frames.KernelIdealCuts
public import proofs.«01_k».proof.Proof.Frames.KernelIdealPrep
public import proofs.«01_k».proof.Proof.Frames.KernelIdealSafe
public import proofs.«01_k».proof.Proof.Frames.KernelIdealUnsafe
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

/-- The two words the body reads first; what follows is run at whatever they are. -/
theorem words_run {R : Type} (κ : top1.K (F := F) arg1 arg2 (R := R)) (Q : R → sProp 𝕄) :
    iprop(owns (c : Thread nD τ) arg1 fullShare x0 ∗ owns (c : Thread nD τ) arg2 fullShare x1)
      ⊢ iprop((∀ v0 v1, (owns (c : Thread nD τ) arg1 fullShare x0 ∗ owns (c : Thread nD τ) arg2 fullShare x1) -∗ wp frame (wpE (defs₀ (F := F)) Variants.none c none) Set.univ (κ v0 v1) Q)
          -∗ wp frame (wpE (defs₀ (F := F)) Variants.none c none) Set.univ (top1 arg1 arg2 κ) Q) := by
  unfold top1 owns
  iintro ⟨⟨%f0, %hf0, H0⟩, ⟨%f1, %hf1, H1⟩⟩ Hk
  sl_exec
  iapply Hk
  isplitl [H0]; · iexists _; isplitr; swap; · iexact H0
                  ipureintro; exact hf0
  iexists _; isplitr; swap; · iexact H1
  ipureintro; exact hf1

/-- The body keeps what it owns. -/
theorem body_run (Q : PUnit → sProp 𝕄) :
    iprop(Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 ∗ (Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 -∗ Q ⟨⟩))
      ⊢ wp frame (wpE (defs₀ (F := F)) Variants.none c none) Set.univ (cc0_svdquant_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) Q := by
  iintro ⟨HH, Hk⟩
  rw [cc0_svdquant_linear_eq_skeleton, top1.eq]
  unfold Held
  icases HH with ⟨H0, H1, Hr⟩
  iapply (words_run c arg1 arg2 x0 x1) $$ [H0 H1]
  · isplitl [H0]; · iexact H0
    iexact H1
  iintro %v0 %v1 ⟨H0, H1⟩
  rw [top2.eq]
  iapply (prep_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10) $$ [H0 H1 Hr]
  · unfold Held
    isplitl [H0]; · iexact H0
    isplitl [H1]; · iexact H1
    iexact Hr
  iintro HH
  rw [top3.eq]
  iapply (safe_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10) $$ HH
  iintro HH
  rw [top4.eq]
  iapply (unsafe_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10) $$ HH
  iintro HH
  unfold top4.tail
  sl_step
  iapply Hk
  unfold Held
  iexact HH

end Body

variable (m : (ℓ : Loc nD τ sig) → Buf (Elt F) ℓ) (ρ : Dev nD → PrngReg)

/-! ## The memrefs the pipeline passes -/

abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1152 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1152 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1152 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1152 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S576x4608 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S72x4608 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1152x32 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x4608 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4608 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x4608 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x576 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x72 .fp8e4m3 := win0_13.stage (cfg0.slots t 13)
abbrev hs0_13 (t : Fin cfg0.N) : (ms0_13 t).IsWhole := hstage0_13 ((cfg0.slots t 13).cast nbuf0_13)
abbrev scM0_0 : Memref sig .tc .vmem S1280x4608 .bf16 := Memref.whole cc0_scratch0
abbrev scM0_1 : Memref sig .tc .vmem S1152x128 .bf16 := Memref.whole cc0_scratch1
abbrev scM0_2 : Memref sig .tc .vmem S256x1152 .bf16 := Memref.whole cc0_scratch2
abbrev scM0_3 : Memref sig .tc .vmem S256x1280 .bf16 := Memref.whole cc0_scratch3
abbrev scM0_4 : Memref sig .tc .vmem S256x1280 .bf16 := Memref.whole cc0_scratch4
abbrev scM0_5 : Memref sig .tc .vmem S256x576 .i8 := Memref.whole cc0_scratch5
abbrev scM0_6 : Memref sig .tc .vmem S256x576 .i8 := Memref.whole cc0_scratch6
abbrev scM0_7 : Memref sig .tc .vmem S256x72 .fp8e4m3 := Memref.whole cc0_scratch7
abbrev scM0_8 : Memref sig .tc .vmem S256x72 .fp8e4m3 := Memref.whole cc0_scratch8
abbrev scM0_9 : Memref sig .tc .vmem S72x4608 .f32 := Memref.whole cc0_scratch9

/-- The scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

/-! ## The proof data -/

/-- The output windows of which nothing is stated. -/
def forgets0 : Fin 14 → Bool := fun w => w.val == 11 || w.val == 12 || w.val == 13

/-- The proof data of the one pipeline on core `c`: the arrays as the region finds them (`V`); after the body at
    point `t` each input's buffer at its block and the outputs, FORGOTTEN, at `Dat.unnamed`; the invariant owns the scratch at
    some contents (`ΦA`);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = Pipeline.ΦA spec0 c from rfl, show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13⟩
  iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t))
  isplitr [Hg Ho]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HS
  · unfold Held
    iintro ⟨H0, H1, H2, H3, H4, H5, H6, H7, H8, H9, H10, H11, H12, H13, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant. -/
theorem hin (c : Dev nD) : Pipeline.ΦA spec0 c ⊢ (dats m 0 c).Φ 0 := Idealize.SL.BI.Entails.refl _

/-- The invariant gives it back after the last point. -/
theorem hout (c : Dev nD) : (dats m 0 c).Φ (Fin.last cfg0.N) ⊢ Pipeline.ΦA spec0 c := Idealize.SL.BI.Entails.refl _

/-- The buffers the lines after the region WRITE, as references: results computed from contents the run does not name
    (the pipeline's outputs), so nothing is stated of them either. -/
def T0 : Finset (Ref sig .tc) := {main_v10, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame's post from a run that states nothing of the outputs. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 6 rfl).trans ((hA c 6).trans (V_main_arg3 m c)),
      (Pipeline.RDat.FramePostR.arr_in h c 7 rfl).trans ((hA c 7).trans (V_main_arg4 m c)),
      ((h c).2 main_arg5 (Finset.mem_sdiff.mpr ⟨Pipeline.mem_restRefs_of main_arg5 (by decide) (by decide), by decide⟩)).trans (V_main_arg5 m c),
      (Pipeline.RDat.FramePostR.arr_in h c 8 rfl).trans ((hA c 8).trans (V_main_arg6 m c)),
      (Pipeline.RDat.FramePostR.arr_in h c 9 rfl).trans ((hA c 9).trans (V_main_arg7 m c)),
      ((h c).2 main_arg8 (Finset.mem_sdiff.mpr ⟨Pipeline.mem_restRefs_of main_arg8 (by decide) (by decide), by decide⟩)).trans (V_main_arg8 m c)⟩) h

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- The run, without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_forget m ρ (fun c => (dats m 0 c).toRForget forgets0) (A_eq m) (run_main m ρ)

/-- The frame: every weakly fair execution of the program ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Hand

end
-- ==== Proof.Value.Spec.lean ====
/-
  The quantiser's mathematics on extended reals: the scale of a group of sixteen products, the four-bit value and the code of
  a quotient, and the value a code stands for.
-/
module

public import Idealize.ShloMosaic.Lib.Pointwise

@[expose] public section

noncomputable section

namespace Cert.Spec

open Idealize.ShloMosaic

/-- The extended real a 32-bit pattern denotes. -/
abbrev B (w : BitVec 32) : EReal := Ideal.ofBits .f32 w

/-- The magnitude of an extended real. -/
def mag (x : EReal) : EReal := max x (-x)

/-- The largest magnitude of sixteen. -/
def amaxOf (f : Fin 16 → EReal) : EReal := Finset.fold max (B 4286578688#32) (fun k => mag (f k)) Finset.univ

/-- The scale of a group whose largest magnitude is `a`. -/
def sOf (xg a : EReal) : EReal :=
  if min (B 0x43E00000#32) (max 0 (Ideal.div a (B 0x40C00000#32 * xg))) = 0 then 1
  else min (B 0x43E00000#32) (max 0 (Ideal.div a (B 0x40C00000#32 * xg)))

/-- The scale of group `g` of a row of products. -/
def scale (xg : EReal) (P : Fin 1152 → EReal) (g : Fin 72) : EReal :=
  sOf xg (amaxOf fun k => P ⟨g.val * 16 + k.val, by have := g.isLt; have := k.isLt; omega⟩)

/-- Rounding to the nearest integer, halves to even. -/
abbrev rnd (x : EReal) : EReal := Ideal.liftRound Ideal.roundHalfEven x

/-- The four-bit value of a quotient, rounded on the grid of its magnitude's binade. -/
def kq (t : EReal) : EReal :=
  rnd (min (B 0x40C00000#32) (max (B 0xC0C00000#32) t) * Ideal.div (B 0x40000000#32)
      (if mag (min (B 0x40C00000#32) (max (B 0xC0C00000#32) t)) < B 0x40000000#32 then 1
        else if mag (min (B 0x40C00000#32) (max (B 0xC0C00000#32) t)) < B 0x40800000#32 then B 0x40000000#32 else B 0x40800000#32))
    * (B 0x3F000000#32 * (if mag (min (B 0x40C00000#32) (max (B 0xC0C00000#32) t)) < B 0x40000000#32 then 1
        else if mag (min (B 0x40C00000#32) (max (B 0xC0C00000#32) t)) < B 0x40800000#32 then B 0x40000000#32 else B 0x40800000#32))

/-- The byte the magnitude and the sign of a four-bit value make: the code in bits 2 to 4, the sign in bit 7. -/
def byteOf (q : EReal) : BitVec 8 :=
  let n : BitVec 32 := 0#32 + (if B 0x3F000000#32 ≤ mag q then 4#32 else 0#32) + (if 1 ≤ mag q then 4#32 else 0#32)
    + (if B 0x3FC00000#32 ≤ mag q then 4#32 else 0#32) + (if B 0x40000000#32 ≤ mag q then 4#32 else 0#32)
    + (if B 0x40400000#32 ≤ mag q then 4#32 else 0#32) + (if B 0x40800000#32 ≤ mag q then 4#32 else 0#32)
    + (if B 0x40C00000#32 ≤ mag q then 4#32 else 0#32)
  (if q < 0 then n ||| 128#32 else n).setWidth 8

/-- The rounded magnitude of a clamped magnitude. -/
def rmagOf (m : EReal) : EReal :=
  if m < B 0x40000000#32 then Ideal.div (rnd (B 0x40000000#32 * m)) (B 0x40000000#32)
  else if m < B 0x40800000#32 then rnd m
  else B 0x40000000#32 * rnd (Ideal.div m (B 0x40000000#32))

/-- The magnitude of the four-bit value of a quotient. -/
def rmag (t : EReal) : EReal := rmagOf (min (mag t) (B 0x40C00000#32))

/-- The code of a magnitude on the four-bit grid. -/
def mcode (v : EReal) : BitVec 32 :=
  FloatOps.fptosi (F := Ideal) (φ := .f32) 32
    (if v < B 0x40000000#32 then B 0x40000000#32 * v
      else if v < B 0x40800000#32 then v + B 0x40000000#32
      else Ideal.div v (B 0x40000000#32) + B 0x40800000#32)

/-- The code of a quotient: the code of its magnitude, and 8 for a negative value. -/
def rcode (t : EReal) : BitVec 32 := if t < 0 ∧ 0 < rmag t then mcode (rmag t) ||| 8#32 else mcode (rmag t)

/-- Whether bit `b` of a code is set. -/
abbrev bitOf (c b : BitVec 32) : BitVec 1 := IntOp.cmpi CmpIPredicate.ne (IntOp.andi c b) 0#32

/-- The magnitude a code stands for. -/
def dmag (c : BitVec 32) : EReal :=
  Scalar.select (bitOf c 4#32)
    (Scalar.select (bitOf c 2#32) (Scalar.select (bitOf c 1#32) (B 0x40C00000#32) (B 0x40800000#32))
      (Scalar.select (bitOf c 1#32) (B 0x40400000#32) (B 0x40000000#32)))
    (Scalar.select (bitOf c 2#32) (Scalar.select (bitOf c 1#32) (B 0x3FC00000#32) 1)
      (Scalar.select (bitOf c 1#32) (B 0x3F000000#32) 0))

/-- The value a code stands for. -/
def dval (c : BitVec 32) : EReal := Scalar.select (bitOf c 8#32) (0 - dmag c) (dmag c)

/-- The quotient of a product by its group's scale. -/
def quot (xg : EReal) (P : Fin 1152 → EReal) (c : Fin 1152) : EReal :=
  Ideal.div (P c) (scale xg P ⟨c.val / 16, by have := c.isLt; omega⟩ * xg)

/-- The decoded activation: the value of the code, times the group's scale. -/
def deq (xg : EReal) (P : Fin 1152 → EReal) (c : Fin 1152) : EReal :=
  dval (rcode (quot xg P c)) * scale xg P ⟨c.val / 16, by have := c.isLt; omega⟩

/-- Two codes in a byte, the even one in the low half. -/
def packB (xg : EReal) (P : Fin 1152 → EReal) (k : Fin 576) : BitVec 8 :=
  (rcode (quot xg P ⟨2 * k.val, by have := k.isLt; omega⟩) ||| (rcode (quot xg P ⟨2 * k.val + 1, by have := k.isLt; omega⟩) <<< 4)).setWidth 8

end Cert.Spec

end
-- ==== Proof.Value.Pre.lean ====
/-
  What the precondition says of the arguments.
-/
module

public import proofs.«01_k».proof.Proof.Gen.Pre_scales_fit
public import proofs.«01_k».proof.Proof.Value.Spec
public import Idealize.ShloMosaic.Lib.Pointwise

@[expose] public section

set_option maxRecDepth 16384

noncomputable section

namespace Cert.Pre_scales_fit

open Idealize.ShloMosaic

theorem real_of_lt (x : EReal) (h : max x (-x) < ⊤) : ∃ y : ℝ, x = y := by
  induction x using EReal.rec with
  | bot => simp at h
  | top => simp at h
  | coe x => exact ⟨x, rfl⟩

variable (a0 : FVec Ideal S4x4096x1152 .bf16) (a1 : FVec Ideal S1152 .f32) (a2 : FVec Ideal S_ .f32) (a3 : IVec S576x4608 8)
  (a4 : FVec Ideal S72x4608 .fp8e4m3) (a5 : FVec Ideal S_ .f32) (a6 : FVec Ideal S1152x32 .bf16) (a7 : FVec Ideal S32x4608 .bf16) (a8 : FVec Ideal S4608 .f32)

theorem fn_apply (j : Fin 32) (n : Fin 4608) (h : fn (F := Ideal) a0 a1 a2 a3 a4 a5 a6 a7 a8 (ix2 j n) = 1#1) :
    (a2 ix0 : EReal) ≠ 0 ∧ (0 : EReal) ≤ a2 ix0 * a5 ix0 ∧ ∃ x : ℝ, (a7 (ix2 j n) : EReal) = x := by
  revert h
  unfold fn
  pointwise
  have ht : Ideal.ofBits .f32 0x7F800000#32 = ⊤ := by simp [Ideal.ofBits, Ideal.ieee]
  have ha : ∀ x : EReal, (FloatOps.absf (F := Ideal) (φ := .f32) x : EReal) = max x (-x) := fun x => rfl
  have hb : ∀ p q r : Prop, ∀ [Decidable p] [Decidable q] [Decidable r],
      IntOp.andi (BitVec.ofBool (decide p)) (IntOp.andi (BitVec.ofBool (decide q)) (BitVec.ofBool (decide r))) = 1#1 → p ∧ q ∧ r := by
    intro p q r _ _ _
    by_cases hp : p <;> by_cases hq : q <;> by_cases hr : r <;> simp [hp, hq, hr, IntOp.andi]
  intro h
  obtain ⟨h1, h2, h3⟩ := hb _ _ _ h
  refine ⟨h2, h3, ?_⟩
  rw [ht] at h1
  have h1' : max (a7 (ix2 j n) : EReal) (-a7 (ix2 j n)) < ⊤ := h1
  exact real_of_lt _ h1'

end Cert.Pre_scales_fit

end
-- ==== Proof.Value.Tile.lean ====
/-
  What the quantiser leaves for one tile of 256 rows, as functions of the tile: the scales, the decoded activations and the
  packed codes, each the array its column blocks make up. The kernel writes the quantiser out once per tile it handles and
  once per column block; every one of those copies is an instance of the functions here.
-/
module

public import proofs.«01_k».proof.Proof.Gen.KernelIdeal.Skeleton
public import Idealize.ShloMosaic.Lib.Pipeline.FrameBody
public import Idealize.ShloMosaic.Lib.Pipeline.Value
public import Idealize.ShloMosaic.Lib.Ring

@[expose] public section

set_option maxRecDepth 65536

noncomputable section

namespace Cert.KernelIdeal.Val

open Cert.KernelIdeal Cert.KernelIdeal.Gen
open Idealize.ShloMosaic Idealize.ShloMosaic.TcCoe

variable {F : FTy → Type} [FloatOps F]

/-- 128 columns of the tile, from column `o`, times the same columns of the smoothing row. -/
def prod (x : Vec F S256x1152 .bf16) (sm : Vec F S1x1152 .f32) (o : ℕ)
    (hx : ∀ a, (![0, o] : Fin 2 → ℕ) a + S256x128.size a ≤ S256x1152.size a)
    (hs : ∀ a, (![0, o] : Fin 2 → ℕ) a + S1x128.size a ≤ S1x1152.size a) : FVec F S256x128 .f32 :=
  k0_pay113 (View.ld x (Rect.unit (s := S256x1152) ![0, o] S256x128.size hx))
    (View.ld sm (Rect.unit (s := S1x1152) ![0, o] S1x128.size hs))

/-- A block of products as it is kept for the low-rank branch. -/
def keepBlk (p : FVec F S256x128 .f32) : FVec F S256x128 .bf16 :=
  shapeCast S256x128 (truncf .bf16 p bitsLt_bf16_f32) shapeCasts_S256x128_S256x128

/-- The largest magnitude of each group of sixteen columns of a block, transposed. -/
def amaxBlk (p : FVec F S256x128 .f32) : FVec F S8x256 .f32 :=
  multiReduction .maximumf [1] S8x256
    (shapeCast S8x16x256 (transpose S128x256 [1, 0] (absf p) transposes_S256x128_p1_0_S128x256) shapeCasts_S128x256_S8x16x256)
    0xFF800000#32 reduces_S8x16x256_S8x256 (.inl rfl) rfl

/-- The nine blocks of products of a tile. -/
def prods (x : Vec F S256x1152 .bf16) (sm : Vec F S1x1152 .f32) : Fin 9 → FVec F S256x128 .f32
  | 0 => prod x sm 0 inb_S256x1152_S256x128_0_0 inb_S1x1152_S1x128_0_0
  | 1 => prod x sm 128 inb_S256x1152_S256x128_0_128 inb_S1x1152_S1x128_0_128
  | 2 => prod x sm 256 inb_S256x1152_S256x128_0_256 inb_S1x1152_S1x128_0_256
  | 3 => prod x sm 384 inb_S256x1152_S256x128_0_384 inb_S1x1152_S1x128_0_384
  | 4 => prod x sm 512 inb_S256x1152_S256x128_0_512 inb_S1x1152_S1x128_0_512
  | 5 => prod x sm 640 inb_S256x1152_S256x128_0_640 inb_S1x1152_S1x128_0_640
  | 6 => prod x sm 768 inb_S256x1152_S256x128_0_768 inb_S1x1152_S1x128_0_768
  | 7 => prod x sm 896 inb_S256x1152_S256x128_0_896 inb_S1x1152_S1x128_0_896
  | 8 => prod x sm 1024 inb_S256x1152_S256x128_0_1024 inb_S1x1152_S1x128_0_1024

/-- The scales of a tile, transposed, from its nine blocks of products. -/
def scaleT (xg : Elt F .f32) (p : Fin 9 → FVec F S256x128 .f32) : FVec F S72x256 .f32 :=
  have v189 : FVec F S72x256 .f32 := concatenate S72x256 0 [⟨S8x256, amaxBlk (p 0)⟩, ⟨S8x256, amaxBlk (p 1)⟩, ⟨S8x256, amaxBlk (p 2)⟩, ⟨S8x256, amaxBlk (p 3)⟩, ⟨S8x256, amaxBlk (p 4)⟩, ⟨S8x256, amaxBlk (p 5)⟩, ⟨S8x256, amaxBlk (p 6)⟩, ⟨S8x256, amaxBlk (p 7)⟩, ⟨S8x256, amaxBlk (p 8)⟩] concatenates_S8x256_S8x256_S8x256_S8x256_S8x256_S8x256_S8x256_S8x256_S8x256_S72x256_d0
  have cst_80 : F .f32 := Scalar.ofBits .f32 0x40C00000#32
  have v190 : F .f32 := Scalar.mulf cst_80 xg
  have v191 : FVec F S72x256 .f32 := broadcast S72x256 v190
  have v192 : FVec F S72x256 .f32 := divf v189 v191
  have cst_81 : F .f32 := Scalar.ofBits .f32 0x00000000#32
  have cst_82 : F .f32 := Scalar.ofBits .f32 0x43E00000#32
  have v193 : FVec F S72x256 .f32 := broadcast S72x256 cst_81
  have v194 : FVec F S72x256 .f32 := maximumf v193 v192
  have v195 : FVec F S72x256 .f32 := broadcast S72x256 cst_82
  have v196 : FVec F S72x256 .f32 := minimumf v195 v194
  have v197 : FVec F S72x256 .fp8e4m3 := truncf .fp8e4m3 v196 bitsLt_fp8e4m3_f32
  have v198 : FVec F S72x256 .f32 := extf .f32 v197 bitsLt_fp8e4m3_f32
  have cst_83 : F .f32 := Scalar.ofBits .f32 0x00000000#32
  have v199 : FVec F S72x256 .f32 := broadcast S72x256 cst_83
  have v200 : IVec S72x256 1 := cmpf .oeq v198 v199
  have cst_84 : F .f32 := Scalar.ofBits .f32 0x3F800000#32
  have v201 : FVec F S72x256 .f32 := broadcast S72x256 cst_84
  have v202 : FVec F S72x256 .f32 := select v200 v201 v198
  v202

/-- The scales of a tile, one row per row, padded with ones to 128 lanes. -/
def scaleR (xg : Elt F .f32) (p : Fin 9 → FVec F S256x128 .f32) : FVec F S256x128 .f32 :=
  k0_pay142 (scaleT xg p) k0_pay141

/-- What a tile is multiplied by. -/
def recipR (xg : Elt F .f32) (s : FVec F S256x128 .f32) : FVec F S256x128 .f32 :=
  divf (broadcast S256x128 (Scalar.ofBits .f32 0x3F800000#32)) (mulf s (broadcast S256x128 xg))

/-- The lane of the scale row each lane of a block reads: a sixteenth of its own, from `b` on. -/
def laneIdx (b : BitVec 32) : IVec S256x128 32 :=
  have v388 : IVec S256x128 32 := iota .tc S256x128 32 [1] iota_S256x128_d1_w32
  have v389 : IVec S256x128 32 := broadcast S256x128 16#32
  have v390 : IVec S256x128 32 := divsi v388 v389
  have v391 : IVec S256x128 32 := broadcast S256x128 0#32
  have v392 : IVec S256x128 1 := cmpi .sgt v388 v391
  have v393 : IVec S256x128 32 := extui 32 v392 natLt_1_32
  have v394 : IVec S256x128 32 := broadcast S256x128 0#32
  have v395 : IVec S256x128 1 := cmpi .slt v388 v394
  have v396 : IVec S256x128 32 := extui 32 v395 natLt_1_32
  have v397 : IVec S256x128 32 := subi v393 v396
  let v398 : BitVec 1 := Scalar.cmpi .sgt 16#32 0#32
  let v399 : BitVec 32 := Scalar.extui v398
  let v400 : BitVec 1 := Scalar.cmpi .slt 16#32 0#32
  let v401 : BitVec 32 := Scalar.extui v400
  let v402 : BitVec 32 := Scalar.subi v399 v401
  have v403 : IVec S256x128 32 := broadcast S256x128 v402
  have v404 : IVec S256x128 1 := cmpi .ne v397 v403
  have v405 : IVec S256x128 32 := broadcast S256x128 16#32
  have v406 : IVec S256x128 32 := remsi v388 v405
  have v407 : IVec S256x128 32 := broadcast S256x128 0#32
  have v408 : IVec S256x128 1 := cmpi .ne v406 v407
  have v409 : IVec S256x128 1 := andi v404 v408
  have v410 : IVec S256x128 32 := broadcast S256x128 1#32
  have v411 : IVec S256x128 32 := subi v390 v410
  have v412 : IVec S256x128 32 := select v409 v411 v390
  have v413 : IVec S256x128 32 := broadcast S256x128 b
  have v414 : IVec S256x128 32 := addi v412 v413
  have v415 : IVec S256x128 32 := broadcast S256x128 0#32
  have v416 : IVec S256x128 1 := cmpi .slt v414 v415
  have v417 : IVec S256x128 32 := broadcast S256x128 128#32
  have v418 : IVec S256x128 32 := addi v414 v417
  have v419 : IVec S256x128 32 := select v416 v418 v414
  have v420 : IVec S256x128x1 32 := shapeCast S256x128x1 v419 shapeCasts_S256x128_S256x128x1
  have v421 : IVec S256x128 32 := shapeCast S256x128 v420 shapeCasts_S256x128x1_S256x128
  v421

/-- The four-bit values of a block. -/
def qBlk (r p : FVec F S256x128 .f32) (b : BitVec 32) : FVec F S256x128 .bf16 :=
  k0_pay162 r p (laneIdx b)

/-- A block's values times their scales. -/
def xqBlk (s : FVec F S256x128 .f32) (q : FVec F S256x128 .bf16) (b : BitVec 32) : FVec F S256x128 .bf16 :=
  shapeCast S256x128 (mulf q (truncf .bf16 (dynamicGather 1 s (laneIdx b)) bitsLt_bf16_f32)) shapeCasts_S256x128_S256x128

/-- The codes of a block's values, four rows to a word. -/
def codeBlk (q : FVec F S256x128 .bf16) : IVec S64x128 32 :=
  k0_pay159 (k0_pay156 (k0_pay152 q) (k0_pay153 q) (k0_pay154 q) k0_pay155)
    (k0_pay157 (k0_pay152 q) (k0_pay153 q) (k0_pay154 q) k0_pay155) k0_pay158

/-- Two blocks of codes, packed two to a byte. -/
def pkPair (a b : IVec S64x128 32) : IVec S256x128 8 :=
  k0_pay272 a b (iota .tc S64x128 32 [1] iota_S64x128_d1_w32) k0_pay266 k0_pay267 k0_pay268 k0_pay269

/-- The last block of codes, packed two to a byte. -/
def pkLast (a : IVec S64x128 32) : IVec S256x64 8 :=
  k0_pay277 a (k0_pay270 k0_pay266 k0_pay267 k0_pay268 k0_pay269)

/-- What a tile keeps for the low-rank branch. -/
def XS (p : Fin 9 → FVec F S256x128 .f32) : Vec F S256x1152 .bf16 :=
  View.canon (Val := Elt F) (e := .bf16) [⟨Rect.unit (s := S256x1152) ![0, 1024] S256x128.size inb_S256x1152_S256x128_0_1024, keepBlk (p 8)⟩,
    ⟨Rect.unit (s := S256x1152) ![0, 896] S256x128.size inb_S256x1152_S256x128_0_896, keepBlk (p 7)⟩,
    ⟨Rect.unit (s := S256x1152) ![0, 768] S256x128.size inb_S256x1152_S256x128_0_768, keepBlk (p 6)⟩,
    ⟨Rect.unit (s := S256x1152) ![0, 640] S256x128.size inb_S256x1152_S256x128_0_640, keepBlk (p 5)⟩,
    ⟨Rect.unit (s := S256x1152) ![0, 512] S256x128.size inb_S256x1152_S256x128_0_512, keepBlk (p 4)⟩,
    ⟨Rect.unit (s := S256x1152) ![0, 384] S256x128.size inb_S256x1152_S256x128_0_384, keepBlk (p 3)⟩,
    ⟨Rect.unit (s := S256x1152) ![0, 256] S256x128.size inb_S256x1152_S256x128_0_256, keepBlk (p 2)⟩,
    ⟨Rect.unit (s := S256x1152) ![0, 128] S256x128.size inb_S256x1152_S256x128_0_128, keepBlk (p 1)⟩,
    ⟨Rect.unit (s := S256x1152) ![0, 0] S256x128.size inb_S256x1152_S256x128_0_0, keepBlk (p 0)⟩]

/-- The values of block `j` of a tile. -/
def qs (xg : Elt F .f32) (p : Fin 9 → FVec F S256x128 .f32) (j : Fin 9) (b : BitVec 32) : FVec F S256x128 .bf16 :=
  qBlk (recipR xg (scaleR xg p)) (p j) b

/-- The decoded activations of a tile, with the low-rank branch's projections in the last columns. -/
def XQ (xg : Elt F .f32) (ld3 : Vec F S1152x128 .bf16) (p : Fin 9 → FVec F S256x128 .f32) : Vec F S256x1280 .bf16 :=
  View.canon (Val := Elt F) (e := .bf16) [⟨Rect.unit (s := S256x1280) ![0, 1152] S256x128.size inb_S256x1280_S256x128_0_1152, k0_pay3 (XS p) ld3⟩,
    ⟨Rect.unit (s := S256x1280) ![0, 1024] S256x128.size inb_S256x1280_S256x128_0_1024, xqBlk (scaleR xg p) (qs xg p 8 64#32) 64#32⟩,
    ⟨Rect.unit (s := S256x1280) ![0, 896] S256x128.size inb_S256x1280_S256x128_0_896, xqBlk (scaleR xg p) (qs xg p 7 56#32) 56#32⟩,
    ⟨Rect.unit (s := S256x1280) ![0, 768] S256x128.size inb_S256x1280_S256x128_0_768, xqBlk (scaleR xg p) (qs xg p 6 48#32) 48#32⟩,
    ⟨Rect.unit (s := S256x1280) ![0, 640] S256x128.size inb_S256x1280_S256x128_0_640, xqBlk (scaleR xg p) (qs xg p 5 40#32) 40#32⟩,
    ⟨Rect.unit (s := S256x1280) ![0, 512] S256x128.size inb_S256x1280_S256x128_0_512, xqBlk (scaleR xg p) (qs xg p 4 32#32) 32#32⟩,
    ⟨Rect.unit (s := S256x1280) ![0, 384] S256x128.size inb_S256x1280_S256x128_0_384, xqBlk (scaleR xg p) (qs xg p 3 24#32) 24#32⟩,
    ⟨Rect.unit (s := S256x1280) ![0, 256] S256x128.size inb_S256x1280_S256x128_0_256, xqBlk (scaleR xg p) (qs xg p 2 16#32) 16#32⟩,
    ⟨Rect.unit (s := S256x1280) ![0, 128] S256x128.size inb_S256x1280_S256x128_0_128, xqBlk (scaleR xg p) (qs xg p 1 8#32) 8#32⟩,
    ⟨Rect.unit (s := S256x1280) ![0, 0] S256x128.size inb_S256x1280_S256x128_0_0, xqBlk (scaleR xg p) (qs xg p 0 0#32) 0#32⟩]

/-- The packed codes of a tile. -/
def PK (xg : Elt F .f32) (p : Fin 9 → FVec F S256x128 .f32) : Vec F S256x576 .i8 :=
  View.canon (Val := Elt F) (e := .i8) [⟨Rect.unit (s := S256x576) ![0, 512] S256x64.size inb_S256x576_S256x64_0_512, pkLast (codeBlk (qs xg p 8 64#32))⟩,
    ⟨Rect.unit (s := S256x576) ![0, 384] S256x128.size inb_S256x576_S256x128_0_384, pkPair (codeBlk (qs xg p 6 48#32)) (codeBlk (qs xg p 7 56#32))⟩,
    ⟨Rect.unit (s := S256x576) ![0, 256] S256x128.size inb_S256x576_S256x128_0_256, pkPair (codeBlk (qs xg p 4 32#32)) (codeBlk (qs xg p 5 40#32))⟩,
    ⟨Rect.unit (s := S256x576) ![0, 128] S256x128.size inb_S256x576_S256x128_0_128, pkPair (codeBlk (qs xg p 2 16#32)) (codeBlk (qs xg p 3 24#32))⟩,
    ⟨Rect.unit (s := S256x576) ![0, 0] S256x128.size inb_S256x576_S256x128_0_0, pkPair (codeBlk (qs xg p 0 0#32)) (codeBlk (qs xg p 1 8#32))⟩]

/-- The scales of a tile as they are stored. -/
def SC (xg : Elt F .f32) (p : Fin 9 → FVec F S256x128 .f32) : Vec F S256x72 .fp8e4m3 :=
  k0_pay143 (scaleT xg p) k0_pay141

/-- Nine column blocks make up the kept products. -/
theorem cover_xs (w0 w1 w2 w3 w4 w5 w6 w7 w8 : S256x128.Idx → Elt F .bf16) (y : S256x1152.Idx) :
    ∃ p ∈ ([⟨Rect.unit (s := S256x1152) ![0, 1024] S256x128.size inb_S256x1152_S256x128_0_1024, w8⟩,
      ⟨Rect.unit (s := S256x1152) ![0, 896] S256x128.size inb_S256x1152_S256x128_0_896, w7⟩,
      ⟨Rect.unit (s := S256x1152) ![0, 768] S256x128.size inb_S256x1152_S256x128_0_768, w6⟩,
      ⟨Rect.unit (s := S256x1152) ![0, 640] S256x128.size inb_S256x1152_S256x128_0_640, w5⟩,
      ⟨Rect.unit (s := S256x1152) ![0, 512] S256x128.size inb_S256x1152_S256x128_0_512, w4⟩,
      ⟨Rect.unit (s := S256x1152) ![0, 384] S256x128.size inb_S256x1152_S256x128_0_384, w3⟩,
      ⟨Rect.unit (s := S256x1152) ![0, 256] S256x128.size inb_S256x1152_S256x128_0_256, w2⟩,
      ⟨Rect.unit (s := S256x1152) ![0, 128] S256x128.size inb_S256x1152_S256x128_0_128, w1⟩,
      ⟨Rect.unit (s := S256x1152) ![0, 0] S256x128.size inb_S256x1152_S256x128_0_0, w0⟩] : List (View.Piece (Elt F) S256x1152 .bf16)), y ∈ p.1.set :=
  View.cover_of_tiledL _ ![256, 128] (by rfl) y

/-- Nine column blocks and the projections make up the decoded activations. -/
theorem cover_xq (t : S256x128.Idx → Elt F .bf16) (w0 w1 w2 w3 w4 w5 w6 w7 w8 : S256x128.Idx → Elt F .bf16) (y : S256x1280.Idx) :
    ∃ p ∈ ([⟨Rect.unit (s := S256x1280) ![0, 1152] S256x128.size inb_S256x1280_S256x128_0_1152, t⟩,
      ⟨Rect.unit (s := S256x1280) ![0, 1024] S256x128.size inb_S256x1280_S256x128_0_1024, w8⟩,
      ⟨Rect.unit (s := S256x1280) ![0, 896] S256x128.size inb_S256x1280_S256x128_0_896, w7⟩,
      ⟨Rect.unit (s := S256x1280) ![0, 768] S256x128.size inb_S256x1280_S256x128_0_768, w6⟩,
      ⟨Rect.unit (s := S256x1280) ![0, 640] S256x128.size inb_S256x1280_S256x128_0_640, w5⟩,
      ⟨Rect.unit (s := S256x1280) ![0, 512] S256x128.size inb_S256x1280_S256x128_0_512, w4⟩,
      ⟨Rect.unit (s := S256x1280) ![0, 384] S256x128.size inb_S256x1280_S256x128_0_384, w3⟩,
      ⟨Rect.unit (s := S256x1280) ![0, 256] S256x128.size inb_S256x1280_S256x128_0_256, w2⟩,
      ⟨Rect.unit (s := S256x1280) ![0, 128] S256x128.size inb_S256x1280_S256x128_0_128, w1⟩,
      ⟨Rect.unit (s := S256x1280) ![0, 0] S256x128.size inb_S256x1280_S256x128_0_0, w0⟩] : List (View.Piece (Elt F) S256x1280 .bf16)), y ∈ p.1.set :=
  View.cover_of_tiledL _ ![256, 128] (by rfl) y

/-- Four pairs of column blocks and the last block make up the packed codes. -/
theorem cover_pk (t : S256x64.Idx → Elt F .i8) (w0 w1 w2 w3 : S256x128.Idx → Elt F .i8) (y : S256x576.Idx) :
    ∃ p ∈ ([⟨Rect.unit (s := S256x576) ![0, 512] S256x64.size inb_S256x576_S256x64_0_512, t⟩,
      ⟨Rect.unit (s := S256x576) ![0, 384] S256x128.size inb_S256x576_S256x128_0_384, w3⟩,
      ⟨Rect.unit (s := S256x576) ![0, 256] S256x128.size inb_S256x576_S256x128_0_256, w2⟩,
      ⟨Rect.unit (s := S256x576) ![0, 128] S256x128.size inb_S256x576_S256x128_0_128, w1⟩,
      ⟨Rect.unit (s := S256x576) ![0, 0] S256x128.size inb_S256x576_S256x128_0_0, w0⟩] : List (View.Piece (Elt F) S256x576 .i8)), y ∈ p.1.set := by
  have h0 : (y 0 : ℕ) < 256 := (y 0).isLt
  have h1 : (y 1 : ℕ) < 576 := (y 1).isLt
  have key : ∀ (o n : ℕ) (inb : ∀ a, (![0, o] : Fin 2 → ℕ) a + (![256, n] : Fin 2 → ℕ) a ≤ S256x576.size a),
      o ≤ (y 1 : ℕ) → (y 1 : ℕ) < o + n → y ∈ (Rect.unit (s := S256x576) ![0, o] ![256, n] inb).set := by
    intro o n inb h h'
    refine Rect.mem_set_unit.mpr fun a => ?_
    match a with
    | ⟨0, _⟩ => exact ⟨Nat.zero_le _, by show (y 0 : ℕ) < 0 + 256; omega⟩
    | ⟨1, _⟩ => exact ⟨h, h'⟩
  by_cases c4 : 512 ≤ (y 1 : ℕ)
  · exact ⟨_, .head _, key 512 64 inb_S256x576_S256x64_0_512 c4 (by omega)⟩
  by_cases c3 : 384 ≤ (y 1 : ℕ)
  · exact ⟨_, .tail _ (.head _), key 384 128 inb_S256x576_S256x128_0_384 c3 (by omega)⟩
  by_cases c2 : 256 ≤ (y 1 : ℕ)
  · exact ⟨_, .tail _ (.tail _ (.head _)), key 256 128 inb_S256x576_S256x128_0_256 c2 (by omega)⟩
  by_cases c1 : 128 ≤ (y 1 : ℕ)
  · exact ⟨_, .tail _ (.tail _ (.tail _ (.head _))), key 128 128 inb_S256x576_S256x128_0_128 c1 (by omega)⟩
  · exact ⟨_, .tail _ (.tail _ (.tail _ (.tail _ (.head _)))), key 0 128 inb_S256x576_S256x128_0_0 (Nat.zero_le _) (by omega)⟩

/-- One store over a whole buffer covers it. -/
theorem whole_cover {S : Shape} {e : EltTy} (w : S.Idx → Elt F e) {off : Fin S.rank → ℕ} (h : off = fun _ => 0)
    (inb : ∀ a, off a + S.size a ≤ S.size a) (y : S.Idx) :
    ∃ q ∈ ([⟨Rect.unit off S.size inb, w⟩] : List (View.Piece (Elt F) S e)), y ∈ q.1.set :=
  ⟨⟨Rect.unit off S.size inb, w⟩, List.mem_singleton_self _, View.mem_set_unit_zero h inb y⟩

/-- Reading back a whole buffer. -/
theorem readCov_whole {sp : Space} {sig : RefSig} {k : Kind} {S : Shape} {e : EltTy} (v : View sig k sp S e)
    (L : List (View.Piece (Elt F) S e)) {off : Fin S.rank → ℕ} (h : off = fun _ => 0)
    (inb : ∀ a, off a + S.size a ≤ S.size a) : v.readCov L (Rect.unit off S.size inb).toLoadRect = View.canon L :=
  (View.readCov_eq_canon' v L _).trans (View.ld_unit_zero h inb _)

/-- A buffer written block by block with the kept products holds them. -/
theorem canon_xs (p : Fin 9 → FVec F S256x128 .f32)
    (w0 w1 w2 w3 w4 w5 w6 w7 w8 : S256x128.Idx → Elt F .bf16)
    (h0 : w0 = keepBlk (p 0))
    (h1 : w1 = keepBlk (p 1))
    (h2 : w2 = keepBlk (p 2))
    (h3 : w3 = keepBlk (p 3))
    (h4 : w4 = keepBlk (p 4))
    (h5 : w5 = keepBlk (p 5))
    (h6 : w6 = keepBlk (p 6))
    (h7 : w7 = keepBlk (p 7))
    (h8 : w8 = keepBlk (p 8)) :
    View.canon (Val := Elt F) (e := .bf16) [⟨Rect.unit (s := S256x1152) ![0, 1024] S256x128.size inb_S256x1152_S256x128_0_1024, w8⟩,
      ⟨Rect.unit (s := S256x1152) ![0, 896] S256x128.size inb_S256x1152_S256x128_0_896, w7⟩,
      ⟨Rect.unit (s := S256x1152) ![0, 768] S256x128.size inb_S256x1152_S256x128_0_768, w6⟩,
      ⟨Rect.unit (s := S256x1152) ![0, 640] S256x128.size inb_S256x1152_S256x128_0_640, w5⟩,
      ⟨Rect.unit (s := S256x1152) ![0, 512] S256x128.size inb_S256x1152_S256x128_0_512, w4⟩,
      ⟨Rect.unit (s := S256x1152) ![0, 384] S256x128.size inb_S256x1152_S256x128_0_384, w3⟩,
      ⟨Rect.unit (s := S256x1152) ![0, 256] S256x128.size inb_S256x1152_S256x128_0_256, w2⟩,
      ⟨Rect.unit (s := S256x1152) ![0, 128] S256x128.size inb_S256x1152_S256x128_0_128, w1⟩,
      ⟨Rect.unit (s := S256x1152) ![0, 0] S256x128.size inb_S256x1152_S256x128_0_0, w0⟩] = XS p := by
  subst h0 h1 h2 h3 h4 h5 h6 h7 h8
  rfl

/-- Older stores under a cover do not show. -/
theorem canon_append_of_cover {S : Shape} {e : EltTy} (L₂ : List (View.Piece (Elt F) S e)) :
    ∀ (L₁ : List (View.Piece (Elt F) S e)) (_ : ∀ y, ∃ q ∈ L₁, y ∈ q.1.set), View.canon (L₁ ++ L₂) = View.canon L₁ := by
  have h : ∀ (L₁ : List (View.Piece (Elt F) S e)) (y : S.Idx) (_ : ∃ q ∈ L₁, y ∈ q.1.set),
      View.canon (L₁ ++ L₂) y = View.canon L₁ y := by
    intro L₁
    induction L₁ with
    | nil => rintro y ⟨q, hq, _⟩; exact absurd hq List.not_mem_nil
    | cons p L ih =>
      intro y hy
      by_cases hm : y ∈ p.1.set
      · obtain ⟨x, rfl⟩ := p.1.exists_idx_of_mem hm
        rw [List.cons_append, show p.1.idx x = p.1.emb x from rfl, View.canon_cons_emb, View.canon_cons_emb]
      · rw [List.cons_append, View.canon_cons_of_not_mem _ _ hm, View.canon_cons_of_not_mem _ _ hm]
        obtain ⟨q, hq, hyq⟩ := hy
        rcases List.mem_cons.mp hq with rfl | hq'
        · exact absurd hyq hm
        · exact ih y ⟨q, hq', hyq⟩
  intro L₁ hc
  exact funext fun y => h L₁ y (hc y)

/-- The kept products read back where an earlier tile's were. -/
theorem canon_xs_over (p : Fin 9 → FVec F S256x128 .f32)
    (w0 w1 w2 w3 w4 w5 w6 w7 w8 : S256x128.Idx → Elt F .bf16) (L : List (View.Piece (Elt F) S256x1152 .bf16))
    (h0 : w0 = keepBlk (p 0))
    (h1 : w1 = keepBlk (p 1))
    (h2 : w2 = keepBlk (p 2))
    (h3 : w3 = keepBlk (p 3))
    (h4 : w4 = keepBlk (p 4))
    (h5 : w5 = keepBlk (p 5))
    (h6 : w6 = keepBlk (p 6))
    (h7 : w7 = keepBlk (p 7))
    (h8 : w8 = keepBlk (p 8)) :
    View.canon (Val := Elt F) (e := .bf16) ([⟨Rect.unit (s := S256x1152) ![0, 1024] S256x128.size inb_S256x1152_S256x128_0_1024, w8⟩,
      ⟨Rect.unit (s := S256x1152) ![0, 896] S256x128.size inb_S256x1152_S256x128_0_896, w7⟩,
      ⟨Rect.unit (s := S256x1152) ![0, 768] S256x128.size inb_S256x1152_S256x128_0_768, w6⟩,
      ⟨Rect.unit (s := S256x1152) ![0, 640] S256x128.size inb_S256x1152_S256x128_0_640, w5⟩,
      ⟨Rect.unit (s := S256x1152) ![0, 512] S256x128.size inb_S256x1152_S256x128_0_512, w4⟩,
      ⟨Rect.unit (s := S256x1152) ![0, 384] S256x128.size inb_S256x1152_S256x128_0_384, w3⟩,
      ⟨Rect.unit (s := S256x1152) ![0, 256] S256x128.size inb_S256x1152_S256x128_0_256, w2⟩,
      ⟨Rect.unit (s := S256x1152) ![0, 128] S256x128.size inb_S256x1152_S256x128_0_128, w1⟩,
      ⟨Rect.unit (s := S256x1152) ![0, 0] S256x128.size inb_S256x1152_S256x128_0_0, w0⟩] ++ L) = XS p :=
  (canon_append_of_cover L _ (cover_xs w0 w1 w2 w3 w4 w5 w6 w7 w8)).trans (canon_xs p _ _ _ _ _ _ _ _ _ h0 h1 h2 h3 h4 h5 h6 h7 h8)

theorem tail_xq {a a' : Vec F S256x1152 .bf16} {b b' : Vec F S1152x128 .bf16} (ha : a = a') (hb : b = b') :
    k0_pay3 a b = k0_pay3 a' b' := by rw [ha, hb]

/-- The down-projection, four times side by side. -/
def LD3 (x8 : Vec F S1152x32 .bf16) : Vec F S1152x128 .bf16 := k0_pay112 x8

/-- A buffer written block by block with a tile's decoded activations holds them. -/
theorem read_xq {sig : RefSig} {k : Kind} {sp : Space} (v : View sig k sp S256x1280 .bf16) (f : v.ty.Contents (Elt F)) (xg : Elt F .f32) (ld3 : Vec F S1152x128 .bf16)
    (p : Fin 9 → FVec F S256x128 .f32) (t w0 w1 w2 w3 w4 w5 w6 w7 w8 : S256x128.Idx → Elt F .bf16)
    (ht : t = k0_pay3 (XS p) ld3)
    (h0 : w0 = xqBlk (scaleR xg p) (qs xg p 0 0#32) 0#32)
    (h1 : w1 = xqBlk (scaleR xg p) (qs xg p 1 8#32) 8#32)
    (h2 : w2 = xqBlk (scaleR xg p) (qs xg p 2 16#32) 16#32)
    (h3 : w3 = xqBlk (scaleR xg p) (qs xg p 3 24#32) 24#32)
    (h4 : w4 = xqBlk (scaleR xg p) (qs xg p 4 32#32) 32#32)
    (h5 : w5 = xqBlk (scaleR xg p) (qs xg p 5 40#32) 40#32)
    (h6 : w6 = xqBlk (scaleR xg p) (qs xg p 6 48#32) 48#32)
    (h7 : w7 = xqBlk (scaleR xg p) (qs xg p 7 56#32) 56#32)
    (h8 : w8 = xqBlk (scaleR xg p) (qs xg p 8 64#32) 64#32) :
    v.read (Elt F) (v.writes (Elt F) f [⟨Rect.unit (s := S256x1280) ![0, 1152] S256x128.size inb_S256x1280_S256x128_0_1152, t⟩,
      ⟨Rect.unit (s := S256x1280) ![0, 1024] S256x128.size inb_S256x1280_S256x128_0_1024, w8⟩,
      ⟨Rect.unit (s := S256x1280) ![0, 896] S256x128.size inb_S256x1280_S256x128_0_896, w7⟩,
      ⟨Rect.unit (s := S256x1280) ![0, 768] S256x128.size inb_S256x1280_S256x128_0_768, w6⟩,
      ⟨Rect.unit (s := S256x1280) ![0, 640] S256x128.size inb_S256x1280_S256x128_0_640, w5⟩,
      ⟨Rect.unit (s := S256x1280) ![0, 512] S256x128.size inb_S256x1280_S256x128_0_512, w4⟩,
      ⟨Rect.unit (s := S256x1280) ![0, 384] S256x128.size inb_S256x1280_S256x128_0_384, w3⟩,
      ⟨Rect.unit (s := S256x1280) ![0, 256] S256x128.size inb_S256x1280_S256x128_0_256, w2⟩,
      ⟨Rect.unit (s := S256x1280) ![0, 128] S256x128.size inb_S256x1280_S256x128_0_128, w1⟩,
      ⟨Rect.unit (s := S256x1280) ![0, 0] S256x128.size inb_S256x1280_S256x128_0_0, w0⟩]) = XQ xg ld3 p := by
  rw [View.read_writes_eq_canon _ _ _ (cover_xq t w0 w1 w2 w3 w4 w5 w6 w7 w8)]
  subst ht h0 h1 h2 h3 h4 h5 h6 h7 h8
  rfl

/-- A buffer written block by block with a tile's packed codes holds them. -/
theorem canon_pk (xg : Elt F .f32)
    (p : Fin 9 → FVec F S256x128 .f32) (t : S256x64.Idx → Elt F .i8) (w0 w1 w2 w3 : S256x128.Idx → Elt F .i8)
    (ht : t = pkLast (codeBlk (qs xg p 8 64#32)))
    (h0 : w0 = pkPair (codeBlk (qs xg p 0 0#32)) (codeBlk (qs xg p 1 8#32)))
    (h1 : w1 = pkPair (codeBlk (qs xg p 2 16#32)) (codeBlk (qs xg p 3 24#32)))
    (h2 : w2 = pkPair (codeBlk (qs xg p 4 32#32)) (codeBlk (qs xg p 5 40#32)))
    (h3 : w3 = pkPair (codeBlk (qs xg p 6 48#32)) (codeBlk (qs xg p 7 56#32))) :
    View.canon (Val := Elt F) (e := .i8) [⟨Rect.unit (s := S256x576) ![0, 512] S256x64.size inb_S256x576_S256x64_0_512, t⟩,
      ⟨Rect.unit (s := S256x576) ![0, 384] S256x128.size inb_S256x576_S256x128_0_384, w3⟩,
      ⟨Rect.unit (s := S256x576) ![0, 256] S256x128.size inb_S256x576_S256x128_0_256, w2⟩,
      ⟨Rect.unit (s := S256x576) ![0, 128] S256x128.size inb_S256x576_S256x128_0_128, w1⟩,
      ⟨Rect.unit (s := S256x576) ![0, 0] S256x128.size inb_S256x576_S256x128_0_0, w0⟩] = PK xg p := by
  subst ht h0 h1 h2 h3
  rfl

theorem read_pk {sig : RefSig} {k : Kind} {sp : Space} (v : View sig k sp S256x576 .i8) (f : v.ty.Contents (Elt F)) (xg : Elt F .f32)
    (p : Fin 9 → FVec F S256x128 .f32) (t : S256x64.Idx → Elt F .i8) (w0 w1 w2 w3 : S256x128.Idx → Elt F .i8)
    (ht : t = pkLast (codeBlk (qs xg p 8 64#32)))
    (h0 : w0 = pkPair (codeBlk (qs xg p 0 0#32)) (codeBlk (qs xg p 1 8#32)))
    (h1 : w1 = pkPair (codeBlk (qs xg p 2 16#32)) (codeBlk (qs xg p 3 24#32)))
    (h2 : w2 = pkPair (codeBlk (qs xg p 4 32#32)) (codeBlk (qs xg p 5 40#32)))
    (h3 : w3 = pkPair (codeBlk (qs xg p 6 48#32)) (codeBlk (qs xg p 7 56#32))) :
    v.read (Elt F) (v.writes (Elt F) f [⟨Rect.unit (s := S256x576) ![0, 512] S256x64.size inb_S256x576_S256x64_0_512, t⟩,
      ⟨Rect.unit (s := S256x576) ![0, 384] S256x128.size inb_S256x576_S256x128_0_384, w3⟩,
      ⟨Rect.unit (s := S256x576) ![0, 256] S256x128.size inb_S256x576_S256x128_0_256, w2⟩,
      ⟨Rect.unit (s := S256x576) ![0, 128] S256x128.size inb_S256x576_S256x128_0_128, w1⟩,
      ⟨Rect.unit (s := S256x576) ![0, 0] S256x128.size inb_S256x576_S256x128_0_0, w0⟩]) = PK xg p := by
  rw [View.read_writes_eq_canon _ _ _ (cover_pk t w0 w1 w2 w3)]
  exact canon_pk xg p t w0 w1 w2 w3 ht h0 h1 h2 h3

/-- The block of packed codes of a point: two tiles, one under the other. -/
def PKO (a b : Vec F S256x576 .i8) : Vec F S512x576 .i8 :=
  View.canon (Val := Elt F) (s := S512x576) (e := .i8)
    [⟨Rect.unit ![256, 0] S256x576.size inb_S512x576_S256x576_256_0, b⟩, ⟨Rect.unit ![0, 0] S256x576.size inb_S512x576_S256x576_0_0, a⟩]

/-- The block of scales of a point: two tiles, one under the other. -/
def SCO (a b : Vec F S256x72 .fp8e4m3) : Vec F S512x72 .fp8e4m3 :=
  View.canon (Val := Elt F) (s := S512x72) (e := .fp8e4m3)
    [⟨Rect.unit ![256, 0] S256x72.size inb_S512x72_S256x72_256_0, b⟩, ⟨Rect.unit ![0, 0] S256x72.size inb_S512x72_S256x72_0_0, a⟩]

theorem read_pko {sig : RefSig} {k : Kind} {sp : Space} (v : View sig k sp S512x576 .i8) (f : v.ty.Contents (Elt F))
    (a b a' b' : Vec F S256x576 .i8) (ha : a = a') (hb : b = b') :
    v.read (Elt F) (v.writes (Elt F) f [⟨Rect.unit ![256, 0] S256x576.size inb_S512x576_S256x576_256_0, b⟩,
      ⟨Rect.unit ![0, 0] S256x576.size inb_S512x576_S256x576_0_0, a⟩]) = PKO a' b' := by
  subst ha hb
  exact View.read_writes_eq_canon _ _ _ (View.cover_of_tiledL _ ![256, 576] (by rfl))

theorem read_sco {sig : RefSig} {k : Kind} {sp : Space} (v : View sig k sp S512x72 .fp8e4m3) (f : v.ty.Contents (Elt F))
    (a b a' b' : Vec F S256x72 .fp8e4m3) (ha : a = a') (hb : b = b') :
    v.read (Elt F) (v.writes (Elt F) f [⟨Rect.unit ![256, 0] S256x72.size inb_S512x72_S256x72_256_0, b⟩,
      ⟨Rect.unit ![0, 0] S256x72.size inb_S512x72_S256x72_0_0, a⟩]) = SCO a' b' := by
  subst ha hb
  exact View.read_writes_eq_canon _ _ _ (View.cover_of_tiledL _ ![256, 72] (by rfl))

end Cert.KernelIdeal.Val
-- ==== Proof.Value.TileAt.lean ====
/-
  What the quantiser leaves for a tile, read at an index.
-/
module

public import proofs.«01_k».proof.Proof.Value.Tile
public import proofs.«01_k».proof.Proof.Value.Spec

@[expose] public section

set_option maxRecDepth 16384

noncomputable section

namespace Cert.KernelIdeal.Val

open Cert.KernelIdeal Cert.KernelIdeal.Gen Cert.Spec
open Idealize.ShloMosaic

/-- Row `r` of a tile's products. -/
def rowOf (p : Fin 9 → FVec Ideal S256x128 .f32) (r : Fin 256) (c : Fin 1152) : EReal :=
  p ⟨c.val / 128, by have := c.isLt; omega⟩ (ix2 r ⟨c.val % 128, by omega⟩)

theorem rowOf_blk (p : Fin 9 → FVec Ideal S256x128 .f32) (r : Fin 256) (j : Fin 9) (l : Fin 128) (c : Fin 1152)
    (hc : c.val = 128 * j.val + l.val) : rowOf p r c = p j (ix2 r l) := by
  unfold rowOf
  have h1 : (⟨c.val / 128, by have := c.isLt; omega⟩ : Fin 9) = j := Fin.ext (by show c.val / 128 = _; omega)
  have h2 : (⟨c.val % 128, by omega⟩ : Fin 128) = l := Fin.ext (by show c.val % 128 = _; omega)
  rw [h1, h2]

theorem prods_apply (x : Vec Ideal S256x1152 .bf16) (sm : Vec Ideal S1x1152 .f32) (j : Fin 9) (r : Fin 256) (l : Fin 128)
    (c : Fin 1152) (hc : c.val = 128 * j.val + l.val) :
    prods (F := Ideal) x sm j (ix2 r l) = x (ix2 r c) * sm (ix2 0 c) := by
  fin_cases j <;> (unfold prods prod; pointwise [k0_pay113]; congr 2 <;> congr 1 <;> exact Fin.ext (by simp at hc ⊢; omega))

theorem rowOf_prods (x : Vec Ideal S256x1152 .bf16) (sm : Vec Ideal S1x1152 .f32) (r : Fin 256) (c : Fin 1152) :
    rowOf (prods (F := Ideal) x sm) r c = x (ix2 r c) * sm (ix2 0 c) := by
  unfold rowOf
  exact prods_apply x sm _ r _ c (by show _ = 128 * (c.val / 128) + c.val % 128; omega)

theorem amaxBlk_apply (p : FVec Ideal S256x128 .f32) (a : Fin 8) (r : Fin 256) :
    amaxBlk (F := Ideal) p (ix2 a r) = amaxOf fun k => p (ix2 r ⟨a.val * 16 + k.val, by have := a.isLt; have := k.isLt; omega⟩) := by
  unfold amaxBlk
  pointwise
  rfl

set_option maxHeartbeats 1600000 in
theorem scaleT_apply (xg : EReal) (p : Fin 9 → FVec Ideal S256x128 .f32) (g : Fin 72) (r : Fin 256) (j : Fin 9) (a : Fin 8)
    (hg : g.val = 8 * j.val + a.val) :
    scaleT (F := Ideal) xg p (ix2 g r) = sOf xg (amaxBlk (F := Ideal) (p j) (ix2 a r)) := by
  unfold scaleT
  pointwise
  refine (show _ = sOf xg _ from rfl).trans (congrArg (sOf xg) ?_)
  have ha := a.isLt
  fin_cases j <;> (simp at hg; split_ifs <;> first | omega | (congr 2; exact Fin.ext (by simp; omega)))

theorem scale_apply (xg : EReal) (p : Fin 9 → FVec Ideal S256x128 .f32) (g : Fin 72) (r : Fin 256) :
    scaleT (F := Ideal) xg p (ix2 g r) = scale xg (rowOf p r) g := by
  have hg := g.isLt
  rw [scaleT_apply xg p g r ⟨g.val / 8, by omega⟩ ⟨g.val % 8, by omega⟩ (by show _ = 8 * (g.val / 8) + g.val % 8; omega), amaxBlk_apply]
  unfold scale
  congr 2
  funext k
  have hk := k.isLt
  exact (rowOf_blk p r _ _ _ (by show g.val * 16 + k.val = 128 * (g.val / 8) + (g.val % 8 * 16 + k.val); omega)).symm

theorem scaleR_apply (xg : EReal) (p : Fin 9 → FVec Ideal S256x128 .f32) (r : Fin 256) (l : Fin 128) (g : Fin 72) (hl : l.val = g.val) :
    scaleR (F := Ideal) xg p (ix2 r l) = scale xg (rowOf p r) g := by
  unfold scaleR
  pointwise [k0_pay142]
  have hg := g.isLt
  rw [dif_pos (by omega), show (⟨l.val, by omega⟩ : Fin 72) = g from Fin.ext hl, scale_apply]

theorem SC_apply (xg : EReal) (p : Fin 9 → FVec Ideal S256x128 .f32) (r : Fin 256) (g : Fin 72) :
    SC (F := Ideal) xg p (ix2 r g) = scale xg (rowOf p r) g := by
  unfold SC
  pointwise [k0_pay143, k0_pay142]
  have hg := g.isLt
  try rw [dif_pos (by omega)]
  exact scale_apply xg p g r

theorem recipR_apply (xg : EReal) (s : FVec Ideal S256x128 .f32) (r : Fin 256) (l : Fin 128) :
    recipR (F := Ideal) xg s (ix2 r l) = Ideal.div 1 (s (ix2 r l) * xg) := by
  unfold recipR
  pointwise

theorem lane_apply : ∀ (j : Fin 9) (l : Fin 128), ∀ r : Fin 256,
    (laneIdx (BitVec.ofNat 32 (8 * j.val)) (ix2 r l)).toNat % 128 = 8 * j.val + l.val / 16 := by
  intro j l r
  unfold laneIdx
  pointwise
  revert j l
  decide +kernel

theorem qBlk_apply (rc p : FVec Ideal S256x128 .f32) (j : Fin 9) (r : Fin 256) (l : Fin 128) :
    qBlk (F := Ideal) rc p (BitVec.ofNat 32 (8 * j.val)) (ix2 r l)
      = kq (p (ix2 r l) * rc (ix2 r ⟨8 * j.val + l.val / 16, by have := j.isLt; have := l.isLt; omega⟩)) := by
  unfold qBlk
  have e := lane_apply j l r
  generalize laneIdx (BitVec.ofNat 32 (8 * j.val)) = L at e ⊢
  pointwise [k0_pay162]
  simp only [e]
  rfl

theorem xqBlk_apply (s : FVec Ideal S256x128 .f32) (q : FVec Ideal S256x128 .bf16) (j : Fin 9) (r : Fin 256) (l : Fin 128) :
    xqBlk (F := Ideal) s q (BitVec.ofNat 32 (8 * j.val)) (ix2 r l)
      = q (ix2 r l) * s (ix2 r ⟨8 * j.val + l.val / 16, by have := j.isLt; have := l.isLt; omega⟩) := by
  unfold xqBlk
  have e := lane_apply j l r
  generalize laneIdx (BitVec.ofNat 32 (8 * j.val)) = L at e ⊢
  pointwise
  simp only [e]

end Cert.KernelIdeal.Val

end
-- ==== Proof.Value.Bits.lean ====
/-
  Bytes of words: the codes are taken out of four bytes at a time, and put together two to a byte four at a time.
-/
module

public import Idealize.ShloMosaic.Lib.Pointwise
public import Idealize.ShloMosaic.Lib.BitcastFour

@[expose] public section

namespace Cert.Spec

open Idealize.ShloMosaic

/-- Byte `i` of a word. -/
def byteAt (w : BitVec 32) (i : ℕ) : BitVec 8 := w.extractLsb' (8 * i) 8

/-- The four-bit code of a byte: its bits 2 to 4 and its sign. -/
def nib (b : BitVec 8) : BitVec 8 := ((b >>> 2) &&& 7#8) ||| ((b >>> 4) &&& 8#8)

/-- Two codes in a byte, the first in the low half. -/
def pack2 (a b : BitVec 8) : BitVec 8 := a ||| (b <<< 4)

/-- The codes of a word's four bytes. -/
def nibW (w : BitVec 32) : BitVec 32 := ((w.sshiftRight 2) &&& 117901063#32) ||| ((w.sshiftRight 4) &&& 134744072#32)

theorem byteAt_nibW (w : BitVec 32) (i : ℕ) (hi : i < 4) : byteAt (nibW w) i = nib (byteAt w i) := by
  apply BitVec.eq_of_getLsbD_eq
  intro k hk
  unfold byteAt nibW nib
  interval_cases i <;> interval_cases k <;>
    simp [BitVec.getElem_sshiftRight, BitVec.getLsbD_extractLsb', BitVec.getLsbD_sshiftRight, BitVec.getLsbD_ofNat, Nat.testBit]

theorem byteAt_pack (a b : BitVec 32) (i : ℕ) (hi : i < 4) :
    byteAt (nibW a ||| (nibW b <<< 4)) i = pack2 (nib (byteAt a i)) (nib (byteAt b i)) := by
  apply BitVec.eq_of_getLsbD_eq
  intro k hk
  unfold byteAt nibW nib pack2
  interval_cases i <;> interval_cases k <;>
    simp [BitVec.getElem_sshiftRight, BitVec.getLsbD_extractLsb', BitVec.getLsbD_sshiftRight, BitVec.getLsbD_ofNat, Nat.testBit]

/-- A byte of a word made of bytes. -/
theorem byteAt_bitcast {R r n : ℕ} (x : (⟨2, ![R, n]⟩ : Shape).Idx → BitVec 8)
    (h : (⟨2, ![R, n]⟩ : Shape).Bitcasts 8 ⟨2, ![r, n]⟩ 32) (a : Fin r) (l : Fin n) (i : ℕ) (hi : i < 4) (p : Fin R)
    (hp : p.val = 4 * a.val + i) : byteAt (bitcast ⟨2, ![r, n]⟩ 32 x h (ix2 a l)) i = x (ix2 p l) := by
  apply BitVec.eq_of_getLsbD_eq
  intro k hk
  unfold byteAt
  rw [BitVec.getLsbD_extractLsb', ix2_eq_valueIdx, ix2_eq_valueIdx,
    bitcast_8_32_getLsbD_ix2 x h a l (8 * i + k) (by omega) p (by omega), show (8 * i + k) % 8 = k by omega]
  simp [hk]

/-- A word read as bytes. -/
theorem bitcast_byteAt {R r n : ℕ} (x : (⟨2, ![r, n]⟩ : Shape).Idx → BitVec 32)
    (h : (⟨2, ![r, n]⟩ : Shape).Bitcasts 32 ⟨2, ![R, n]⟩ 8) (p : Fin R) (l : Fin n) (a : Fin r) (i : ℕ) (hi : i < 4)
    (hp : p.val = 4 * a.val + i) : bitcast ⟨2, ![R, n]⟩ 8 x h (ix2 p l) = byteAt (x (ix2 a l)) i := by
  apply BitVec.eq_of_getLsbD_eq
  intro k hk
  unfold byteAt
  rw [BitVec.getLsbD_extractLsb', bitcast_getLsbD x h _ k hk (by decide)]
  have hrow : (⟨2, ![R, n]⟩ : Shape).row (ix2 p l) = p.val := rfl
  have ep : ((⟨2, ![R, n]⟩ : Shape).row (ix2 p l) * 8 + k) / 32 = a.val := by rw [hrow]; omega
  have eq : ((⟨2, ![R, n]⟩ : Shape).row (ix2 p l) * 8 + k) % 32 = 8 * i + k := by rw [hrow]; omega
  rw [eq]
  simp only [hk, decide_true, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by simp))

end Cert.Spec
-- ==== Proof.Value.TilePk.lean ====
/-
  What the quantiser packs for a tile, read at an index.
-/
module

public import proofs.«01_k».proof.Proof.Value.TileAt
public import proofs.«01_k».proof.Proof.Value.Bits

@[expose] public section

set_option maxRecDepth 16384

noncomputable section

namespace Cert.KernelIdeal.Val

open Cert.KernelIdeal Cert.KernelIdeal.Gen Cert.Spec
open Idealize.ShloMosaic

/-- A lane number brought into range. -/
abbrev wrapL (e : BitVec 32) : ℕ :=
  (Scalar.select (IntOp.cmpi CmpIPredicate.slt e 0#32) (IntOp.addi e 128#32) e).toNat % 128

theorem lane_lt : ∀ x : Fin 128, IntOp.cmpi CmpIPredicate.slt (BitVec.ofNat 32 x.val) 64#32 = if x.val < 64 then 1#1 else 0#1 := by
  decide +kernel

theorem wrap_lo : ∀ x : Fin 64, wrapL (IntOp.muli (2#32) (BitVec.ofNat 32 x.val)) = 2 * x.val := by decide +kernel
theorem wrap_lo' : ∀ x : Fin 64, wrapL (IntOp.addi (IntOp.muli (2#32) (BitVec.ofNat 32 x.val)) 1#32) = 2 * x.val + 1 := by decide +kernel
theorem wrap_hi : ∀ x : Fin 64, wrapL (IntOp.muli (2#32) (IntOp.subi (BitVec.ofNat 32 (x.val + 64)) 64#32)) = 2 * x.val := by
  decide +kernel
theorem wrap_hi' : ∀ x : Fin 64,
    wrapL (IntOp.addi (IntOp.muli (2#32) (IntOp.subi (BitVec.ofNat 32 (x.val + 64)) 64#32)) 1#32) = 2 * x.val + 1 := by
  decide +kernel

theorem sel1 {α : Type} (a b : α) : Scalar.select 1#1 a b = a := rfl
theorem sel0 {α : Type} (a b : α) : Scalar.select 0#1 a b = b := rfl

theorem pkPair_lo (a b : IVec S64x128 32) (r : Fin 256) (l : Fin 128) (k : Fin 64) (hk : l.val = k.val) :
    pkPair a b (ix2 r l) = byteAt (a (ix2 ⟨r.val / 4, by omega⟩ ⟨2 * k.val, by omega⟩)
      ||| (a (ix2 ⟨r.val / 4, by omega⟩ ⟨2 * k.val + 1, by omega⟩) <<< 4)) (r.val % 4) := by
  unfold pkPair k0_pay272
  pointwise [k0_pay271, k0_pay270, k0_pay266, k0_pay267, k0_pay268, k0_pay269]
  rw [bitcast_byteAt _ _ r l ⟨r.val / 4, by omega⟩ (r.val % 4) (by omega) (by show _ = 4 * (r.val / 4) + r.val % 4; omega)]
  pointwise [k0_pay271, k0_pay270, k0_pay266, k0_pay267, k0_pay268, k0_pay269]
  have hm : (k.val + 128 - 64) % 128 = k.val + 64 := by omega
  have h1 : IntOp.cmpi CmpIPredicate.slt (BitVec.ofNat 32 k.val) 64#32 = 1#1 := (lane_lt ⟨k.val, by omega⟩).trans (if_pos k.isLt)
  have h2 : IntOp.cmpi CmpIPredicate.slt (BitVec.ofNat 32 (k.val + 64)) 64#32 = 0#1 := by
    have := lane_lt ⟨k.val + 64, by omega⟩; rw [if_neg (by simp)] at this; exact this
  have e1 := wrap_lo k
  have e2 := wrap_hi' k
  simp only [wrapL] at e1 e2
  simp only [hm, hk, h1, h2, sel1, sel0, e1, e2]
  rfl

theorem pkPair_hi (a b : IVec S64x128 32) (r : Fin 256) (l : Fin 128) (k : Fin 64) (hk : l.val = k.val + 64) :
    pkPair a b (ix2 r l) = byteAt (b (ix2 ⟨r.val / 4, by omega⟩ ⟨2 * k.val, by omega⟩)
      ||| (b (ix2 ⟨r.val / 4, by omega⟩ ⟨2 * k.val + 1, by omega⟩) <<< 4)) (r.val % 4) := by
  unfold pkPair k0_pay272
  pointwise [k0_pay271, k0_pay270, k0_pay266, k0_pay267, k0_pay268, k0_pay269]
  rw [bitcast_byteAt _ _ r l ⟨r.val / 4, by omega⟩ (r.val % 4) (by omega) (by show _ = 4 * (r.val / 4) + r.val % 4; omega)]
  pointwise [k0_pay271, k0_pay270, k0_pay266, k0_pay267, k0_pay268, k0_pay269]
  have hm : (k.val + 64 + 128 - 64) % 128 = k.val := by omega
  have h1 : IntOp.cmpi CmpIPredicate.slt (BitVec.ofNat 32 k.val) 64#32 = 1#1 := (lane_lt ⟨k.val, by omega⟩).trans (if_pos k.isLt)
  have h2 : IntOp.cmpi CmpIPredicate.slt (BitVec.ofNat 32 (k.val + 64)) 64#32 = 0#1 := by
    have := lane_lt ⟨k.val + 64, by omega⟩; rw [if_neg (by simp)] at this; exact this
  have e1 := wrap_hi k
  have e2 := wrap_lo' k
  simp only [wrapL] at e1 e2
  simp only [hm, hk, h1, h2, sel1, sel0, e1, e2]
  rfl

theorem pkLast_apply (a : IVec S64x128 32) (r : Fin 256) (l : Fin 64) :
    pkLast a (ix2 r l) = byteAt (a (ix2 ⟨r.val / 4, by omega⟩ ⟨2 * l.val, by omega⟩)
      ||| (a (ix2 ⟨r.val / 4, by omega⟩ ⟨2 * l.val + 1, by omega⟩) <<< 4)) (r.val % 4) := by
  unfold pkLast k0_pay277
  pointwise [k0_pay270, k0_pay266, k0_pay267, k0_pay268, k0_pay269]
  rw [bitcast_byteAt _ _ r _ ⟨r.val / 4, by omega⟩ (r.val % 4) (by omega) (by show _ = 4 * (r.val / 4) + r.val % 4; omega)]
  pointwise [k0_pay270, k0_pay266, k0_pay267, k0_pay268, k0_pay269]
  have hm : (l.val + 128 - 64) % 128 = l.val + 64 := by omega
  have h1 : IntOp.cmpi CmpIPredicate.slt (BitVec.ofNat 32 l.val) 64#32 = 1#1 := (lane_lt ⟨l.val, by omega⟩).trans (if_pos l.isLt)
  have h2 : IntOp.cmpi CmpIPredicate.slt (BitVec.ofNat 32 (l.val + 64)) 64#32 = 0#1 := by
    have := lane_lt ⟨l.val + 64, by omega⟩; rw [if_neg (by simp)] at this; exact this
  have e1 := wrap_lo l
  have e2 := wrap_hi' l
  simp only [wrapL] at e1 e2
  simp only [hm, h1, h2, sel1, sel0, e1, e2]
  rfl

/-- The bytes of a block's values. -/
def byteVec (q : FVec Ideal S256x128 .bf16) : IVec S256x128 8 := fun i => byteOf (q i)

theorem codeBlk_apply (q : FVec Ideal S256x128 .bf16) (r : Fin 64) (l : Fin 128) :
    codeBlk (F := Ideal) q (ix2 r l) = nibW (bitcast S64x128 32 (byteVec q) bitcasts_S256x128_w8_S64x128_w32 (ix2 r l)) := by
  unfold codeBlk k0_pay159 k0_pay157 k0_pay156
  simp only []
  rw [show (trunci 8 _ natLt_8_32 : IVec S256x128 8) = byteVec q from ?_]
  · rfl
  · funext i
    idx_vars i
    pointwise [k0_pay152, k0_pay153, k0_pay154, k0_pay155]
    rfl

/-- A pair of codes of a block, in the byte they make. -/
theorem byte_code (q : FVec Ideal S256x128 .bf16) (r : Fin 256) (l l' : Fin 128) :
    byteAt (codeBlk (F := Ideal) q (ix2 ⟨r.val / 4, by omega⟩ l) ||| (codeBlk (F := Ideal) q (ix2 ⟨r.val / 4, by omega⟩ l') <<< 4)) (r.val % 4)
      = pack2 (nib (byteOf (q (ix2 r l)))) (nib (byteOf (q (ix2 r l')))) := by
  rw [codeBlk_apply, codeBlk_apply, byteAt_pack _ _ _ (by omega)]
  rw [byteAt_bitcast _ _ _ l (r.val % 4) (by omega) r (by show _ = 4 * (r.val / 4) + r.val % 4; omega),
    byteAt_bitcast _ _ _ l' (r.val % 4) (by omega) r (by show _ = 4 * (r.val / 4) + r.val % 4; omega)]
  rfl

end Cert.KernelIdeal.Val

end
-- ==== Proof.Value.Quant.lean ====
/-
  The two quantisers agree: the value found by rounding on the grid of a quotient's binade is the value its code stands for,
  and the byte made of that value carries the same code.
-/
module

public import proofs.«01_k».proof.Proof.Value.Spec
public import proofs.«01_k».proof.Proof.Value.Bits
public import Mathlib.Tactic.Linarith
public import Mathlib.Tactic.FieldSimp
public import Mathlib.Tactic.IntervalCases
public import Mathlib.Tactic.Positivity

@[expose] public section

noncomputable section

namespace Cert.Spec

open Idealize.ShloMosaic

theorem B_half : B 0x3F000000#32 = ((1 / 2 : ℝ) : EReal) := by
  simp [B, Ideal.ofBits, Ideal.ieee, -EReal.coe_mul]; norm_num
theorem B_one : B 0x3F800000#32 = ((1 : ℝ) : EReal) := by
  simp [B, Ideal.ofBits, Ideal.ieee, -EReal.coe_mul]; norm_num
theorem B_threehalf : B 0x3FC00000#32 = ((3 / 2 : ℝ) : EReal) := by
  simp [B, Ideal.ofBits, Ideal.ieee, -EReal.coe_mul]; norm_num
theorem B_two : B 0x40000000#32 = ((2 : ℝ) : EReal) := by
  simp [B, Ideal.ofBits, Ideal.ieee, -EReal.coe_mul]; norm_num
theorem B_three : B 0x40400000#32 = ((3 : ℝ) : EReal) := by
  simp [B, Ideal.ofBits, Ideal.ieee, -EReal.coe_mul]; norm_num
theorem B_four : B 0x40800000#32 = ((4 : ℝ) : EReal) := by
  simp [B, Ideal.ofBits, Ideal.ieee, -EReal.coe_mul]; norm_num
theorem B_six : B 0x40C00000#32 = ((6 : ℝ) : EReal) := by
  simp [B, Ideal.ofBits, Ideal.ieee, -EReal.coe_mul]; norm_num
theorem B_negsix : B 0xC0C00000#32 = ((-6 : ℝ) : EReal) := by
  simp [B, Ideal.ofBits, Ideal.ieee, -EReal.coe_mul]; norm_num
theorem B_448 : B 0x43E00000#32 = ((448 : ℝ) : EReal) := by
  simp [B, Ideal.ofBits, Ideal.ieee, -EReal.coe_mul]; norm_num

/-- A quotient of reals. -/
theorem div_real {y : ℝ} (h : y ≠ 0) (x : ℝ) : Ideal.div (x : EReal) (y : EReal) = ((x / y : ℝ) : EReal) := by
  rw [Ideal.div_coe h, ← EReal.coe_mul]; congr 1; field_simp

theorem rhe_near (r : ℝ) : |r - Ideal.roundHalfEven r| ≤ 1 / 2 ∧ (|r - Ideal.roundHalfEven r| = 1 / 2 → Even (Ideal.roundHalfEven r)) := by
  have h0 := Int.floor_le r
  have h1 := Int.lt_floor_add_one r
  unfold Ideal.roundHalfEven
  simp only []
  split_ifs with a b c
  · exact ⟨by rw [abs_le]; constructor <;> linarith, fun e => by rw [abs_of_nonneg (by linarith)] at e; linarith⟩
  · push_cast
    exact ⟨by rw [abs_le]; constructor <;> linarith, fun e => by rw [abs_of_nonpos (by linarith)] at e; linarith⟩
  · exact ⟨by rw [abs_le]; constructor <;> linarith, fun _ => c⟩
  · push_cast
    exact ⟨by rw [abs_le]; constructor <;> linarith, fun _ => by
      rw [Int.even_add_one]; exact c⟩

theorem rhe_eq {r : ℝ} {n : ℤ} (h : |r - n| ≤ 1 / 2) (he : |r - n| = 1 / 2 → Even n) : Ideal.roundHalfEven r = n := by
  obtain ⟨h', he'⟩ := rhe_near r
  generalize Ideal.roundHalfEven r = k at h' he' ⊢
  by_contra hne
  rw [abs_le] at h h'
  rcases lt_or_gt_of_ne hne with hlt | hlt
  · have : (k : ℝ) + 1 ≤ n := by exact_mod_cast hlt
    have e1 := he (by rw [abs_of_nonpos (by linarith)]; linarith)
    have e2 := he' (by rw [abs_of_nonneg (by linarith)]; linarith)
    have : (n : ℝ) = k + 1 := by linarith
    have : n = k + 1 := by exact_mod_cast this
    rw [this, Int.even_add_one] at e1
    exact e1 e2
  · have : (n : ℝ) + 1 ≤ k := by exact_mod_cast hlt
    have e1 := he (by rw [abs_of_nonneg (by linarith)]; linarith)
    have e2 := he' (by rw [abs_of_nonpos (by linarith)]; linarith)
    have : (k : ℝ) = n + 1 := by linarith
    have : k = n + 1 := by exact_mod_cast this
    rw [this, Int.even_add_one] at e2
    exact e2 e1

theorem rhe_neg (r : ℝ) : Ideal.roundHalfEven (-r) = -Ideal.roundHalfEven r := by
  obtain ⟨h, he⟩ := rhe_near r
  have e : |-r - ((-Ideal.roundHalfEven r : ℤ) : ℝ)| = |r - Ideal.roundHalfEven r| := by
    push_cast; rw [← abs_neg]; congr 1; ring
  exact rhe_eq (by rw [e]; exact h) (fun h2 => (he (by rw [← e]; exact h2)).neg)

/-- The rounded magnitude, of a real. -/
def rmR (y : ℝ) : ℝ :=
  if y < 2 then (Ideal.roundHalfEven (2 * y) : ℝ) / 2 else if y < 4 then (Ideal.roundHalfEven y : ℝ) else 2 * (Ideal.roundHalfEven (y / 2) : ℝ)

theorem rmR_grid (y : ℝ) (h0 : 0 ≤ y) (h6 : y ≤ 6) :
    rmR y = 0 ∨ rmR y = 1 / 2 ∨ rmR y = 1 ∨ rmR y = 3 / 2 ∨ rmR y = 2 ∨ rmR y = 3 ∨ rmR y = 4 ∨ rmR y = 6 := by
  unfold rmR
  split_ifs with a b
  · obtain ⟨h, he⟩ := rhe_near (2 * y)
    generalize Ideal.roundHalfEven (2 * y) = n at h he ⊢
    rw [abs_le] at h
    have l : (-1 : ℝ) < n := by linarith
    have u : (n : ℝ) < 5 := by linarith
    have l' : -1 < n := by exact_mod_cast l
    have u' : n < 5 := by exact_mod_cast u
    interval_cases n <;> norm_num
  · obtain ⟨h, he⟩ := rhe_near y
    generalize Ideal.roundHalfEven y = n at h he ⊢
    rw [abs_le] at h
    have l : (1 : ℝ) < n := by linarith
    have u : (n : ℝ) < 5 := by linarith
    have l' : 1 < n := by exact_mod_cast l
    have u' : n < 5 := by exact_mod_cast u
    interval_cases n <;> norm_num
  · obtain ⟨h, he⟩ := rhe_near (y / 2)
    generalize Ideal.roundHalfEven (y / 2) = n at h he ⊢
    rw [abs_le] at h
    have l : (1 : ℝ) < n := by linarith
    have u : (n : ℝ) < 4 := by linarith
    have l' : 1 < n := by exact_mod_cast l
    have u' : n < 4 := by exact_mod_cast u
    interval_cases n <;> norm_num

theorem rmagOf_real (y : ℝ) : rmagOf (y : EReal) = (rmR y : EReal) := by
  unfold rmagOf rmR rnd
  rw [B_two, B_four, div_real (by norm_num) y]
  simp only [EReal.coe_lt_coe_iff]
  split_ifs
  · rw [← EReal.coe_mul, Ideal.liftRound_coe, div_real (by norm_num)]
  · rw [Ideal.liftRound_coe]
  · rw [Ideal.liftRound_coe, ← EReal.coe_mul]

theorem mag_real (x : ℝ) : mag (x : EReal) = ((|x| : ℝ) : EReal) := by
  unfold mag
  rw [← EReal.coe_neg, abs_eq_max_neg]
  exact (EReal.coe_strictMono.monotone.map_max).symm

/-- The value on the grid of a clamped quotient. -/
def sgnR (x : ℝ) : ℝ := if x < 0 then -rmR |x| else rmR |x|

theorem scaled_round (x : ℝ) : ((Ideal.roundHalfEven x : ℤ) : ℝ) = if x < 0 then -(Ideal.roundHalfEven |x| : ℝ) else (Ideal.roundHalfEven |x| : ℝ) := by
  split_ifs with h
  · rw [abs_of_neg h, rhe_neg]; push_cast; ring
  · rw [abs_of_nonneg (by linarith)]

theorem kq_core (x : ℝ) (c : EReal) (hc : c = (x : EReal)) :
    rnd (c * Ideal.div (B 0x40000000#32) (if mag c < B 0x40000000#32 then 1 else if mag c < B 0x40800000#32 then B 0x40000000#32 else B 0x40800000#32))
      * (B 0x3F000000#32 * (if mag c < B 0x40000000#32 then 1 else if mag c < B 0x40800000#32 then B 0x40000000#32 else B 0x40800000#32))
      = (sgnR x : EReal) := by
  subst hc
  have key : ∀ (u : ℝ) (_ : 0 < u), rnd ((x : EReal) * Ideal.div ((2 : ℝ) : EReal) (u : EReal)) * (((1 / 2 : ℝ) : EReal) * (u : EReal))
      = ((if x < 0 then -((Ideal.roundHalfEven (|x| * (2 / u)) : ℝ) * (1 / 2 * u)) else (Ideal.roundHalfEven (|x| * (2 / u)) : ℝ) * (1 / 2 * u) : ℝ) : EReal) := by
    intro u hu
    have hp : 0 < 2 / u := by positivity
    rw [div_real hu.ne', ← EReal.coe_mul, ← EReal.coe_mul]
    unfold rnd
    rw [Ideal.liftRound_coe, ← EReal.coe_mul, scaled_round]
    congr 1
    have hs : x * (2 / u) < 0 ↔ x < 0 := by
      constructor
      · intro h; by_contra h'; have := mul_nonneg (not_lt.mp h') hp.le; linarith
      · intro h; exact mul_neg_of_neg_of_pos h hp
    rw [abs_mul, abs_of_pos hp]
    by_cases h : x < 0
    · rw [if_pos h, if_pos (hs.mpr h)]; ring
    · rw [if_neg h, if_neg (fun h' => h (hs.mp h'))]
  rw [mag_real, B_half, B_two, B_four]
  simp only [EReal.coe_lt_coe_iff]
  unfold sgnR rmR
  by_cases a : |x| < 2
  · have k := key 1 one_pos
    rw [EReal.coe_one] at k
    simp only [a, if_true]
    rw [k, show |x| * (2 / 1) = 2 * |x| by ring]
    congr 1
    split_ifs <;> ring
  · by_cases b : |x| < 4
    · have k := key 2 two_pos
      simp only [a, b, if_true, if_false]
      rw [k, show |x| * (2 / 2) = |x| by ring]
      congr 1
      split_ifs <;> ring
    · have k := key 4 (by norm_num)
      simp only [a, b, if_false]
      rw [k, show |x| * (2 / 4) = |x| / 2 by ring]
      congr 1
      split_ifs <;> ring

/-- A clamped quotient is a real of magnitude at most six, of the quotient's sign. -/
theorem clamp_real (t : EReal) : ∃ x : ℝ, min (B 0x40C00000#32) (max (B 0xC0C00000#32) t) = (x : EReal)
    ∧ min (mag t) (B 0x40C00000#32) = ((|x| : ℝ) : EReal) ∧ |x| ≤ 6 ∧ (t < 0 ↔ x < 0) := by
  rw [B_six, B_negsix]
  induction t using EReal.rec with
  | bot => exact ⟨-6, by rw [max_eq_left bot_le, min_eq_right (EReal.coe_le_coe_iff.mpr (by norm_num))], by simp [mag], by norm_num, by simp⟩
  | top => exact ⟨6, by simp, by simp [mag], by norm_num, by simp⟩
  | coe r =>
    have e1 : min ((6 : ℝ) : EReal) (max ((-6 : ℝ) : EReal) (r : EReal)) = ((min 6 (max (-6) r) : ℝ) : EReal) := by
      rw [← EReal.coe_strictMono.monotone.map_max, ← EReal.coe_strictMono.monotone.map_min]
    refine ⟨min 6 (max (-6) r), e1, ?_, ?_, ?_⟩
    · rw [mag_real, ← EReal.coe_strictMono.monotone.map_min]
      congr 1
      rcases le_total r 0 with h | h
      · rw [abs_of_nonpos h, min_eq_right (max_le (by norm_num) (by linarith)), abs_of_nonpos (max_le (by norm_num) h)]
        rcases le_total (-6) r with h' | h'
        · rw [max_eq_right h', min_eq_left (by linarith)]
        · rw [max_eq_left h', min_eq_right (by linarith)]; norm_num
      · rw [abs_of_nonneg h, max_eq_right (by linarith), abs_of_nonneg (le_min (by norm_num) h), min_comm]
    · rw [abs_le]
      exact ⟨le_min (by norm_num) (le_max_left _ _), min_le_left _ _⟩
    · rw [← EReal.coe_zero, EReal.coe_lt_coe_iff, min_lt_iff, max_lt_iff]
      constructor
      · intro h; exact Or.inr ⟨by norm_num, h⟩
      · rintro (h | h)
        · norm_num at h
        · exact h.2

theorem kq_grid (t : EReal) : ∃ v : ℝ, (v = 0 ∨ v = 1 / 2 ∨ v = 1 ∨ v = 3 / 2 ∨ v = 2 ∨ v = 3 ∨ v = 4 ∨ v = 6)
    ∧ rmag t = (v : EReal) ∧ kq t = ((if t < 0 then -v else v : ℝ) : EReal) := by
  obtain ⟨x, h1, h2, h3, h4⟩ := clamp_real t
  refine ⟨rmR |x|, rmR_grid _ (abs_nonneg x) h3, ?_, ?_⟩
  · unfold rmag; rw [h2, rmagOf_real]
  · unfold kq
    rw [kq_core x _ h1]
    unfold sgnR
    congr 1
    by_cases h : t < 0
    · rw [if_pos h, if_pos (h4.mp h)]
    · rw [if_neg h, if_neg (fun h' => h (h4.mpr h'))]

theorem mcode_real (v : ℝ) : mcode (v : EReal)
    = Ideal.fptosi 32 ((if v < 2 then 2 * v else if v < 4 then v + 2 else v / 2 + 4 : ℝ) : EReal) := by
  show Ideal.fptosi 32 _ = _
  rw [B_two, B_four, div_real (by norm_num)]
  simp only [EReal.coe_lt_coe_iff, ← EReal.coe_mul, ← EReal.coe_add]
  congr 1
  split_ifs <;> rfl

theorem fptosi_nat (n : ℕ) (h : n < 8) : Ideal.fptosi 32 ((n : ℝ) : EReal) = BitVec.ofNat 32 n := by
  unfold Ideal.fptosi
  rw [Ideal.toIntClamped_coe]
  interval_cases n <;> norm_num <;> rfl

theorem mcode_grid (v : ℝ) (n : ℕ) (h : n < 8) (e : (if v < 2 then 2 * v else if v < 4 then v + 2 else v / 2 + 4 : ℝ) = n) :
    mcode (v : EReal) = BitVec.ofNat 32 n := by
  rw [mcode_real, e, fptosi_nat n h]

/-- The byte of a real. -/
theorem byteOf_real (q : ℝ) : byteOf (q : EReal) =
    (let n : BitVec 32 := 0#32 + (if 1 / 2 ≤ |q| then 4#32 else 0#32) + (if 1 ≤ |q| then 4#32 else 0#32)
      + (if 3 / 2 ≤ |q| then 4#32 else 0#32) + (if 2 ≤ |q| then 4#32 else 0#32)
      + (if 3 ≤ |q| then 4#32 else 0#32) + (if 4 ≤ |q| then 4#32 else 0#32) + (if 6 ≤ |q| then 4#32 else 0#32)
    (if q < 0 then n ||| 128#32 else n).setWidth 8) := by
  unfold byteOf
  rw [mag_real, B_half, B_threehalf, B_two, B_three, B_four, B_six, ← EReal.coe_one, ← EReal.coe_zero]
  simp only [EReal.coe_le_coe_iff, EReal.coe_lt_coe_iff]

/-- The two quantisers' values and codes are the same. -/
theorem quant (t : EReal) : kq t = dval (rcode t) ∧ nib (byteOf (kq t)) = (rcode t).setWidth 8 := by
  obtain ⟨v, hv, hm, hq⟩ := kq_grid t
  have hpos : 0 < rmag t ↔ 0 < v := by rw [hm, ← EReal.coe_zero, EReal.coe_lt_coe_iff]
  have key : ∀ (n : ℕ) (_ : n < 8) (_ : (if v < 2 then 2 * v else if v < 4 then v + 2 else v / 2 + 4 : ℝ) = n)
      (_ : dmag (BitVec.ofNat 32 n) = (v : EReal)) (_ : dmag (BitVec.ofNat 32 n ||| 8#32) = (v : EReal)) (_ : n = 0 ↔ v = 0)
      (_ : nib (byteOf (v : EReal)) = BitVec.ofNat 8 n)
      (_ : 0 < v → nib (byteOf ((-v : ℝ) : EReal)) = BitVec.ofNat 8 n ||| 8#8),
      kq t = dval (rcode t) ∧ nib (byteOf (kq t)) = (rcode t).setWidth 8 := by
    intro n hn e d1 d2 h0 b1 b2
    have hb8 : bitOf (BitVec.ofNat 32 n) 8#32 = 0#1 := by interval_cases n <;> rfl
    have hb8' : bitOf (BitVec.ofNat 32 n ||| 8#32) 8#32 = 1#1 := by interval_cases n <;> rfl
    have hw : (BitVec.ofNat 32 n).setWidth 8 = BitVec.ofNat 8 n := by interval_cases n <;> rfl
    have hw' : (BitVec.ofNat 32 n ||| 8#32).setWidth 8 = BitVec.ofNat 8 n ||| 8#8 := by interval_cases n <;> rfl
    have hr : rcode t = if t < 0 ∧ 0 < v then BitVec.ofNat 32 n ||| 8#32 else BitVec.ofNat 32 n := by
      unfold rcode
      simp only [hpos]
      rw [hm, mcode_grid v n hn e]
    rw [hr, hq]
    by_cases ht : t < 0
    · by_cases hp : 0 < v
      · rw [if_pos ht, if_pos ⟨ht, hp⟩]
        refine ⟨?_, by rw [b2 hp, hw']⟩
        unfold dval
        rw [hb8', d2]
        show _ = 0 - (v : EReal)
        rw [zero_sub, EReal.coe_neg]
      · have hv0 : v = 0 := by rcases hv with h | h | h | h | h | h | h | h <;> subst h <;> first | rfl | (exfalso; norm_num at hp)
        rw [if_pos ht, if_neg (fun h => hp h.2), show -v = v by rw [hv0]; norm_num]
        refine ⟨?_, by rw [b1, hw]⟩
        unfold dval
        rw [hb8, d1]
        rfl
    · rw [if_neg ht, if_neg (fun h => ht h.1)]
      refine ⟨?_, by rw [b1, hw]⟩
      unfold dval
      rw [hb8, d1]
      rfl
  rcases hv with h | h | h | h | h | h | h | h <;> subst h
  · exact key 0 (by norm_num) (by norm_num) rfl rfl (by norm_num) (by rw [byteOf_real]; norm_num; rfl) (fun h => absurd h (lt_irrefl _))
  · exact key 1 (by norm_num) (by norm_num) B_half B_half (by norm_num) (by rw [byteOf_real]; norm_num; rfl) (fun _ => by rw [byteOf_real]; norm_num; rfl)
  · exact key 2 (by norm_num) (by norm_num) rfl rfl (by norm_num) (by rw [byteOf_real]; norm_num; rfl) (fun _ => by rw [byteOf_real]; norm_num; rfl)
  · exact key 3 (by norm_num) (by norm_num) B_threehalf B_threehalf (by norm_num) (by rw [byteOf_real]; norm_num; rfl) (fun _ => by rw [byteOf_real]; norm_num; rfl)
  · exact key 4 (by norm_num) (by norm_num) B_two B_two (by norm_num) (by rw [byteOf_real]; norm_num; rfl) (fun _ => by rw [byteOf_real]; norm_num; rfl)
  · exact key 5 (by norm_num) (by norm_num) B_three B_three (by norm_num) (by rw [byteOf_real]; norm_num; rfl) (fun _ => by rw [byteOf_real]; norm_num; rfl)
  · exact key 6 (by norm_num) (by norm_num) B_four B_four (by norm_num) (by rw [byteOf_real]; norm_num; rfl) (fun _ => by rw [byteOf_real]; norm_num; rfl)
  · exact key 7 (by norm_num) (by norm_num) B_six B_six (by norm_num) (by rw [byteOf_real]; norm_num; rfl) (fun _ => by rw [byteOf_real]; norm_num; rfl)

/-- The byte of two quotients' codes. -/
theorem pack_quant (t u : EReal) : pack2 (nib (byteOf (kq t))) (nib (byteOf (kq u))) = (rcode t ||| (rcode u <<< 4)).setWidth 8 := by
  rw [(quant t).2, (quant u).2]
  unfold pack2
  generalize rcode t = a
  generalize rcode u = b
  apply BitVec.eq_of_getLsbD_eq
  intro k hk
  interval_cases k <;> simp

end Cert.Spec

end
-- ==== Proof.Value.TileVal.lean ====
/-
  A tile's decoded activations and packed codes are those of the quotients of its products by their scales.
-/
module

public import proofs.«01_k».proof.Proof.Value.TilePk
public import proofs.«01_k».proof.Proof.Value.Quant
public import Idealize.ShloMosaic.Lib.Pipeline.ReadBack

@[expose] public section

set_option maxRecDepth 16384

noncomputable section

namespace Cert.KernelIdeal.Val

open Cert.KernelIdeal Cert.KernelIdeal.Gen Cert.Spec
open Idealize.ShloMosaic

theorem scale_ne_zero (xg : EReal) (P : Fin 1152 → EReal) (g : Fin 72) : scale xg P g ≠ 0 := by
  unfold scale sOf
  split_ifs with h
  · exact one_ne_zero
  · exact h

theorem mul_div_one (a : EReal) {d : EReal} (h : d ≠ 0) : a * Ideal.div 1 d = Ideal.div a d := by
  unfold Ideal.div
  rw [if_neg h, if_neg h, one_mul]

variable (xg : EReal) (hxg : xg ≠ 0) (p : Fin 9 → FVec Ideal S256x128 .f32)

include hxg in
theorem qs_apply (j : Fin 9) (b : BitVec 32) (hb : b = BitVec.ofNat 32 (8 * j.val)) (r : Fin 256) (l : Fin 128) (c : Fin 1152)
    (hc : c.val = 128 * j.val + l.val) : qs (F := Ideal) xg p j b (ix2 r l) = kq (quot xg (rowOf p r) c) := by
  subst hb
  unfold qs quot
  rw [qBlk_apply, recipR_apply, scaleR_apply xg p r _ ⟨c.val / 16, by omega⟩ (by show 8 * j.val + l.val / 16 = c.val / 16; omega),
    mul_div_one _ (mul_ne_zero (scale_ne_zero _ _ _) hxg), rowOf_blk p r j l c hc]

include hxg in
theorem xq_apply (j : Fin 9) (b : BitVec 32) (hb : b = BitVec.ofNat 32 (8 * j.val)) (r : Fin 256) (l : Fin 128) (c : Fin 1152)
    (hc : c.val = 128 * j.val + l.val) :
    xqBlk (F := Ideal) (scaleR xg p) (qs (F := Ideal) xg p j b) b (ix2 r l) = deq xg (rowOf p r) c := by
  have hq := qs_apply xg hxg p j b hb r l c hc
  generalize qs (F := Ideal) xg p j b = q at hq ⊢
  subst hb
  rw [xqBlk_apply, hq, scaleR_apply xg p r _ ⟨c.val / 16, by omega⟩ (by show 8 * j.val + l.val / 16 = c.val / 16; omega), (quant _).1]
  rfl

/-- A store of a block of columns, as the columns it leaves. -/
theorem emb_cols {n N w o : ℕ} (inb : ∀ a, (![0, o] : Fin 2 → ℕ) a + (![n, w] : Fin 2 → ℕ) a ≤ (⟨2, ![n, N]⟩ : Shape).size a)
    (r : Fin n) (l : Fin w) (h : o + l.val < N) :
    (Rect.unit (s := ⟨2, ![n, N]⟩) ![0, o] ![n, w] inb).emb (ix2 r l) = ix2 r ⟨o + l.val, h⟩ := by
  funext a
  match a with
  | ⟨0, _⟩ => exact Fin.ext (by show 0 + 1 * r.val = r.val; omega)
  | ⟨1, _⟩ => exact Fin.ext (by show o + 1 * l.val = o + l.val; omega)

theorem emb_rows {n N w o : ℕ} (inb : ∀ a, (![o, 0] : Fin 2 → ℕ) a + (![n, w] : Fin 2 → ℕ) a ≤ (⟨2, ![N, w]⟩ : Shape).size a)
    (r : Fin n) (l : Fin w) (h : o + r.val < N) :
    (Rect.unit (s := ⟨2, ![N, w]⟩) ![o, 0] ![n, w] inb).emb (ix2 r l) = ix2 ⟨o + r.val, h⟩ l := by
  funext a
  match a with
  | ⟨0, _⟩ => exact Fin.ext (by show o + 1 * r.val = o + r.val; omega)
  | ⟨1, _⟩ => exact Fin.ext (by show 0 + 1 * l.val = l.val; omega)

theorem idx2_eq {n m : ℕ} (x : (⟨2, ![n, m]⟩ : Shape).Idx) : ∃ (r : Fin n) (l : Fin m), x = ix2 r l :=
  ⟨x 0, x 1, funext fun a => match a with | ⟨0, _⟩ => rfl | ⟨1, _⟩ => rfl⟩

theorem piece_cols {α : Type} {n N w o : ℕ} (G : (⟨2, ![n, N]⟩ : Shape).Idx → α) (v : (⟨2, ![n, w]⟩ : Shape).Idx → α)
    (inb : ∀ a, (![0, o] : Fin 2 → ℕ) a + (![n, w] : Fin 2 → ℕ) a ≤ (⟨2, ![n, N]⟩ : Shape).size a) (ho : o + w ≤ N)
    (h : ∀ (r : Fin n) (l : Fin w), v (ix2 r l) = G (ix2 r ⟨o + l.val, by omega⟩)) (x : (⟨2, ![n, w]⟩ : Shape).Idx) :
    v x = G ((Rect.unit (s := ⟨2, ![n, N]⟩) ![0, o] ![n, w] inb).emb x) := by
  obtain ⟨r, l, rfl⟩ := idx2_eq x
  rw [emb_cols inb r l (by omega)]
  exact h r l

theorem piece_rows {α : Type} {n N w o : ℕ} (G : (⟨2, ![N, w]⟩ : Shape).Idx → α) (v : (⟨2, ![n, w]⟩ : Shape).Idx → α)
    (inb : ∀ a, (![o, 0] : Fin 2 → ℕ) a + (![n, w] : Fin 2 → ℕ) a ≤ (⟨2, ![N, w]⟩ : Shape).size a) (ho : o + n ≤ N)
    (h : ∀ (r : Fin n) (l : Fin w), v (ix2 r l) = G (ix2 ⟨o + r.val, by omega⟩ l)) (x : (⟨2, ![n, w]⟩ : Shape).Idx) :
    v x = G ((Rect.unit (s := ⟨2, ![N, w]⟩) ![o, 0] ![n, w] inb).emb x) := by
  obtain ⟨r, l, rfl⟩ := idx2_eq x
  rw [emb_rows inb r l (by omega)]
  exact h r l

/-- The kept products, as an array. -/
def gXS : S256x1152.Idx → Elt Ideal .bf16 := fun y => rowOf p (y 0) (y 1)

/-- The kept products are the products. -/
theorem XS_apply (r : Fin 256) (c : Fin 1152) : XS (F := Ideal) p (ix2 r c) = rowOf p r c := by
  have blk : ∀ (j : Fin 9) (r : Fin 256) (l : Fin 128) (c : Fin 1152) (_ : c.val = 128 * j.val + l.val),
      keepBlk (F := Ideal) (p j) (ix2 r l) = rowOf p r c := by
    intro j r l c hc
    rw [rowOf_blk p r j l c hc]
    unfold keepBlk
    pointwise
  unfold XS
  rw [← List.append_nil (_ :: _)]
  refine View.canon_append_of_piecesOf (Val := Elt Ideal) (gXS p) [] _ ?_ _ (cover_xs (F := Ideal) _ _ _ _ _ _ _ _ _ _)
  exact ⟨fun x => piece_cols (n := 256) (N := 1152) (w := 128) (o := 1024) (gXS p) _ inb_S256x1152_S256x128_0_1024 (by norm_num) (fun r l => blk 8 r l _ rfl) x,
    fun x => piece_cols (n := 256) (N := 1152) (w := 128) (o := 896) (gXS p) _ inb_S256x1152_S256x128_0_896 (by norm_num) (fun r l => blk 7 r l _ rfl) x,
    fun x => piece_cols (n := 256) (N := 1152) (w := 128) (o := 768) (gXS p) _ inb_S256x1152_S256x128_0_768 (by norm_num) (fun r l => blk 6 r l _ rfl) x,
    fun x => piece_cols (n := 256) (N := 1152) (w := 128) (o := 640) (gXS p) _ inb_S256x1152_S256x128_0_640 (by norm_num) (fun r l => blk 5 r l _ rfl) x,
    fun x => piece_cols (n := 256) (N := 1152) (w := 128) (o := 512) (gXS p) _ inb_S256x1152_S256x128_0_512 (by norm_num) (fun r l => blk 4 r l _ rfl) x,
    fun x => piece_cols (n := 256) (N := 1152) (w := 128) (o := 384) (gXS p) _ inb_S256x1152_S256x128_0_384 (by norm_num) (fun r l => blk 3 r l _ rfl) x,
    fun x => piece_cols (n := 256) (N := 1152) (w := 128) (o := 256) (gXS p) _ inb_S256x1152_S256x128_0_256 (by norm_num) (fun r l => blk 2 r l _ rfl) x,
    fun x => piece_cols (n := 256) (N := 1152) (w := 128) (o := 128) (gXS p) _ inb_S256x1152_S256x128_0_128 (by norm_num) (fun r l => blk 1 r l _ rfl) x,
    fun x => piece_cols (n := 256) (N := 1152) (w := 128) (o := 0) (gXS p) _ inb_S256x1152_S256x128_0_0 (by norm_num) (fun r l => blk 0 r l _ rfl) x, trivial⟩

/-- The projection of a row of products onto column `l` of the low-rank factor. -/
def proj (P : Fin 1152 → EReal) (ld : Vec Ideal S1152x128 .bf16) (l : Fin 128) : EReal := ∑ k : Fin 1152, P k * ld (ix2 k l)

theorem tail_apply (ld : Vec Ideal S1152x128 .bf16) (r : Fin 256) (l : Fin 128) :
    k0_pay3 (F := Ideal) (XS (F := Ideal) p) ld (ix2 r l) = proj (rowOf p r) ld l := by
  have h := XS_apply p
  generalize XS (F := Ideal) p = X at h ⊢
  pointwise [k0_pay3]
  simp only [h]
  rfl

/-- What a tile leaves for the matrix product, at an index. -/
def xqAt (ld : Vec Ideal S1152x128 .bf16) (P : Fin 1152 → EReal) (c : Fin 1280) : EReal :=
  if h : c.val < 1152 then deq xg P ⟨c.val, h⟩ else proj P ld ⟨c.val - 1152, by omega⟩

/-- What a tile leaves for the matrix product, as an array. -/
def gXQ (ld : Vec Ideal S1152x128 .bf16) : S256x1280.Idx → Elt Ideal .bf16 := fun y => xqAt xg ld (rowOf p (y 0)) (y 1)

include hxg in
theorem XQ_apply (ld : Vec Ideal S1152x128 .bf16) (r : Fin 256) (c : Fin 1280) :
    XQ (F := Ideal) xg ld p (ix2 r c) = xqAt xg ld (rowOf p r) c := by
  have blk : ∀ (j : Fin 9) (b : BitVec 32) (_ : b = BitVec.ofNat 32 (8 * j.val)) (r : Fin 256) (l : Fin 128) (c : Fin 1280) (_ : c.val = 128 * j.val + l.val),
      xqBlk (F := Ideal) (scaleR xg p) (qs (F := Ideal) xg p j b) b (ix2 r l) = xqAt xg ld (rowOf p r) c := by
    intro j b hb r l c hc
    unfold xqAt
    rw [dif_pos (by omega), xq_apply xg hxg p j b hb r l ⟨c.val, by omega⟩ hc]
  have tl : ∀ (r : Fin 256) (l : Fin 128) (c : Fin 1280) (_ : c.val = 1152 + l.val),
      k0_pay3 (F := Ideal) (XS (F := Ideal) p) ld (ix2 r l) = xqAt xg ld (rowOf p r) c := by
    intro r l c hc
    unfold xqAt
    rw [dif_neg (by omega), tail_apply]
    congr 1
    exact Fin.ext (by show l.val = c.val - 1152; omega)
  unfold XQ
  rw [← List.append_nil (_ :: _)]
  refine View.canon_append_of_piecesOf (Val := Elt Ideal) (gXQ xg p ld) [] _ ?_ _ (cover_xq (F := Ideal) _ _ _ _ _ _ _ _ _ _ _)
  exact ⟨fun x => piece_cols (n := 256) (N := 1280) (w := 128) (o := 1152) (gXQ xg p ld) _ inb_S256x1280_S256x128_0_1152 (by norm_num) (fun r l => tl r l _ rfl) x,
    fun x => piece_cols (n := 256) (N := 1280) (w := 128) (o := 1024) (gXQ xg p ld) _ inb_S256x1280_S256x128_0_1024 (by norm_num) (fun r l => blk 8 _ rfl r l _ rfl) x,
    fun x => piece_cols (n := 256) (N := 1280) (w := 128) (o := 896) (gXQ xg p ld) _ inb_S256x1280_S256x128_0_896 (by norm_num) (fun r l => blk 7 _ rfl r l _ rfl) x,
    fun x => piece_cols (n := 256) (N := 1280) (w := 128) (o := 768) (gXQ xg p ld) _ inb_S256x1280_S256x128_0_768 (by norm_num) (fun r l => blk 6 _ rfl r l _ rfl) x,
    fun x => piece_cols (n := 256) (N := 1280) (w := 128) (o := 640) (gXQ xg p ld) _ inb_S256x1280_S256x128_0_640 (by norm_num) (fun r l => blk 5 _ rfl r l _ rfl) x,
    fun x => piece_cols (n := 256) (N := 1280) (w := 128) (o := 512) (gXQ xg p ld) _ inb_S256x1280_S256x128_0_512 (by norm_num) (fun r l => blk 4 _ rfl r l _ rfl) x,
    fun x => piece_cols (n := 256) (N := 1280) (w := 128) (o := 384) (gXQ xg p ld) _ inb_S256x1280_S256x128_0_384 (by norm_num) (fun r l => blk 3 _ rfl r l _ rfl) x,
    fun x => piece_cols (n := 256) (N := 1280) (w := 128) (o := 256) (gXQ xg p ld) _ inb_S256x1280_S256x128_0_256 (by norm_num) (fun r l => blk 2 _ rfl r l _ rfl) x,
    fun x => piece_cols (n := 256) (N := 1280) (w := 128) (o := 128) (gXQ xg p ld) _ inb_S256x1280_S256x128_0_128 (by norm_num) (fun r l => blk 1 _ rfl r l _ rfl) x,
    fun x => piece_cols (n := 256) (N := 1280) (w := 128) (o := 0) (gXQ xg p ld) _ inb_S256x1280_S256x128_0_0 (by norm_num) (fun r l => blk 0 _ rfl r l _ rfl) x, trivial⟩

/-- The packed codes of a tile, as an array. -/
def gPK : S256x576.Idx → Elt Ideal .i8 := fun y => packB xg (rowOf p (y 0)) (y 1)

include hxg in
theorem PK_apply (r : Fin 256) (k : Fin 576) : PK (F := Ideal) xg p (ix2 r k) = packB xg (rowOf p r) k := by
  have one : ∀ (j : Fin 9) (b : BitVec 32) (_ : b = BitVec.ofNat 32 (8 * j.val)) (r : Fin 256) (l : Fin 64) (k : Fin 576)
      (_ : k.val = 64 * j.val + l.val),
      byteAt (codeBlk (F := Ideal) (qs (F := Ideal) xg p j b) (ix2 ⟨r.val / 4, by omega⟩ ⟨2 * l.val, by omega⟩)
        ||| (codeBlk (F := Ideal) (qs (F := Ideal) xg p j b) (ix2 ⟨r.val / 4, by omega⟩ ⟨2 * l.val + 1, by omega⟩) <<< 4)) (r.val % 4)
      = packB xg (rowOf p r) k := by
    intro j b hb r l k hk
    rw [byte_code, qs_apply xg hxg p j b hb r _ ⟨2 * k.val, by omega⟩ (by show 2 * k.val = 128 * j.val + 2 * l.val; omega),
      qs_apply xg hxg p j b hb r _ ⟨2 * k.val + 1, by omega⟩ (by show 2 * k.val + 1 = 128 * j.val + (2 * l.val + 1); omega), pack_quant]
    rfl
  have pair : ∀ (j : Fin 9) (b b' : BitVec 32) (j' : Fin 9) (_ : b = BitVec.ofNat 32 (8 * j.val)) (_ : b' = BitVec.ofNat 32 (8 * j'.val))
      (_ : j'.val = j.val + 1) (r : Fin 256) (l : Fin 128) (k : Fin 576) (_ : k.val = 64 * j.val + l.val),
      pkPair (codeBlk (F := Ideal) (qs (F := Ideal) xg p j b)) (codeBlk (F := Ideal) (qs (F := Ideal) xg p j' b')) (ix2 r l)
        = packB xg (rowOf p r) k := by
    intro j b b' j' hb hb' hj r l k hk
    by_cases hl : l.val < 64
    · rw [pkPair_lo _ _ r l ⟨l.val, hl⟩ rfl]
      exact one j b hb r ⟨l.val, hl⟩ k hk
    · rw [pkPair_hi _ _ r l ⟨l.val - 64, by omega⟩ (by show l.val = l.val - 64 + 64; omega)]
      exact one j' b' hb' r ⟨l.val - 64, by omega⟩ k (by show k.val = 64 * j'.val + (l.val - 64); omega)
  have last : ∀ (r : Fin 256) (l : Fin 64) (k : Fin 576) (_ : k.val = 512 + l.val),
      pkLast (codeBlk (F := Ideal) (qs (F := Ideal) xg p 8 64#32)) (ix2 r l) = packB xg (rowOf p r) k := by
    intro r l k hk
    rw [pkLast_apply]
    exact one 8 _ rfl r l k hk
  unfold PK
  rw [← List.append_nil (_ :: _)]
  refine View.canon_append_of_piecesOf (Val := Elt Ideal) (gPK xg p) [] _ ?_ _ (cover_pk (F := Ideal) _ _ _ _ _ _)
  exact ⟨fun x => piece_cols (n := 256) (N := 576) (w := 64) (o := 512) (gPK xg p) _ inb_S256x576_S256x64_0_512 (by norm_num) (fun r l => last r l _ rfl) x,
    fun x => piece_cols (n := 256) (N := 576) (w := 128) (o := 384) (gPK xg p) _ inb_S256x576_S256x128_0_384 (by norm_num) (fun r l => pair 6 _ _ 7 rfl rfl rfl r l _ rfl) x,
    fun x => piece_cols (n := 256) (N := 576) (w := 128) (o := 256) (gPK xg p) _ inb_S256x576_S256x128_0_256 (by norm_num) (fun r l => pair 4 _ _ 5 rfl rfl rfl r l _ rfl) x,
    fun x => piece_cols (n := 256) (N := 576) (w := 128) (o := 128) (gPK xg p) _ inb_S256x576_S256x128_0_128 (by norm_num) (fun r l => pair 2 _ _ 3 rfl rfl rfl r l _ rfl) x,
    fun x => piece_cols (n := 256) (N := 576) (w := 128) (o := 0) (gPK xg p) _ inb_S256x576_S256x128_0_0 (by norm_num) (fun r l => pair 0 _ _ 1 rfl rfl rfl r l _ rfl) x, trivial⟩

end Cert.KernelIdeal.Val

end
-- ==== Proof.Value.Held.lean ====
/-
  The stretches of the kernel's body with the contents they leave: what the body owns between grid points (`HeldAt`) and
  at a point's end (`Done`).
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim
public import Idealize.ShloMosaic.Lib.Tactic.RunNames
public import proofs.«01_k».proof.Proof.Frames.KernelIdealCuts
public import proofs.«01_k».proof.Proof.Value.Tile

@[expose] public section

set_option maxRecDepth 65536

noncomputable section

namespace Cert.KernelIdeal.Hand

open Cert.KernelIdeal Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The bit that says the scale lies in the safe range. -/
def safeBit (v0 v1 : Elt F .f32) : BitVec 1 :=
  Scalar.andi (Scalar.cmpf .oge (k0_pay2 v0 v1) (Scalar.ofBits .f32 0x27800000#32 : F .f32)) (Scalar.cmpf .ole (k0_pay2 v0 v1) (Scalar.ofBits .f32 0x57800000#32 : F .f32))

/-- The condition of the step for a scale in the safe range. -/
def safeOn (v0 v1 : Elt F .f32) : BitVec 1 := Scalar.cmpi .ne (Scalar.extui (safeBit v0 v1) : BitVec 32) 0#32

/-- The condition of the step for any other scale. -/
def otherOn (v0 v1 : Elt F .f32) : BitVec 1 :=
  Scalar.cmpi .ne (Scalar.extui (Scalar.xori (safeBit v0 v1) 1#1) : BitVec 32) 0#32

/-- What the body owns at the start of a grid point after the first: the inputs, the decoded weights, the repeated
    down-projection, and the decoded activations, the packed codes and the scales of the tile the point begins with; the other buffers at some contents. -/
def HeldAt (c : Dev nD)
  (arg1 : Memref sig .tc .smem S1 .f32)
  (arg2 : Memref sig .tc .smem S1 .f32)
  (arg3 : Memref sig .tc .vmem S256x1152 .bf16)
  (arg4 : Memref sig .tc .vmem S256x1152 .bf16)
  (arg5 : Memref sig .tc .vmem S256x1152 .bf16)
  (arg6 : Memref sig .tc .vmem S1x1152 .f32)
  (arg7 : Memref sig .tc .vmem S576x4608 .i8)
  (arg8 : Memref sig .tc .vmem S72x4608 .fp8e4m3)
  (arg9 : Memref sig .tc .vmem S1152x32 .bf16)
  (arg10 : Memref sig .tc .vmem S32x4608 .bf16)
  (arg11 : Memref sig .tc .vmem S1x4608 .f32)
  (arg12 : Memref sig .tc .vmem S512x4608 .bf16)
  (arg13 : Memref sig .tc .vmem S512x576 .i8)
  (arg14 : Memref sig .tc .vmem S512x72 .fp8e4m3)
  (arg15 : Memref sig .tc .vmem S1280x4608 .bf16)
  (arg16 : Memref sig .tc .vmem S1152x128 .bf16)
  (arg17 : Memref sig .tc .vmem S256x1152 .bf16)
  (arg18 : Memref sig .tc .vmem S256x1280 .bf16)
  (arg19 : Memref sig .tc .vmem S256x1280 .bf16)
  (arg20 : Memref sig .tc .vmem S256x576 .i8)
  (arg21 : Memref sig .tc .vmem S256x576 .i8)
  (arg22 : Memref sig .tc .vmem S256x72 .fp8e4m3)
  (arg23 : Memref sig .tc .vmem S256x72 .fp8e4m3)
  (arg24 : Memref sig .tc .vmem S72x4608 .f32)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)
  (wq : Vec F S1280x4608 .bf16) (ld3 : Vec F S1152x128 .bf16) (xq : Vec F S256x1280 .bf16) (pk : Vec F S256x576 .i8) (sc : Vec F S256x72 .fp8e4m3) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare wq ∗ owns (c : Thread nD τ) arg16 fullShare ld3 ∗ (∃ d, owns (c : Thread nD τ) arg17 fullShare d) ∗ owns (c : Thread nD τ) arg18 fullShare xq ∗ (∃ d, owns (c : Thread nD τ) arg19 fullShare d) ∗ owns (c : Thread nD τ) arg20 fullShare pk ∗ (∃ d, owns (c : Thread nD τ) arg21 fullShare d) ∗ owns (c : Thread nD τ) arg22 fullShare sc ∗ (∃ d, owns (c : Thread nD τ) arg23 fullShare d) ∗ (∃ d, owns (c : Thread nD τ) arg24 fullShare d))

/-- What the body owns at a grid point's end: the same, with the three output blocks at their contents. -/
def Done (c : Dev nD)
  (arg1 : Memref sig .tc .smem S1 .f32)
  (arg2 : Memref sig .tc .smem S1 .f32)
  (arg3 : Memref sig .tc .vmem S256x1152 .bf16)
  (arg4 : Memref sig .tc .vmem S256x1152 .bf16)
  (arg5 : Memref sig .tc .vmem S256x1152 .bf16)
  (arg6 : Memref sig .tc .vmem S1x1152 .f32)
  (arg7 : Memref sig .tc .vmem S576x4608 .i8)
  (arg8 : Memref sig .tc .vmem S72x4608 .fp8e4m3)
  (arg9 : Memref sig .tc .vmem S1152x32 .bf16)
  (arg10 : Memref sig .tc .vmem S32x4608 .bf16)
  (arg11 : Memref sig .tc .vmem S1x4608 .f32)
  (arg12 : Memref sig .tc .vmem S512x4608 .bf16)
  (arg13 : Memref sig .tc .vmem S512x576 .i8)
  (arg14 : Memref sig .tc .vmem S512x72 .fp8e4m3)
  (arg15 : Memref sig .tc .vmem S1280x4608 .bf16)
  (arg16 : Memref sig .tc .vmem S1152x128 .bf16)
  (arg17 : Memref sig .tc .vmem S256x1152 .bf16)
  (arg18 : Memref sig .tc .vmem S256x1280 .bf16)
  (arg19 : Memref sig .tc .vmem S256x1280 .bf16)
  (arg20 : Memref sig .tc .vmem S256x576 .i8)
  (arg21 : Memref sig .tc .vmem S256x576 .i8)
  (arg22 : Memref sig .tc .vmem S256x72 .fp8e4m3)
  (arg23 : Memref sig .tc .vmem S256x72 .fp8e4m3)
  (arg24 : Memref sig .tc .vmem S72x4608 .f32)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)
  (wq : Vec F S1280x4608 .bf16) (ld3 : Vec F S1152x128 .bf16) (xq : Vec F S256x1280 .bf16) (pk : Vec F S256x576 .i8) (sc : Vec F S256x72 .fp8e4m3)
  (oy : Vec F S512x4608 .bf16) (op : Vec F S512x576 .i8) (os : Vec F S512x72 .fp8e4m3) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare oy ∗ owns (c : Thread nD τ) arg13 fullShare op ∗ owns (c : Thread nD τ) arg14 fullShare os ∗ owns (c : Thread nD τ) arg15 fullShare wq ∗ owns (c : Thread nD τ) arg16 fullShare ld3 ∗ (∃ d, owns (c : Thread nD τ) arg17 fullShare d) ∗ owns (c : Thread nD τ) arg18 fullShare xq ∗ (∃ d, owns (c : Thread nD τ) arg19 fullShare d) ∗ owns (c : Thread nD τ) arg20 fullShare pk ∗ (∃ d, owns (c : Thread nD τ) arg21 fullShare d) ∗ owns (c : Thread nD τ) arg22 fullShare sc ∗ (∃ d, owns (c : Thread nD τ) arg23 fullShare d) ∗ (∃ d, owns (c : Thread nD τ) arg24 fullShare d))

end Cert.KernelIdeal.Hand

end
-- ==== Proof.Value.Blocks.lean ====
/-
  The decoded weights and the blocks of the linear layer's result, as functions of their index, and the writes that
  make them up block by block.
-/
module

public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Value
public import Idealize.ShloMosaic.Lib.Pipeline.ValueKit
public import Idealize.ShloMosaic.Lib.Ring
public import proofs.«01_k».proof.Proof.Value.Held

@[expose] public section

set_option maxRecDepth 65536

noncomputable section

namespace Cert.KernelIdeal.Val

open Cert.KernelIdeal Cert.KernelIdeal.Gen Cert.KernelIdeal.Hand
open Idealize.ShloMosaic Idealize.ShloMosaic.TcCoe
open Idealize.ShloMosaic.Pipeline

variable {F : FTy → Type} [FloatOps F]

/-- The writes of the list agree with `G`, and between them cover every index of `C`. -/
def Tiles {S : Shape} {e : EltTy} (G : S.Idx → Elt F e) (C : S.Idx → Prop) (L : List (View.Piece (Elt F) S e)) : Prop :=
  (∀ q ∈ L, ∀ x : q.1.shape.Idx, q.2 x = G (q.1.emb x)) ∧ ∀ y, C y → ∃ q ∈ L, y ∈ q.1.set

theorem Tiles.nil {S : Shape} {e : EltTy} (G : S.Idx → Elt F e) {C : S.Idx → Prop} (h : ∀ y, ¬ C y) :
    Tiles G C ([] : List (View.Piece (Elt F) S e)) :=
  ⟨fun _ h => absurd h List.not_mem_nil, fun y hy => absurd hy (h y)⟩

theorem Tiles.cons {S : Shape} {e : EltTy} {G : S.Idx → Elt F e} {C C' : S.Idx → Prop} {L : List (View.Piece (Elt F) S e)}
    {q : View.Piece (Elt F) S e} (h : Tiles G C L) (hw : ∀ x : q.1.shape.Idx, q.2 x = G (q.1.emb x))
    (hC : ∀ y, C' y → y ∈ q.1.set ∨ C y) : Tiles G C' (q :: L) := by
  refine ⟨fun p hp => ?_, fun y hy => ?_⟩
  · rcases List.mem_cons.mp hp with rfl | hp
    · exact hw
    · exact h.1 p hp
  · rcases hC y hy with hm | hm
    · exact ⟨q, List.mem_cons_self, hm⟩
    · obtain ⟨p, hp, hm⟩ := h.2 y hm
      exact ⟨p, List.mem_cons_of_mem _ hp, hm⟩

theorem Tiles.append {S : Shape} {e : EltTy} {G : S.Idx → Elt F e} {C C' C'' : S.Idx → Prop}
    {L L' : List (View.Piece (Elt F) S e)} (h : Tiles G C L) (h' : Tiles G C' L') (hC : ∀ y, C'' y → C y ∨ C' y) :
    Tiles G C'' (L ++ L') := by
  refine ⟨fun p hp => ?_, fun y hy => ?_⟩
  · rcases List.mem_append.mp hp with hp | hp
    · exact h.1 p hp
    · exact h'.1 p hp
  · rcases hC y hy with hm | hm
    · obtain ⟨p, hp, hm⟩ := h.2 y hm
      exact ⟨p, List.mem_append_left _ hp, hm⟩
    · obtain ⟨p, hp, hm⟩ := h'.2 y hm
      exact ⟨p, List.mem_append_right _ hp, hm⟩

theorem Tiles.mono {S : Shape} {e : EltTy} {G : S.Idx → Elt F e} {C C' : S.Idx → Prop}
    {L : List (View.Piece (Elt F) S e)} (h : Tiles G C L) (hC : ∀ y, C' y → C y) : Tiles G C' L :=
  ⟨h.1, fun y hy => h.2 y (hC y hy)⟩

/-- A buffer whose writes cover it holds what they agree with. -/
theorem Tiles.read {sig : RefSig} {k : Kind} {sp : Space} {S : Shape} {e : EltTy} {G : S.Idx → Elt F e} {C : S.Idx → Prop}
    {L : List (View.Piece (Elt F) S e)} (h : Tiles G C L) (v : View sig k sp S e) (f : v.ty.Contents (Elt F)) (hC : ∀ y, C y) :
    v.read (Elt F) (v.writes (Elt F) f L) = G :=
  funext fun y => View.read_writes_apply_of_pieces v f G L h.1 y (h.2 y (hC y))

/-! ### The result's block of one grid point -/

theorem inbW {m : ℕ} (k : Fin 9) : ∀ a, (![0, 512 * k.val] : Fin 2 → ℕ) a + (![m, 512] : Fin 2 → ℕ) a ≤ (![m, 4608] : Fin 2 → ℕ) a := by
  intro a
  match a with
  | ⟨0, _⟩ => show 0 + m ≤ m; omega
  | ⟨1, _⟩ => show 512 * k.val + 512 ≤ 4608; omega

theorem inbU {k : Fin 9} : ∀ a, (![0, 512 * k.val] : Fin 2 → ℕ) a + (![1152, 512] : Fin 2 → ℕ) a ≤ (![1280, 4608] : Fin 2 → ℕ) a := by
  intro a
  match a with
  | ⟨0, _⟩ => show 0 + 1152 ≤ 1280; omega
  | ⟨1, _⟩ => show 512 * k.val + 512 ≤ 4608; omega

/-- 512 columns of one tile of the result, the scale in the safe range. -/
def yS (v0 v1 : Elt F .f32) (wq : Vec F S1280x4608 .bf16) (bias : Vec F S1x4608 .f32) (xq : Vec F S256x1280 .bf16)
    (k : Fin 9) : FVec F S256x512 .bf16 :=
  k0_pay4 v0 v1 xq (View.ld wq (Rect.unit (s := S1280x4608) ![0, 512 * k.val] S1280x512.size (inbW k)))
    (View.ld bias (Rect.unit (s := S1x4608) ![0, 512 * k.val] S1x512.size (inbW k)))

/-- 512 columns of one tile of the result, any other scale. -/
def yU (v0 v1 : Elt F .f32) (wq : Vec F S1280x4608 .bf16) (lup : Vec F S32x4608 .bf16) (bias : Vec F S1x4608 .f32)
    (xq : Vec F S256x1280 .bf16) (k : Fin 9) : FVec F S256x512 .bf16 :=
  k0_pay6 v0 v1 (View.ld xq (Rect.unit (s := S256x1280) ![0, 0] S256x1152.size (by decide)))
    (View.ld wq (Rect.unit (s := S1280x4608) ![0, 512 * k.val] S1152x512.size inbU))
    (View.ld xq (Rect.unit (s := S256x1280) ![0, 1152] S256x32.size (by decide)))
    (View.ld lup (Rect.unit (s := S32x4608) ![0, 512 * k.val] S32x512.size (inbW k)))
    (View.ld bias (Rect.unit (s := S1x4608) ![0, 512 * k.val] S1x512.size (inbW k)))

/-- A block of 512 rows made of two tiles of nine column blocks each. -/
def tiled (a b : Fin 9 → FVec F S256x512 .bf16) : Vec F S512x4608 .bf16 := fun j =>
  (if (j 0).val < 256 then a else b)
    ⟨(j 1).val / 512, by have h : (j 1).val < 4608 := (j 1).isLt; omega⟩
    (ix2 ⟨(j 0).val % 256, Nat.mod_lt _ (by decide)⟩ ⟨(j 1).val % 512, Nat.mod_lt _ (by decide)⟩)

/-- The result's block of a point, the scale in the safe range. -/
def YS (v0 v1 : Elt F .f32) (wq : Vec F S1280x4608 .bf16) (bias : Vec F S1x4608 .f32) (xq xq' : Vec F S256x1280 .bf16) :
    Vec F S512x4608 .bf16 := tiled (yS v0 v1 wq bias xq) (yS v0 v1 wq bias xq')

/-- The result's block of a point, any other scale. -/
def YU (v0 v1 : Elt F .f32) (wq : Vec F S1280x4608 .bf16) (lup : Vec F S32x4608 .bf16) (bias : Vec F S1x4608 .f32)
    (xq xq' : Vec F S256x1280 .bf16) : Vec F S512x4608 .bf16 := tiled (yU v0 v1 wq lup bias xq) (yU v0 v1 wq lup bias xq')

/-- One piece of the result's block, added to the pieces before it. -/
theorem tiled_cons {a b : Fin 9 → FVec F S256x512 .bf16} {C C' : S512x4608.Idx → Prop} {L : List (View.Piece (Elt F) S512x4608 .bf16)}
    (r k : ℕ) (hr : r < 2) (hk : k < 9) {o : Fin 2 → ℕ} (ho : o = ![256 * r, 512 * k])
    (inb : ∀ a, o a + S256x512.size a ≤ S512x4608.size a) (w : S256x512.Idx → Elt F .bf16)
    (hw : w = (if r = 0 then a else b) ⟨k, hk⟩) (h : Tiles (tiled a b) C L)
    (hC : ∀ y, C' y → ((y 0).val / 256 = r ∧ (y 1).val / 512 = k) ∨ C y) :
    Tiles (tiled a b) C' (⟨Rect.unit (s := S512x4608) o S256x512.size inb, w⟩ :: L) := by
  subst ho hw
  refine h.cons (fun x => ?_) fun y hy => (hC y hy).imp (fun hy => ?_) id
  · have e0 : (((Rect.unit (s := S512x4608) ![256 * r, 512 * k] S256x512.size inb).emb x) 0).val = 256 * r + (x 0).val :=
      ValueKit.rect_emb_unit_val _ _ _ _ _
    have e1 : (((Rect.unit (s := S512x4608) ![256 * r, 512 * k] S256x512.size inb).emb x) 1).val = 512 * k + (x 1).val :=
      ValueKit.rect_emb_unit_val _ _ _ _ _
    have h0 : (x 0).val < 256 := (x 0).isLt
    have h1 : (x 1).val < 512 := (x 1).isLt
    show (if r = 0 then a else b) ⟨k, hk⟩ x = _
    unfold tiled
    have hif : (if (((Rect.unit (s := S512x4608) ![256 * r, 512 * k] S256x512.size inb).emb x) 0).val < 256 then a else b) = if r = 0 then a else b := by
      rw [e0]
      by_cases hr0 : r = 0
      · rw [if_pos hr0, if_pos (by omega)]
      · rw [if_neg hr0, if_neg (by omega)]
    rw [hif]
    refine congr (congrArg _ (Fin.ext ?_)) (Shape.idx_ext₂ ?_ ?_)
    · show k = _ / 512; rw [e1]; omega
    · show (x 0).val = _ % 256; rw [e0]; omega
    · show (x 1).val = _ % 512; rw [e1]; omega
  · refine (Rect.mem_set_unit (inb := inb)).mpr fun a => ?_
    match a with
    | ⟨0, _⟩ => show 256 * r ≤ (y 0).val ∧ (y 0).val < 256 * r + 256; omega
    | ⟨1, _⟩ => show 512 * k ≤ (y 1).val ∧ (y 1).val < 512 * k + 512; omega

set_option maxHeartbeats 1600000 in
/-- The result's block written as eighteen pieces. -/
theorem read_ys {sig : RefSig} {κ : Kind} {sp : Space} (v : View sig κ sp S512x4608 .bf16) (f : v.ty.Contents (Elt F))
    (v0 v1 : Elt F .f32) (wq : Vec F S1280x4608 .bf16) (bias : Vec F S1x4608 .f32) (xq xq' X X' : Vec F S256x1280 .bf16)
    (hX : X = xq) (hX' : X' = xq')
    (a0 a1 a2 a3 a4 a5 a6 a7 a8 b0 b1 b2 b3 b4 b5 b6 b7 b8 : S256x512.Idx → Elt F .bf16)
    (ha0 : a0 = yS v0 v1 wq bias X 0)
    (ha1 : a1 = yS v0 v1 wq bias X 1)
    (ha2 : a2 = yS v0 v1 wq bias X 2)
    (ha3 : a3 = yS v0 v1 wq bias X 3)
    (ha4 : a4 = yS v0 v1 wq bias X 4)
    (ha5 : a5 = yS v0 v1 wq bias X 5)
    (ha6 : a6 = yS v0 v1 wq bias X 6)
    (ha7 : a7 = yS v0 v1 wq bias X 7)
    (ha8 : a8 = yS v0 v1 wq bias X 8)
    (hb0 : b0 = yS v0 v1 wq bias X' 0)
    (hb1 : b1 = yS v0 v1 wq bias X' 1)
    (hb2 : b2 = yS v0 v1 wq bias X' 2)
    (hb3 : b3 = yS v0 v1 wq bias X' 3)
    (hb4 : b4 = yS v0 v1 wq bias X' 4)
    (hb5 : b5 = yS v0 v1 wq bias X' 5)
    (hb6 : b6 = yS v0 v1 wq bias X' 6)
    (hb7 : b7 = yS v0 v1 wq bias X' 7)
    (hb8 : b8 = yS v0 v1 wq bias X' 8) :
    v.read (Elt F) (v.writes (Elt F) f [
      ⟨Rect.unit (s := S512x4608) ![256, 4096] S256x512.size inb_S512x4608_S256x512_256_4096, b8⟩,
      ⟨Rect.unit (s := S512x4608) ![256, 3584] S256x512.size inb_S512x4608_S256x512_256_3584, b7⟩,
      ⟨Rect.unit (s := S512x4608) ![256, 3072] S256x512.size inb_S512x4608_S256x512_256_3072, b6⟩,
      ⟨Rect.unit (s := S512x4608) ![256, 2560] S256x512.size inb_S512x4608_S256x512_256_2560, b5⟩,
      ⟨Rect.unit (s := S512x4608) ![256, 2048] S256x512.size inb_S512x4608_S256x512_256_2048, b4⟩,
      ⟨Rect.unit (s := S512x4608) ![256, 1536] S256x512.size inb_S512x4608_S256x512_256_1536, b3⟩,
      ⟨Rect.unit (s := S512x4608) ![256, 1024] S256x512.size inb_S512x4608_S256x512_256_1024, b2⟩,
      ⟨Rect.unit (s := S512x4608) ![256, 512] S256x512.size inb_S512x4608_S256x512_256_512, b1⟩,
      ⟨Rect.unit (s := S512x4608) ![256, 0] S256x512.size inb_S512x4608_S256x512_256_0, b0⟩,
      ⟨Rect.unit (s := S512x4608) ![0, 4096] S256x512.size inb_S512x4608_S256x512_0_4096, a8⟩,
      ⟨Rect.unit (s := S512x4608) ![0, 3584] S256x512.size inb_S512x4608_S256x512_0_3584, a7⟩,
      ⟨Rect.unit (s := S512x4608) ![0, 3072] S256x512.size inb_S512x4608_S256x512_0_3072, a6⟩,
      ⟨Rect.unit (s := S512x4608) ![0, 2560] S256x512.size inb_S512x4608_S256x512_0_2560, a5⟩,
      ⟨Rect.unit (s := S512x4608) ![0, 2048] S256x512.size inb_S512x4608_S256x512_0_2048, a4⟩,
      ⟨Rect.unit (s := S512x4608) ![0, 1536] S256x512.size inb_S512x4608_S256x512_0_1536, a3⟩,
      ⟨Rect.unit (s := S512x4608) ![0, 1024] S256x512.size inb_S512x4608_S256x512_0_1024, a2⟩,
      ⟨Rect.unit (s := S512x4608) ![0, 512] S256x512.size inb_S512x4608_S256x512_0_512, a1⟩,
      ⟨Rect.unit (s := S512x4608) ![0, 0] S256x512.size inb_S512x4608_S256x512_0_0, a0⟩]) = YS v0 v1 wq bias xq xq' := by
  subst hX hX'
  have cov : ∀ n r k : ℕ, k < 9 → n = r * 9 + k → ∀ y : S512x4608.Idx, (y 0).val / 256 * 9 + (y 1).val / 512 < n + 1 →
      ((y 0).val / 256 = r ∧ (y 1).val / 512 = k) ∨ (y 0).val / 256 * 9 + (y 1).val / 512 < n := by
    intro n r k hk hn y hy
    have b : (y 1).val < 4608 := (y 1).isLt
    omega
  have h0 : Tiles (tiled (yS v0 v1 wq bias X) (yS v0 v1 wq bias X')) (fun y => (y 0).val / 256 * 9 + (y 1).val / 512 < 0) ([] : List (View.Piece (Elt F) S512x4608 .bf16)) := Tiles.nil _ fun y h => absurd h (Nat.not_lt_zero _)
  have h1 := tiled_cons (C' := fun y => (y 0).val / 256 * 9 + (y 1).val / 512 < 1) 0 0 (by decide) (by decide) (rfl : (![0, 0] : Fin 2 → ℕ) = ![256 * 0, 512 * 0]) inb_S512x4608_S256x512_0_0 a0 (ha0.trans rfl) h0 (cov 0 0 0 (by decide) rfl)
  have h2 := tiled_cons (C' := fun y => (y 0).val / 256 * 9 + (y 1).val / 512 < 2) 0 1 (by decide) (by decide) (rfl : (![0, 512] : Fin 2 → ℕ) = ![256 * 0, 512 * 1]) inb_S512x4608_S256x512_0_512 a1 (ha1.trans rfl) h1 (cov 1 0 1 (by decide) rfl)
  have h3 := tiled_cons (C' := fun y => (y 0).val / 256 * 9 + (y 1).val / 512 < 3) 0 2 (by decide) (by decide) (rfl : (![0, 1024] : Fin 2 → ℕ) = ![256 * 0, 512 * 2]) inb_S512x4608_S256x512_0_1024 a2 (ha2.trans rfl) h2 (cov 2 0 2 (by decide) rfl)
  have h4 := tiled_cons (C' := fun y => (y 0).val / 256 * 9 + (y 1).val / 512 < 4) 0 3 (by decide) (by decide) (rfl : (![0, 1536] : Fin 2 → ℕ) = ![256 * 0, 512 * 3]) inb_S512x4608_S256x512_0_1536 a3 (ha3.trans rfl) h3 (cov 3 0 3 (by decide) rfl)
  have h5 := tiled_cons (C' := fun y => (y 0).val / 256 * 9 + (y 1).val / 512 < 5) 0 4 (by decide) (by decide) (rfl : (![0, 2048] : Fin 2 → ℕ) = ![256 * 0, 512 * 4]) inb_S512x4608_S256x512_0_2048 a4 (ha4.trans rfl) h4 (cov 4 0 4 (by decide) rfl)
  have h6 := tiled_cons (C' := fun y => (y 0).val / 256 * 9 + (y 1).val / 512 < 6) 0 5 (by decide) (by decide) (rfl : (![0, 2560] : Fin 2 → ℕ) = ![256 * 0, 512 * 5]) inb_S512x4608_S256x512_0_2560 a5 (ha5.trans rfl) h5 (cov 5 0 5 (by decide) rfl)
  have h7 := tiled_cons (C' := fun y => (y 0).val / 256 * 9 + (y 1).val / 512 < 7) 0 6 (by decide) (by decide) (rfl : (![0, 3072] : Fin 2 → ℕ) = ![256 * 0, 512 * 6]) inb_S512x4608_S256x512_0_3072 a6 (ha6.trans rfl) h6 (cov 6 0 6 (by decide) rfl)
  have h8 := tiled_cons (C' := fun y => (y 0).val / 256 * 9 + (y 1).val / 512 < 8) 0 7 (by decide) (by decide) (rfl : (![0, 3584] : Fin 2 → ℕ) = ![256 * 0, 512 * 7]) inb_S512x4608_S256x512_0_3584 a7 (ha7.trans rfl) h7 (cov 7 0 7 (by decide) rfl)
  have h9 := tiled_cons (C' := fun y => (y 0).val / 256 * 9 + (y 1).val / 512 < 9) 0 8 (by decide) (by decide) (rfl : (![0, 4096] : Fin 2 → ℕ) = ![256 * 0, 512 * 8]) inb_S512x4608_S256x512_0_4096 a8 (ha8.trans rfl) h8 (cov 8 0 8 (by decide) rfl)
  have h10 := tiled_cons (C' := fun y => (y 0).val / 256 * 9 + (y 1).val / 512 < 10) 1 0 (by decide) (by decide) (rfl : (![256, 0] : Fin 2 → ℕ) = ![256 * 1, 512 * 0]) inb_S512x4608_S256x512_256_0 b0 (hb0.trans rfl) h9 (cov 9 1 0 (by decide) rfl)
  have h11 := tiled_cons (C' := fun y => (y 0).val / 256 * 9 + (y 1).val / 512 < 11) 1 1 (by decide) (by decide) (rfl : (![256, 512] : Fin 2 → ℕ) = ![256 * 1, 512 * 1]) inb_S512x4608_S256x512_256_512 b1 (hb1.trans rfl) h10 (cov 10 1 1 (by decide) rfl)
  have h12 := tiled_cons (C' := fun y => (y 0).val / 256 * 9 + (y 1).val / 512 < 12) 1 2 (by decide) (by decide) (rfl : (![256, 1024] : Fin 2 → ℕ) = ![256 * 1, 512 * 2]) inb_S512x4608_S256x512_256_1024 b2 (hb2.trans rfl) h11 (cov 11 1 2 (by decide) rfl)
  have h13 := tiled_cons (C' := fun y => (y 0).val / 256 * 9 + (y 1).val / 512 < 13) 1 3 (by decide) (by decide) (rfl : (![256, 1536] : Fin 2 → ℕ) = ![256 * 1, 512 * 3]) inb_S512x4608_S256x512_256_1536 b3 (hb3.trans rfl) h12 (cov 12 1 3 (by decide) rfl)
  have h14 := tiled_cons (C' := fun y => (y 0).val / 256 * 9 + (y 1).val / 512 < 14) 1 4 (by decide) (by decide) (rfl : (![256, 2048] : Fin 2 → ℕ) = ![256 * 1, 512 * 4]) inb_S512x4608_S256x512_256_2048 b4 (hb4.trans rfl) h13 (cov 13 1 4 (by decide) rfl)
  have h15 := tiled_cons (C' := fun y => (y 0).val / 256 * 9 + (y 1).val / 512 < 15) 1 5 (by decide) (by decide) (rfl : (![256, 2560] : Fin 2 → ℕ) = ![256 * 1, 512 * 5]) inb_S512x4608_S256x512_256_2560 b5 (hb5.trans rfl) h14 (cov 14 1 5 (by decide) rfl)
  have h16 := tiled_cons (C' := fun y => (y 0).val / 256 * 9 + (y 1).val / 512 < 16) 1 6 (by decide) (by decide) (rfl : (![256, 3072] : Fin 2 → ℕ) = ![256 * 1, 512 * 6]) inb_S512x4608_S256x512_256_3072 b6 (hb6.trans rfl) h15 (cov 15 1 6 (by decide) rfl)
  have h17 := tiled_cons (C' := fun y => (y 0).val / 256 * 9 + (y 1).val / 512 < 17) 1 7 (by decide) (by decide) (rfl : (![256, 3584] : Fin 2 → ℕ) = ![256 * 1, 512 * 7]) inb_S512x4608_S256x512_256_3584 b7 (hb7.trans rfl) h16 (cov 16 1 7 (by decide) rfl)
  have h18 := tiled_cons (C' := fun y => (y 0).val / 256 * 9 + (y 1).val / 512 < 18) 1 8 (by decide) (by decide) (rfl : (![256, 4096] : Fin 2 → ℕ) = ![256 * 1, 512 * 8]) inb_S512x4608_S256x512_256_4096 b8 (hb8.trans rfl) h17 (cov 17 1 8 (by decide) rfl)
  exact Tiles.read (h18.mono (C' := fun _ => True) fun y _ => by have a : (y 0).val < 512 := (y 0).isLt; have b : (y 1).val < 4608 := (y 1).isLt; omega) v f fun _ => trivial
/-! ### The decoded weights -/

theorem inb_wq_sp {g c : ℕ} (hg : g < 9) (hc : c < 36) : ∀ a, (![8 * g, 128 * c] : Fin 2 → ℕ) a + (![8, 128] : Fin 2 → ℕ) a ≤ (![72, 4608] : Fin 2 → ℕ) a := by
  intro a
  match a with
  | ⟨0, _⟩ => show 8 * g + 8 ≤ 72; omega
  | ⟨1, _⟩ => show 128 * c + 128 ≤ 4608; omega

theorem inb_wq_wp {g c : ℕ} (hg : g < 9) (hc : c < 36) : ∀ a, (![64 * g, 128 * c] : Fin 2 → ℕ) a + (![64, 128] : Fin 2 → ℕ) a ≤ (![576, 4608] : Fin 2 → ℕ) a := by
  intro a
  match a with
  | ⟨0, _⟩ => show 64 * g + 64 ≤ 576; omega
  | ⟨1, _⟩ => show 128 * c + 128 ≤ 4608; omega

/-- A 128 by 128 block of the decoded weights. -/
def wqBlk (sp : Vec F S72x4608 .f32) (wp : Vec F S576x4608 .i8) (g c : ℕ) (hg : g < 9) (hc : c < 36) : FVec F S128x128 .bf16 :=
  k0_pay7 (View.ld sp (Rect.unit (s := S72x4608) ![8 * g, 128 * c] S8x128.size (inb_wq_sp hg hc)))
    (View.ld wp (Rect.unit (s := S576x4608) ![64 * g, 128 * c] S64x128.size (inb_wq_wp hg hc)))

/-- The decoded weights with the four bands of the low-rank branch below them. -/
def WQ (v0 v1 : Elt F .f32) (wp : Vec F S576x4608 .i8) (sp : Vec F S72x4608 .f32) (lup : Vec F S32x4608 .bf16) :
    Vec F S1280x4608 .bf16 := fun j =>
  if h : (j 0).val < 1152 then
    wqBlk sp wp ((j 0).val / 128) ((j 1).val / 128) (by omega)
      (by have h : (j 1).val < 4608 := (j 1).isLt; omega)
      (ix2 ⟨(j 0).val % 128, Nat.mod_lt _ (by decide)⟩ ⟨(j 1).val % 128, Nat.mod_lt _ (by decide)⟩)
  else
    (if (j 0).val < 1184 then k0_pay108 (k0_pay1 v0 v1) (safeBit v0 v1) lup
      else if (j 0).val < 1216 then k0_pay109 (k0_pay1 v0 v1) (safeBit v0 v1) lup
      else if (j 0).val < 1248 then k0_pay110 (k0_pay1 v0 v1) (safeBit v0 v1) lup
      else k0_pay111) (ix2 ⟨(j 0).val % 32, Nat.mod_lt _ (by decide)⟩ (j 1))

/-- One block of the decoded weights, added to the pieces before it. -/
theorem wq_cons {v0 v1 : Elt F .f32} {wp : Vec F S576x4608 .i8} {sp : Vec F S72x4608 .f32} {lup : Vec F S32x4608 .bf16}
    {L : List (View.Piece (Elt F) S1280x4608 .bf16)}
    (g c : ℕ) (hg : g < 9) (hc : c < 36) {o : Fin 2 → ℕ} (ho : o = ![128 * g, 128 * c])
    (inb : ∀ a, o a + S128x128.size a ≤ S1280x4608.size a) (w : S128x128.Idx → Elt F .bf16)
    (hw : w = wqBlk sp wp g c hg hc) (h : Tiles (WQ v0 v1 wp sp lup) (fun y => (y 0).val / 128 = g ∧ (y 1).val / 128 < c) L) :
    Tiles (WQ v0 v1 wp sp lup) (fun y => (y 0).val / 128 = g ∧ (y 1).val / 128 < c + 1) (⟨Rect.unit (s := S1280x4608) o S128x128.size inb, w⟩ :: L) := by
  subst ho hw
  refine h.cons (fun x => ?_) fun y hy => ?_
  · have e0 : (((Rect.unit (s := S1280x4608) ![128 * g, 128 * c] S128x128.size inb).emb x) 0).val = 128 * g + (x 0).val :=
      ValueKit.rect_emb_unit_val _ _ _ _ _
    have e1 : (((Rect.unit (s := S1280x4608) ![128 * g, 128 * c] S128x128.size inb).emb x) 1).val = 128 * c + (x 1).val :=
      ValueKit.rect_emb_unit_val _ _ _ _ _
    have h0 : (x 0).val < 128 := (x 0).isLt
    have h1 : (x 1).val < 128 := (x 1).isLt
    show wqBlk sp wp g c hg hc x = _
    unfold WQ
    rw [dif_pos (by rw [e0]; omega)]
    have key : ∀ (g' c' : ℕ) (hg' : g' < 9) (hc' : c' < 36) (z : S128x128.Idx), g = g' → c = c' → x = z →
        wqBlk sp wp g c hg hc x = wqBlk sp wp g' c' hg' hc' z := by
      intro g' c' hg' hc' z e e' e''; subst e e' e''; rfl
    refine key _ _ _ _ _ ?_ ?_ (Shape.idx_ext₂ ?_ ?_)
    · rw [e0]; omega
    · rw [e1]; omega
    · show (x 0).val = _ % 128; rw [e0]; omega
    · show (x 1).val = _ % 128; rw [e1]; omega
  · by_cases hh : (y 1).val / 128 < c
    · exact .inr ⟨hy.1, hh⟩
    · refine .inl ((Rect.mem_set_unit (inb := inb)).mpr fun a => ?_)
      match a with
      | ⟨0, _⟩ => show 128 * g ≤ (y 0).val ∧ (y 0).val < 128 * g + 128; omega
      | ⟨1, _⟩ => show 128 * c ≤ (y 1).val ∧ (y 1).val < 128 * c + 128; omega

/-- One of the four bands below the decoded weights. -/
theorem wq_band {v0 v1 : Elt F .f32} {wp : Vec F S576x4608 .i8} {sp : Vec F S72x4608 .f32} {lup : Vec F S32x4608 .bf16}
    {L : List (View.Piece (Elt F) S1280x4608 .bf16)} (b : ℕ) (hb : 1152 ≤ b) (hb' : 32 ∣ b) (inb : ∀ a, (![b, 0] : Fin 2 → ℕ) a + S32x4608.size a ≤ S1280x4608.size a)
    (w : S32x4608.Idx → Elt F .bf16)
    (hw : w = if b < 1184 then k0_pay108 (k0_pay1 v0 v1) (safeBit v0 v1) lup
      else if b < 1216 then k0_pay109 (k0_pay1 v0 v1) (safeBit v0 v1) lup
      else if b < 1248 then k0_pay110 (k0_pay1 v0 v1) (safeBit v0 v1) lup
      else k0_pay111)
    (h : Tiles (WQ v0 v1 wp sp lup) (fun y => (y 0).val < b) L) :
    Tiles (WQ v0 v1 wp sp lup) (fun y => (y 0).val < b + 32) (⟨Rect.unit (s := S1280x4608) ![b, 0] S32x4608.size inb, w⟩ :: L) := by
  subst hw
  refine h.cons (fun x => ?_) fun y hy => ?_
  · have e0 : (((Rect.unit (s := S1280x4608) ![b, 0] S32x4608.size inb).emb x) 0).val = b + (x 0).val :=
      ValueKit.rect_emb_unit_val _ _ _ _ _
    have e1 : (((Rect.unit (s := S1280x4608) ![b, 0] S32x4608.size inb).emb x) 1).val = 0 + (x 1).val :=
      ValueKit.rect_emb_unit_val _ _ _ _ _
    have h0 : (x 0).val < 32 := (x 0).isLt
    obtain ⟨q, rfl⟩ := hb'
    show (if 32 * q < 1184 then _ else _ : FVec F S32x4608 .bf16) x = _
    unfold WQ
    rw [dif_neg (by rw [e0]; omega)]
    have i1 : ((((Rect.unit (s := S1280x4608) ![32 * q, 0] S32x4608.size inb).emb x) 0).val < 1184) = (32 * q < 1184) := by
      rw [e0]; exact propext ⟨fun _ => by omega, fun _ => by omega⟩
    have i2 : ((((Rect.unit (s := S1280x4608) ![32 * q, 0] S32x4608.size inb).emb x) 0).val < 1216) = (32 * q < 1216) := by
      rw [e0]; exact propext ⟨fun _ => by omega, fun _ => by omega⟩
    have i3 : ((((Rect.unit (s := S1280x4608) ![32 * q, 0] S32x4608.size inb).emb x) 0).val < 1248) = (32 * q < 1248) := by
      rw [e0]; exact propext ⟨fun _ => by omega, fun _ => by omega⟩
    simp only [i1, i2, i3]
    refine congrArg _ (Shape.idx_ext₂ ?_ ?_)
    · show (x 0).val = _ % 32; rw [e0]; omega
    · exact (e1.trans (Nat.zero_add _)).symm
  · by_cases hh : (y 0).val < b
    · exact .inr hh
    · refine .inl ((Rect.mem_set_unit (inb := inb)).mpr fun a => ?_)
      have h1 : (y 1).val < 4608 := (y 1).isLt
      match a with
      | ⟨0, _⟩ => show b ≤ (y 0).val ∧ (y 0).val < b + 32; omega
      | ⟨1, _⟩ => show 0 ≤ (y 1).val ∧ (y 1).val < 0 + 4608; omega

/-- The block pieces make up the decoded activations. -/
theorem canon_xq (xg : Elt F .f32) (ld3 : Vec F S1152x128 .bf16)
    (p : Fin 9 → FVec F S256x128 .f32) (t w0 w1 w2 w3 w4 w5 w6 w7 w8 : S256x128.Idx → Elt F .bf16)
    (ht : t = k0_pay3 (XS p) ld3)
    (h0 : w0 = xqBlk (scaleR xg p) (qs xg p 0 0#32) 0#32)
    (h1 : w1 = xqBlk (scaleR xg p) (qs xg p 1 8#32) 8#32)
    (h2 : w2 = xqBlk (scaleR xg p) (qs xg p 2 16#32) 16#32)
    (h3 : w3 = xqBlk (scaleR xg p) (qs xg p 3 24#32) 24#32)
    (h4 : w4 = xqBlk (scaleR xg p) (qs xg p 4 32#32) 32#32)
    (h5 : w5 = xqBlk (scaleR xg p) (qs xg p 5 40#32) 40#32)
    (h6 : w6 = xqBlk (scaleR xg p) (qs xg p 6 48#32) 48#32)
    (h7 : w7 = xqBlk (scaleR xg p) (qs xg p 7 56#32) 56#32)
    (h8 : w8 = xqBlk (scaleR xg p) (qs xg p 8 64#32) 64#32) :
    View.canon (Val := Elt F) (s := S256x1280) (e := .bf16) [⟨Rect.unit (s := S256x1280) ![0, 1152] S256x128.size inb_S256x1280_S256x128_0_1152, t⟩,
      ⟨Rect.unit (s := S256x1280) ![0, 1024] S256x128.size inb_S256x1280_S256x128_0_1024, w8⟩,
      ⟨Rect.unit (s := S256x1280) ![0, 896] S256x128.size inb_S256x1280_S256x128_0_896, w7⟩,
      ⟨Rect.unit (s := S256x1280) ![0, 768] S256x128.size inb_S256x1280_S256x128_0_768, w6⟩,
      ⟨Rect.unit (s := S256x1280) ![0, 640] S256x128.size inb_S256x1280_S256x128_0_640, w5⟩,
      ⟨Rect.unit (s := S256x1280) ![0, 512] S256x128.size inb_S256x1280_S256x128_0_512, w4⟩,
      ⟨Rect.unit (s := S256x1280) ![0, 384] S256x128.size inb_S256x1280_S256x128_0_384, w3⟩,
      ⟨Rect.unit (s := S256x1280) ![0, 256] S256x128.size inb_S256x1280_S256x128_0_256, w2⟩,
      ⟨Rect.unit (s := S256x1280) ![0, 128] S256x128.size inb_S256x1280_S256x128_0_128, w1⟩,
      ⟨Rect.unit (s := S256x1280) ![0, 0] S256x128.size inb_S256x1280_S256x128_0_0, w0⟩] = XQ xg ld3 p := by
  subst ht h0 h1 h2 h3 h4 h5 h6 h7 h8
  rfl

/-! ### The loops that write the blocks -/

theorem yU_eq {v0 v1 : Elt F .f32} {wq : Vec F S1280x4608 .bf16} {lup : Vec F S32x4608 .bf16} {bias : Vec F S1x4608 .f32}
    {xq : Vec F S256x1280 .bf16} (k : Fin 9) {o1 o2 o3 : Fin 2 → ℕ} (h1 : o1 = ![0, 512 * k.val]) (h2 : o2 = ![0, 512 * k.val]) (h3 : o3 = ![0, 512 * k.val])
    (i0 i1 i2 i3 i4) :
    k0_pay6 v0 v1 (View.ld xq (Rect.unit (s := S256x1280) ![0, 0] S256x1152.size i0))
      (View.ld wq (Rect.unit (s := S1280x4608) o1 S1152x512.size i1))
      (View.ld xq (Rect.unit (s := S256x1280) ![0, 1152] S256x32.size i2))
      (View.ld lup (Rect.unit (s := S32x4608) o2 S32x512.size i3))
      (View.ld bias (Rect.unit (s := S1x4608) o3 S1x512.size i4)) = yU v0 v1 wq lup bias xq k := by
  subst h1 h2 h3; rfl

/-- The loop that writes the first tile's blocks. -/
theorem tiles_t2
  (𝒱 : Variants) (c : Dev nD) (bd : Option 𝒱.V) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (v0 v1 : Elt F .f32) (v1815 : IVec S256x64 8) (X10 : BufTy.Contents (Elt F) arg10.view.ty) (X11 : BufTy.Contents (Elt F) arg11.view.ty)
  (X15 : BufTy.Contents (Elt F) arg15.view.ty) (X18 : BufTy.Contents (Elt F) arg18.view.ty)
  (b : Fin 9 → FVec F S256x512 .bf16) : ∀ k : ℕ, k ≤ 9 →
    Tiles (tiled (yU v0 v1 (View.read (Elt F) arg15.view X15) (View.read (Elt F) arg10.view X10) (View.read (Elt F) arg11.view X11) (View.read (Elt F) arg18.view X18)) b)
      (fun y => (y 0).val / 256 = 0 ∧ (y 1).val / 512 < k)
      (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay1 v0 v1) v1815 X10 X11 X15 X18 k)
  | 0, _ => Tiles.nil _ fun y h => Nat.not_lt_zero _ h.2
  | k + 1, hk => by
    have ih := tiles_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 v1815 X10 X11 X15 X18 b k (by omega)
    have hk' : k < k0_t2_loop.trips := Nat.lt_of_lt_of_le hk (by decide +kernel)
    rw [pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay1 v0 v1) v1815 X10 X11 X15 X18 ⟨k, hk'⟩]
    unfold tripL_k0_t2 trip_k0_t2
    dsimp only [List.cons_append, List.nil_append]
    refine tiled_cons 0 k (by decide) (by omega) (k0_off112_eq ⟨k, hk'⟩) _ _ ?_ ih fun y hy => by omega
    exact yU_eq ⟨k, by omega⟩ (k0_off109_eq ⟨k, hk'⟩) (k0_off110_eq ⟨k, hk'⟩) (k0_off111_eq ⟨k, hk'⟩) (by decide) _ (by decide) _ _

/-- The loop that writes the second tile's blocks. -/
theorem tiles_t3
  (𝒱 : Variants) (c : Dev nD) (bd : Option 𝒱.V) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (v0 v1 : Elt F .f32) (X10 : BufTy.Contents (Elt F) arg10.view.ty) (X11 : BufTy.Contents (Elt F) arg11.view.ty)
  (X15 : BufTy.Contents (Elt F) arg15.view.ty) (X19 : BufTy.Contents (Elt F) arg19.view.ty)
  (a : Fin 9 → FVec F S256x512 .bf16) : ∀ k : ℕ, k ≤ 9 →
    Tiles (tiled a (yU v0 v1 (View.read (Elt F) arg15.view X15) (View.read (Elt F) arg10.view X10) (View.read (Elt F) arg11.view X11) (View.read (Elt F) arg19.view X19)))
      (fun y => (y 0).val / 256 = 1 ∧ (y 1).val / 512 < k)
      (pb_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 X10 X11 X15 X19 k)
  | 0, _ => Tiles.nil _ fun y h => Nat.not_lt_zero _ h.2
  | k + 1, hk => by
    have ih := tiles_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 X10 X11 X15 X19 a k (by omega)
    have hk' : k < k0_t3_loop.trips := Nat.lt_of_lt_of_le hk (by decide +kernel)
    rw [pb_k0_t3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 X10 X11 X15 X19 ⟨k, hk'⟩]
    unfold tripL_k0_t3 trip_k0_t3
    dsimp only [List.cons_append, List.nil_append]
    refine tiled_cons 1 k (by decide) (by omega) (k0_off116_eq ⟨k, hk'⟩) _ _ ?_ ih fun y hy => by omega
    exact yU_eq ⟨k, by omega⟩ (k0_off113_eq ⟨k, hk'⟩) (k0_off114_eq ⟨k, hk'⟩) (k0_off115_eq ⟨k, hk'⟩) (by decide) _ (by decide) _ _

/-- Both loops' blocks make up the result's block of a point. -/
theorem read_yu
  (𝒱 : Variants) (c : Dev nD) (bd : Option 𝒱.V) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (v0 v1 : Elt F .f32) (v1815 : IVec S256x64 8) (f : BufTy.Contents (Elt F) arg12.view.ty) (X10 : BufTy.Contents (Elt F) arg10.view.ty) (X11 : BufTy.Contents (Elt F) arg11.view.ty)
  (X15 : BufTy.Contents (Elt F) arg15.view.ty) (X18 : BufTy.Contents (Elt F) arg18.view.ty) (X19 : BufTy.Contents (Elt F) arg19.view.ty)
  (xq' : Vec F S256x1280 .bf16) (h : View.read (Elt F) arg19.view X19 = xq') :
    View.read (Elt F) arg12.view (View.writes arg12.view (Elt F) f (pb_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 X10 X11 X15 X19 (Scf.trips k0_t3_loop.lb k0_t3_loop.ub k0_t3_loop.st) ++
      pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay1 v0 v1) v1815 X10 X11 X15 X18 (Scf.trips k0_t2_loop.lb k0_t2_loop.ub k0_t2_loop.st)))
    = YU v0 v1 (View.read (Elt F) arg15.view X15) (View.read (Elt F) arg10.view X10) (View.read (Elt F) arg11.view X11) (View.read (Elt F) arg18.view X18) xq' := by
  subst h
  have e3 : Scf.trips k0_t3_loop.lb k0_t3_loop.ub k0_t3_loop.st = 9 := by decide +kernel
  have e2 : Scf.trips k0_t2_loop.lb k0_t2_loop.ub k0_t2_loop.st = 9 := by decide +kernel
  rw [e3]
  try rw [e2]
  refine Tiles.read (C := fun _ => True) ((tiles_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 X10 X11 X15 X19 _ 9 (Nat.le_refl _)).append (tiles_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 v1815 X10 X11 X15 X18 _ 9 (Nat.le_refl _)) ?_) _ _ fun _ => trivial
  intro y _
  have h0 : (y 0).val < 512 := (y 0).isLt
  have h1 : (y 1).val < 4608 := (y 1).isLt
  omega

theorem wqBlk_eq {sp : Vec F S72x4608 .f32} {wp : Vec F S576x4608 .i8} (g c : ℕ) (hg : g < 9) (hc : c < 36) {o1 o2 : Fin 2 → ℕ}
    (h1 : o1 = ![8 * g, 128 * c]) (h2 : o2 = ![64 * g, 128 * c]) (i1 i2) :
    k0_pay7 (View.ld sp (Rect.unit (s := S72x4608) o1 S8x128.size i1)) (View.ld wp (Rect.unit (s := S576x4608) o2 S64x128.size i2)) =
      wqBlk sp wp g c hg hc := by
  subst h1 h2; rfl

set_option maxHeartbeats 1600000 in
/-- One trip of the decoding loop: 36 blocks side by side. -/
theorem tiles_trip1
  (𝒱 : Variants) (c : Dev nD) (bd : Option 𝒱.V) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (v0 v1 : Elt F .f32) (v6 : BitVec 1) (h1 : k0_cond1 i = 1#1) (X7 : BufTy.Contents (Elt F) arg7.view.ty) (X24 : BufTy.Contents (Elt F) arg24.view.ty)
  (lup : Vec F S32x4608 .bf16) (k : Fin k0_t1_loop.trips) (hk : k.val < 9) :
    Tiles (WQ v0 v1 (View.read (Elt F) arg7.view X7) (View.read (Elt F) arg24.view X24) lup) (fun y => (y 0).val / 128 = k.val ∧ (y 1).val / 128 < 36)
      (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay1 v0 v1) v6 h1 X7 X24 k) := by
  have hz : Tiles (WQ v0 v1 (View.read (Elt F) arg7.view X7) (View.read (Elt F) arg24.view X24) lup) (fun y => (y 0).val / 128 = k.val ∧ (y 1).val / 128 < 0)
    ([] : List (View.Piece (Elt F) S1280x4608 .bf16)) := Tiles.nil _ fun y h => Nat.not_lt_zero _ h.2
  have blk := fun (c : ℕ) (hc : c < 36) {o1 o2 : Fin 2 → ℕ} (e1 : o1 = ![8 * k.val, 128 * c]) (e2 : o2 = ![64 * k.val, 128 * c]) i1 i2 =>
    wqBlk_eq (sp := View.read (Elt F) arg24.view X24) (wp := View.read (Elt F) arg7.view X7) k.val c hk hc e1 e2 i1 i2

  unfold tripL_k0_t1 trip_k0_t1
  dsimp only
  refine wq_cons k.val 35 hk (by decide) (k0_off108_eq k) _ _ (blk 35 (by decide) (k0_off106_eq k) (k0_off107_eq k) _ _) ?_
  refine wq_cons k.val 34 hk (by decide) (k0_off105_eq k) _ _ (blk 34 (by decide) (k0_off103_eq k) (k0_off104_eq k) _ _) ?_
  refine wq_cons k.val 33 hk (by decide) (k0_off102_eq k) _ _ (blk 33 (by decide) (k0_off100_eq k) (k0_off101_eq k) _ _) ?_
  refine wq_cons k.val 32 hk (by decide) (k0_off99_eq k) _ _ (blk 32 (by decide) (k0_off97_eq k) (k0_off98_eq k) _ _) ?_
  refine wq_cons k.val 31 hk (by decide) (k0_off96_eq k) _ _ (blk 31 (by decide) (k0_off94_eq k) (k0_off95_eq k) _ _) ?_
  refine wq_cons k.val 30 hk (by decide) (k0_off93_eq k) _ _ (blk 30 (by decide) (k0_off91_eq k) (k0_off92_eq k) _ _) ?_
  refine wq_cons k.val 29 hk (by decide) (k0_off90_eq k) _ _ (blk 29 (by decide) (k0_off88_eq k) (k0_off89_eq k) _ _) ?_
  refine wq_cons k.val 28 hk (by decide) (k0_off87_eq k) _ _ (blk 28 (by decide) (k0_off85_eq k) (k0_off86_eq k) _ _) ?_
  refine wq_cons k.val 27 hk (by decide) (k0_off84_eq k) _ _ (blk 27 (by decide) (k0_off82_eq k) (k0_off83_eq k) _ _) ?_
  refine wq_cons k.val 26 hk (by decide) (k0_off81_eq k) _ _ (blk 26 (by decide) (k0_off79_eq k) (k0_off80_eq k) _ _) ?_
  refine wq_cons k.val 25 hk (by decide) (k0_off78_eq k) _ _ (blk 25 (by decide) (k0_off76_eq k) (k0_off77_eq k) _ _) ?_
  refine wq_cons k.val 24 hk (by decide) (k0_off75_eq k) _ _ (blk 24 (by decide) (k0_off73_eq k) (k0_off74_eq k) _ _) ?_
  refine wq_cons k.val 23 hk (by decide) (k0_off72_eq k) _ _ (blk 23 (by decide) (k0_off70_eq k) (k0_off71_eq k) _ _) ?_
  refine wq_cons k.val 22 hk (by decide) (k0_off69_eq k) _ _ (blk 22 (by decide) (k0_off67_eq k) (k0_off68_eq k) _ _) ?_
  refine wq_cons k.val 21 hk (by decide) (k0_off66_eq k) _ _ (blk 21 (by decide) (k0_off64_eq k) (k0_off65_eq k) _ _) ?_
  refine wq_cons k.val 20 hk (by decide) (k0_off63_eq k) _ _ (blk 20 (by decide) (k0_off61_eq k) (k0_off62_eq k) _ _) ?_
  refine wq_cons k.val 19 hk (by decide) (k0_off60_eq k) _ _ (blk 19 (by decide) (k0_off58_eq k) (k0_off59_eq k) _ _) ?_
  refine wq_cons k.val 18 hk (by decide) (k0_off57_eq k) _ _ (blk 18 (by decide) (k0_off55_eq k) (k0_off56_eq k) _ _) ?_
  refine wq_cons k.val 17 hk (by decide) (k0_off54_eq k) _ _ (blk 17 (by decide) (k0_off52_eq k) (k0_off53_eq k) _ _) ?_
  refine wq_cons k.val 16 hk (by decide) (k0_off51_eq k) _ _ (blk 16 (by decide) (k0_off49_eq k) (k0_off50_eq k) _ _) ?_
  refine wq_cons k.val 15 hk (by decide) (k0_off48_eq k) _ _ (blk 15 (by decide) (k0_off46_eq k) (k0_off47_eq k) _ _) ?_
  refine wq_cons k.val 14 hk (by decide) (k0_off45_eq k) _ _ (blk 14 (by decide) (k0_off43_eq k) (k0_off44_eq k) _ _) ?_
  refine wq_cons k.val 13 hk (by decide) (k0_off42_eq k) _ _ (blk 13 (by decide) (k0_off40_eq k) (k0_off41_eq k) _ _) ?_
  refine wq_cons k.val 12 hk (by decide) (k0_off39_eq k) _ _ (blk 12 (by decide) (k0_off37_eq k) (k0_off38_eq k) _ _) ?_
  refine wq_cons k.val 11 hk (by decide) (k0_off36_eq k) _ _ (blk 11 (by decide) (k0_off34_eq k) (k0_off35_eq k) _ _) ?_
  refine wq_cons k.val 10 hk (by decide) (k0_off33_eq k) _ _ (blk 10 (by decide) (k0_off31_eq k) (k0_off32_eq k) _ _) ?_
  refine wq_cons k.val 9 hk (by decide) (k0_off30_eq k) _ _ (blk 9 (by decide) (k0_off28_eq k) (k0_off29_eq k) _ _) ?_
  refine wq_cons k.val 8 hk (by decide) (k0_off27_eq k) _ _ (blk 8 (by decide) (k0_off25_eq k) (k0_off26_eq k) _ _) ?_
  refine wq_cons k.val 7 hk (by decide) (k0_off24_eq k) _ _ (blk 7 (by decide) (k0_off22_eq k) (k0_off23_eq k) _ _) ?_
  refine wq_cons k.val 6 hk (by decide) (k0_off21_eq k) _ _ (blk 6 (by decide) (k0_off19_eq k) (k0_off20_eq k) _ _) ?_
  refine wq_cons k.val 5 hk (by decide) (k0_off18_eq k) _ _ (blk 5 (by decide) (k0_off16_eq k) (k0_off17_eq k) _ _) ?_
  refine wq_cons k.val 4 hk (by decide) (k0_off15_eq k) _ _ (blk 4 (by decide) (k0_off13_eq k) (k0_off14_eq k) _ _) ?_
  refine wq_cons k.val 3 hk (by decide) (k0_off12_eq k) _ _ (blk 3 (by decide) (k0_off10_eq k) (k0_off11_eq k) _ _) ?_
  refine wq_cons k.val 2 hk (by decide) (k0_off9_eq k) _ _ (blk 2 (by decide) (k0_off7_eq k) (k0_off8_eq k) _ _) ?_
  refine wq_cons k.val 1 hk (by decide) (k0_off6_eq k) _ _ (blk 1 (by decide) (k0_off4_eq k) (k0_off5_eq k) _ _) ?_
  refine wq_cons k.val 0 hk (by decide) (k0_off3_eq k) _ _ (blk 0 (by decide) (k0_off1_eq k) (k0_off2_eq k) _ _) ?_
  exact hz

/-- The decoding loop. -/
theorem tiles_t1
  (𝒱 : Variants) (c : Dev nD) (bd : Option 𝒱.V) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (v0 v1 : Elt F .f32) (v6 : BitVec 1) (h1 : k0_cond1 i = 1#1) (X7 : BufTy.Contents (Elt F) arg7.view.ty) (X24 : BufTy.Contents (Elt F) arg24.view.ty)
  (lup : Vec F S32x4608 .bf16) : ∀ k : ℕ, k ≤ 9 →
    Tiles (WQ v0 v1 (View.read (Elt F) arg7.view X7) (View.read (Elt F) arg24.view X24) lup) (fun y => (y 0).val < 128 * k)
      (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay1 v0 v1) v6 h1 X7 X24 k)
  | 0, _ => Tiles.nil _ fun y h => Nat.not_lt_zero _ h
  | k + 1, hk => by
    have ih := tiles_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 v6 h1 X7 X24 lup k (by omega)
    have hk' : k < k0_t1_loop.trips := Nat.lt_of_lt_of_le hk (by decide +kernel)
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay1 v0 v1) v6 h1 X7 X24 ⟨k, hk'⟩]
    refine (tiles_trip1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 v6 h1 X7 X24 lup ⟨k, hk'⟩ hk).append ih fun y hy => ?_
    have b : (y 1).val < 4608 := (y 1).isLt
    show ((y 0).val / 128 = k ∧ (y 1).val / 128 < 36) ∨ (y 0).val < 128 * k
    omega

/-- The decoded weights' buffer after the preparation. -/
theorem read_wq
  (𝒱 : Variants) (c : Dev nD) (bd : Option 𝒱.V) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (v0 v1 : Elt F .f32) (h1 : k0_cond1 i = 1#1) (f : BufTy.Contents (Elt F) arg15.view.ty) (X7 : BufTy.Contents (Elt F) arg7.view.ty) (X24 : BufTy.Contents (Elt F) arg24.view.ty)
  (sp : Vec F S72x4608 .f32) (lup lup' : Vec F S32x4608 .bf16) (h : View.read (Elt F) arg24.view X24 = sp) (hl : lup' = lup) :
    View.read (Elt F) arg15.view (View.writes arg15.view (Elt F) f
      (⟨Rect.unit (s := S1280x4608) ![1248, 0] S32x4608.size inb_S1280x4608_S32x4608_1248_0, k0_pay111⟩ ::
       ⟨Rect.unit (s := S1280x4608) ![1216, 0] S32x4608.size inb_S1280x4608_S32x4608_1216_0, k0_pay110 (k0_pay1 v0 v1) (safeBit v0 v1) lup'⟩ ::
       ⟨Rect.unit (s := S1280x4608) ![1184, 0] S32x4608.size inb_S1280x4608_S32x4608_1184_0, k0_pay109 (k0_pay1 v0 v1) (safeBit v0 v1) lup'⟩ ::
       ⟨Rect.unit (s := S1280x4608) ![1152, 0] S32x4608.size inb_S1280x4608_S32x4608_1152_0, k0_pay108 (k0_pay1 v0 v1) (safeBit v0 v1) lup'⟩ ::
       pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay1 v0 v1) (safeBit v0 v1) h1 X7 X24 (Scf.trips k0_t1_loop.lb k0_t1_loop.ub k0_t1_loop.st)))
    = WQ v0 v1 (View.read (Elt F) arg7.view X7) sp lup := by
  subst hl h
  have e1 : Scf.trips k0_t1_loop.lb k0_t1_loop.ub k0_t1_loop.st = 9 := by decide +kernel
  rw [e1]
  have t0 := tiles_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 (safeBit v0 v1) h1 X7 X24 lup' 9 (Nat.le_refl _)
  have t1 := wq_band 1152 (by decide) (by decide) inb_S1280x4608_S32x4608_1152_0 _ rfl t0
  have t2 := wq_band 1184 (by decide) (by decide) inb_S1280x4608_S32x4608_1184_0 _ rfl t1
  have t3 := wq_band 1216 (by decide) (by decide) inb_S1280x4608_S32x4608_1216_0 _ rfl t2
  have t4 := wq_band 1248 (by decide) (by decide) inb_S1280x4608_S32x4608_1248_0 _ rfl t3
  exact t4.read _ _ fun y => (y 0).isLt

end Cert.KernelIdeal.Val
end
-- ==== Proof.Value.RefAt.lean ====
/-
  What the reference computes, read at an index.
-/
module

public import proofs.«01_k».proof.Proof.Gen.ReferenceIdeal.Skeleton
public import proofs.«01_k».proof.Proof.Value.Spec

@[expose] public section

set_option maxRecDepth 16384

noncomputable section

namespace Cert.ReferenceIdeal.Val

open Cert.ReferenceIdeal Cert.ReferenceIdeal.Gen Cert.Spec
open Idealize.ShloMosaic

/-- Row `r` of the products. -/
def rowR (x : Vec Ideal S16384x1152 .bf16) (sm : Vec Ideal S1x1152 .f32) (r : Fin 16384) (c : Fin 1152) : EReal :=
  x (ix2 r c) * sm (ix2 0 c)

theorem pay3_apply (x : Vec Ideal S16384x1152 .bf16) (sm : Vec Ideal S1x1152 .f32) (r : Fin 16384) (g : Fin 72) (k : Fin 16) :
    k0_pay3 (F := Ideal) x sm (ix3 r g k) = rowR x sm r ⟨g.val * 16 + k.val, by omega⟩ := by
  pointwise [k0_pay3, k0_pay2]
  rfl

theorem pay4_apply (xg : EReal) (x : Vec Ideal S16384x1152 .bf16) (sm : Vec Ideal S1x1152 .f32) (r : Fin 16384) (g : Fin 72) :
    k0_pay4 (F := Ideal) xg x sm (ix2 r g) = scale xg (rowR x sm r) g := by
  pointwise [k0_pay4, pay3_apply]
  rfl

theorem pay5_apply (xg : EReal) (x : Vec Ideal S16384x1152 .bf16) (sm : Vec Ideal S1x1152 .f32) (r : Fin 16384) (g : Fin 72) :
    k0_pay5 (F := Ideal) xg x sm (ix2 r g) = scale xg (rowR x sm r) g := by
  pointwise [k0_pay5, pay4_apply]

theorem pay6_apply (xg : EReal) (x : Vec Ideal S16384x1152 .bf16) (sm : Vec Ideal S1x1152 .f32) (r : Fin 16384) (g : Fin 72) (k : Fin 16) :
    k0_pay6 (F := Ideal) xg x sm (ix3 r g k) =
      Ideal.div (rowR x sm r ⟨g.val * 16 + k.val, by omega⟩) (scale xg (rowR x sm r) g * xg) := by
  pointwise [k0_pay6, pay3_apply, pay4_apply]

/-- The codes of the reference. -/
abbrev codes (xg : EReal) (x : Vec Ideal S16384x1152 .bf16) (sm : Vec Ideal S1x1152 .f32) : IVec S16384x72x16 32 :=
  k0_pay11 (k0_pay6 (F := Ideal) xg x sm) (k0_pay7 (F := Ideal) xg x sm) (k0_pay8 (F := Ideal) xg x sm)
    (k0_pay9 (F := Ideal) xg x sm) (k0_pay10 (F := Ideal))

theorem codes_apply (xg : EReal) (x : Vec Ideal S16384x1152 .bf16) (sm : Vec Ideal S1x1152 .f32) (r : Fin 16384) (g : Fin 72)
    (k : Fin 16) (c : Fin 1152) (hc : c.val = g.val * 16 + k.val) : codes xg x sm (ix3 r g k) = rcode (quot xg (rowR x sm r) c) := by
  have h6' : k0_pay6 (F := Ideal) xg x sm (ix3 r g k) = quot xg (rowR x sm r) c := by
    unfold quot
    rw [pay6_apply, show (⟨g.val * 16 + k.val, by omega⟩ : Fin 1152) = c from Fin.ext hc.symm,
      show (⟨c.val / 16, by omega⟩ : Fin 72) = g from Fin.ext (by show c.val / 16 = g.val; omega)]
  unfold codes k0_pay11 k0_pay9 k0_pay8 k0_pay7 k0_pay10
  generalize k0_pay6 (F := Ideal) xg x sm = T at h6' ⊢
  pointwise
  rw [h6']
  generalize quot xg (rowR x sm r) c = t
  have e : rcode t = Scalar.select (IntOp.andi (FloatOps.cmpf (F := Ideal) (φ := .f32) .olt t 0)
      (FloatOps.cmpf (F := Ideal) (φ := .f32) .ogt (rmag t) 0)) (IntOp.ori (mcode (rmag t)) 8#32) (mcode (rmag t)) := by
    show _ = Scalar.select (IntOp.andi (Ideal.cmp .olt t 0) (Ideal.cmp .ogt (rmag t) 0)) _ _
    unfold rcode Ideal.cmp
    by_cases h : t < 0 <;> by_cases h' : 0 < rmag t <;> simp [h, h', Scalar.select, IntOp.andi, IntOp.ori]
  rw [e]
  rfl

theorem pay12_apply (xg : EReal) (x : Vec Ideal S16384x1152 .bf16) (sm : Vec Ideal S1x1152 .f32) (r : Fin 16384) (k : Fin 576) :
    k0_pay12 (k0_pay6 (F := Ideal) xg x sm) (k0_pay7 (F := Ideal) xg x sm) (k0_pay8 (F := Ideal) xg x sm)
      (k0_pay9 (F := Ideal) xg x sm) (k0_pay10 (F := Ideal)) (ix2 r k) = packB xg (rowR x sm r) k := by
  unfold k0_pay12
  have e0 := codes_apply xg x sm r ⟨k.val / 8, by omega⟩ ⟨k.val % 8 * 2, by omega⟩ ⟨2 * k.val, by omega⟩ (by show _ = k.val / 8 * 16 + k.val % 8 * 2; simp; omega)
  have e1 := codes_apply xg x sm r ⟨k.val / 8, by omega⟩ ⟨k.val % 8 * 2 + 1, by omega⟩ ⟨2 * k.val + 1, by omega⟩ (by show _ = k.val / 8 * 16 + (k.val % 8 * 2 + 1); simp; omega)
  unfold codes at e0 e1
  generalize k0_pay11 (k0_pay6 (F := Ideal) xg x sm) _ _ _ _ = C at e0 e1 ⊢
  pointwise
  rw [e0, e1]
  rfl

theorem pay13_apply (xg : EReal) (x : Vec Ideal S16384x1152 .bf16) (sm : Vec Ideal S1x1152 .f32) (r : Fin 16384) (c : Fin 1152) :
    k0_pay13 (F := Ideal) (k0_pay4 (F := Ideal) xg x sm) (codes xg x sm) (ix2 r c) = deq xg (rowR x sm r) c := by
  have e0 := codes_apply xg x sm r ⟨c.val / 16, by omega⟩ ⟨c.val % 16, by omega⟩ c (by show _ = c.val / 16 * 16 + c.val % 16; omega)
  have e1 := pay4_apply xg x sm r ⟨c.val / 16, by omega⟩
  generalize codes xg x sm = C at e0 ⊢
  generalize k0_pay4 (F := Ideal) xg x sm = S at e1 ⊢
  pointwise [k0_pay13]
  rw [e0, e1]
  rfl

end Cert.ReferenceIdeal.Val

end
-- ==== Proof.Value.Weight.lean ====
/-
  The decoded weights: the value of each four-bit code of the packed bytes, times its group's scale.
-/
module

public import proofs.«01_k».proof.Proof.Value.TileVal
public import proofs.«01_k».proof.Proof.Value.Blocks
public import proofs.«01_k».proof.Proof.Value.RefAt

@[expose] public section

set_option maxRecDepth 16384

noncomputable section

namespace Cert.Spec

open Idealize.ShloMosaic

/-- The code in half `b` of a byte, the low half first. -/
def wcode (w : BitVec 8) (b : ℕ) : BitVec 32 := ((w >>> (4 * b)) &&& 15#8).setWidth 32

/-- Half `i` of a word. -/
def halfAt (w : BitVec 32) (i : ℕ) : BitVec 16 := w.extractLsb' (16 * i) 16

/-- A word read as halves. -/
theorem bitcast_halfAt {R r n : ℕ} (x : (⟨2, ![r, n]⟩ : Shape).Idx → BitVec 32)
    (h : (⟨2, ![r, n]⟩ : Shape).Bitcasts 32 ⟨2, ![R, n]⟩ 16) (p : Fin R) (l : Fin n) (a : Fin r) (i : ℕ) (hi : i < 2)
    (hp : p.val = 2 * a.val + i) : bitcast ⟨2, ![R, n]⟩ 16 x h (ix2 p l) = halfAt (x (ix2 a l)) i := by
  apply BitVec.eq_of_getLsbD_eq
  intro k hk
  unfold halfAt
  rw [BitVec.getLsbD_extractLsb', bitcast_getLsbD x h _ k hk (by decide)]
  have hrow : (⟨2, ![R, n]⟩ : Shape).row (ix2 p l) = p.val := rfl
  have ep : ((⟨2, ![R, n]⟩ : Shape).row (ix2 p l) * 16 + k) / 32 = a.val := by rw [hrow]; omega
  have eq : ((⟨2, ![R, n]⟩ : Shape).row (ix2 p l) * 16 + k) % 32 = 16 * i + k := by rw [hrow]; omega
  rw [eq]
  simp only [hk, decide_true, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by simp))

/-- The decoded weight at row `k` and column `n`. -/
def wval (wp : (⟨2, ![576, 4608]⟩ : Shape).Idx → BitVec 8) (ws : (⟨2, ![72, 4608]⟩ : Shape).Idx → EReal) (k : Fin 1152) (n : Fin 4608) : EReal :=
  dval (wcode (wp (ix2 ⟨k.val / 2, by omega⟩ n)) (k.val % 2)) * ws (ix2 ⟨k.val / 16, by omega⟩ n)

/-- The value the weights' decoding makes of a code. -/
def kdec (c : BitVec 16) : EReal :=
  min (Ideal.ofBits .bf16 (16128#16 + ((c &&& 7#16) <<< 6))) (Ideal.ofBits .bf16 (16128#16 + ((c &&& 7#16) <<< 6)) + Ideal.ofBits .bf16 (16128#16 + ((c &&& 7#16) <<< 6)) - 1)
    * Ideal.ofBits .bf16 (16256#16 ||| ((c &&& 8#16) <<< 12))

theorem b16_half : Ideal.ofBits .bf16 0x3F00#16 = ((1 / 2 : ℝ) : EReal) := by
  simp [Ideal.ofBits, Ideal.ieee, -EReal.coe_mul]; norm_num
theorem b16_34 : Ideal.ofBits .bf16 0x3F40#16 = ((3 / 4 : ℝ) : EReal) := by
  simp [Ideal.ofBits, Ideal.ieee, -EReal.coe_mul]; norm_num
theorem b16_one : Ideal.ofBits .bf16 0x3F80#16 = ((1 : ℝ) : EReal) := by
  simp [Ideal.ofBits, Ideal.ieee, -EReal.coe_mul]; norm_num
theorem b16_negone : Ideal.ofBits .bf16 0xBF80#16 = ((-1 : ℝ) : EReal) := by
  simp [Ideal.ofBits, Ideal.ieee, -EReal.coe_mul]; norm_num
theorem b16_32 : Ideal.ofBits .bf16 0x3FC0#16 = ((3 / 2 : ℝ) : EReal) := by
  simp [Ideal.ofBits, Ideal.ieee, -EReal.coe_mul]; norm_num
theorem b16_two : Ideal.ofBits .bf16 0x4000#16 = ((2 : ℝ) : EReal) := by
  simp [Ideal.ofBits, Ideal.ieee, -EReal.coe_mul]; norm_num
theorem b16_three : Ideal.ofBits .bf16 0x4040#16 = ((3 : ℝ) : EReal) := by
  simp [Ideal.ofBits, Ideal.ieee, -EReal.coe_mul]; norm_num
theorem b16_four : Ideal.ofBits .bf16 0x4080#16 = ((4 : ℝ) : EReal) := by
  simp [Ideal.ofBits, Ideal.ieee, -EReal.coe_mul]; norm_num
theorem b16_six : Ideal.ofBits .bf16 0x40C0#16 = ((6 : ℝ) : EReal) := by
  simp [Ideal.ofBits, Ideal.ieee, -EReal.coe_mul]; norm_num

/-- A magnitude from its rounded stand-in. -/
theorem kdec_mag (c : Fin 8) : min (Ideal.ofBits .bf16 (16128#16 + ((BitVec.ofNat 16 c.val) <<< 6)))
    (Ideal.ofBits .bf16 (16128#16 + ((BitVec.ofNat 16 c.val) <<< 6)) + Ideal.ofBits .bf16 (16128#16 + ((BitVec.ofNat 16 c.val) <<< 6)) - 1) = dmag (BitVec.ofNat 32 c.val) := by
  have mk : ∀ a b : ℝ, b = min a (a + a - 1) → min (a : EReal) ((a : EReal) + (a : EReal) - 1) = (b : EReal) := by
    intro a b h
    rw [h, EReal.coe_strictMono.monotone.map_min, EReal.coe_sub, EReal.coe_add, EReal.coe_one]
  have hz : (0 : EReal) = ((0 : ℝ) : EReal) := rfl
  have ho : (1 : EReal) = ((1 : ℝ) : EReal) := rfl
  match c with
  | 0 => exact (congrArg (fun z => min z (z + z - 1)) b16_half).trans ((mk _ 0 (by norm_num)).trans hz.symm)
  | 1 => exact (congrArg (fun z => min z (z + z - 1)) b16_34).trans ((mk _ (1/2) (by norm_num)).trans B_half.symm)
  | 2 => exact (congrArg (fun z => min z (z + z - 1)) b16_one).trans ((mk _ 1 (by norm_num)).trans ho.symm)
  | 3 => exact (congrArg (fun z => min z (z + z - 1)) b16_32).trans ((mk _ (3/2) (by norm_num)).trans B_threehalf.symm)
  | 4 => exact (congrArg (fun z => min z (z + z - 1)) b16_two).trans ((mk _ 2 (by norm_num)).trans B_two.symm)
  | 5 => exact (congrArg (fun z => min z (z + z - 1)) b16_three).trans ((mk _ 3 (by norm_num)).trans B_three.symm)
  | 6 => exact (congrArg (fun z => min z (z + z - 1)) b16_four).trans ((mk _ 4 (by norm_num)).trans B_four.symm)
  | 7 => exact (congrArg (fun z => min z (z + z - 1)) b16_six).trans ((mk _ 6 (by norm_num)).trans B_six.symm)

theorem kdec_eq (w : BitVec 8) (s : Fin 2) : kdec ((wcode w s.val).setWidth 16) = dval (wcode w s.val) := by
  have hm : ∀ (w : BitVec 8) (s : Fin 2), ∃ c : Fin 8, ((wcode w s.val).setWidth 16) &&& 7#16 = BitVec.ofNat 16 c.val
      ∧ bitOf (wcode w s.val) 4#32 = bitOf (BitVec.ofNat 32 c.val) 4#32 ∧ bitOf (wcode w s.val) 2#32 = bitOf (BitVec.ofNat 32 c.val) 2#32
      ∧ bitOf (wcode w s.val) 1#32 = bitOf (BitVec.ofNat 32 c.val) 1#32
      ∧ ((bitOf (wcode w s.val) 8#32 = 1#1 ∧ 16256#16 ||| ((((wcode w s.val).setWidth 16) &&& 8#16) <<< 12) = 0xBF80#16)
        ∨ (bitOf (wcode w s.val) 8#32 = 0#1 ∧ 16256#16 ||| ((((wcode w s.val).setWidth 16) &&& 8#16) <<< 12) = 0x3F80#16)) := by
    decide +kernel
  obtain ⟨c, h7, h4, h2, h1, h8⟩ := hm w s
  have hmag : dmag (wcode w s.val) = dmag (BitVec.ofNat 32 c.val) := by unfold dmag; rw [h4, h2, h1]
  unfold kdec dval
  rw [h7, kdec_mag, hmag]
  rcases h8 with ⟨a, b⟩ | ⟨a, b⟩
  · rw [a, b, b16_negone]
    show _ = 0 - _
    rw [zero_sub, EReal.coe_neg, EReal.coe_one, mul_neg, mul_one]
  · rw [a, b, b16_one]
    show _ = dmag _
    rw [EReal.coe_one, mul_one]

end Cert.Spec

namespace Cert.KernelIdeal.Val

open Cert.KernelIdeal Cert.KernelIdeal.Gen Cert.Spec
open Idealize.ShloMosaic

/-- The words of the magnitudes' stand-ins, two to a word. -/
def magW (wp : Vec Ideal S64x128 .i8) : IVec S64x128 32 :=
  addi (shli (andi (ori (extui 32 wp natLt_8_32) (shli (extui 32 wp natLt_8_32) (broadcast S64x128 12#32))) (broadcast S64x128 458759#32))
    (broadcast S64x128 6#32)) (broadcast S64x128 1056980736#32)

/-- The words of the signs, two to a word. -/
def sgnW (wp : Vec Ideal S64x128 .i8) : IVec S64x128 32 :=
  ori (shli (andi (ori (extui 32 wp natLt_8_32) (shli (extui 32 wp natLt_8_32) (broadcast S64x128 12#32))) (broadcast S64x128 524296#32))
    (broadcast S64x128 12#32)) (broadcast S64x128 1065369472#32)

/-- The decoded block from the magnitudes' stand-ins and the signs. -/
def pay7F (a b : FVec Ideal S128x128 .bf16) (sp : Vec Ideal S8x128 .f32) : FVec Ideal S128x128 .bf16 :=
  shapeCast S128x128 (mulf (mulf (minimumf a (subf (addf a a) (broadcast S128x128 (Scalar.ofBits .bf16 0x3F80#16 : Ideal .bf16)))) b)
    (truncf .bf16 (shapeCast S128x128 (broadcastTo S8x16x128 (shapeCast S8x1x128 (shapeCast S8x1x128 sp shapeCasts_S8x128_S8x1x128)
      shapeCasts_S8x1x128_S8x1x128) broadcasts_S8x1x128_S8x16x128) shapeCasts_S8x16x128_S128x128) bitsLt_bf16_f32)) shapeCasts_S128x128_S128x128

theorem pay7_eq (sp : Vec Ideal S8x128 .f32) (wp : Vec Ideal S64x128 .i8) :
    k0_pay7 (F := Ideal) sp wp = pay7F (bitcastToFloat .bf16 (bitcast S128x128 16 (magW wp) bitcasts_S64x128_w32_S128x128_w16))
      (bitcastToFloat .bf16 (bitcast S128x128 16 (sgnW wp) bitcasts_S64x128_w32_S128x128_w16)) sp := rfl

theorem pay7F_apply (a b : FVec Ideal S128x128 .bf16) (sp : Vec Ideal S8x128 .f32) (r n : Fin 128) :
    pay7F a b sp (ix2 r n) = min (a (ix2 r n)) (a (ix2 r n) + a (ix2 r n) - 1) * b (ix2 r n) * sp (ix2 ⟨r.val / 16, by omega⟩ n) := by
  pointwise [pay7F]

theorem magW_half (w : BitVec 8) (s : Fin 2) :
    halfAt ((((w.setWidth 32 ||| (w.setWidth 32 <<< 12)) &&& 458759#32) <<< 6) + 1056980736#32) s.val
      = 16128#16 + ((((wcode w s.val).setWidth 16) &&& 7#16) <<< 6) := by
  revert w s; decide +kernel

theorem sgnW_half (w : BitVec 8) (s : Fin 2) :
    halfAt ((((w.setWidth 32 ||| (w.setWidth 32 <<< 12)) &&& 524296#32) <<< 12) ||| 1065369472#32) s.val
      = 16256#16 ||| ((((wcode w s.val).setWidth 16) &&& 8#16) <<< 12) := by
  revert w s; decide +kernel

theorem magW_apply (wp : Vec Ideal S64x128 .i8) (x : S64x128.Idx) :
    magW wp x = ((((wp x).setWidth 32 ||| ((wp x).setWidth 32 <<< 12)) &&& 458759#32) <<< 6) + 1056980736#32 := rfl

theorem sgnW_apply (wp : Vec Ideal S64x128 .i8) (x : S64x128.Idx) :
    sgnW wp x = ((((wp x).setWidth 32 ||| ((wp x).setWidth 32 <<< 12)) &&& 524296#32) <<< 12) ||| 1065369472#32 := rfl

theorem pay7_apply (sp : Vec Ideal S8x128 .f32) (wp : Vec Ideal S64x128 .i8) (r : Fin 128) (n : Fin 128) :
    k0_pay7 (F := Ideal) sp wp (ix2 r n)
      = dval (wcode (wp (ix2 ⟨r.val / 2, by omega⟩ n)) (r.val % 2)) * sp (ix2 ⟨r.val / 16, by omega⟩ n) := by
  have hs : r.val % 2 < 2 := Nat.mod_lt _ (by decide)
  rw [← kdec_eq _ ⟨r.val % 2, hs⟩, pay7_eq, pay7F_apply]
  have e1 := bitcast_halfAt (magW wp) bitcasts_S64x128_w32_S128x128_w16 r n ⟨r.val / 2, by omega⟩ (r.val % 2) hs (by show _ = 2 * (r.val / 2) + r.val % 2; omega)
  have e2 := bitcast_halfAt (sgnW wp) bitcasts_S64x128_w32_S128x128_w16 r n ⟨r.val / 2, by omega⟩ (r.val % 2) hs (by show _ = 2 * (r.val / 2) + r.val % 2; omega)
  rw [magW_apply, magW_half _ ⟨r.val % 2, hs⟩] at e1
  rw [sgnW_apply, sgnW_half _ ⟨r.val % 2, hs⟩] at e2
  have u : ∀ (v : IVec S128x128 16) (x : S128x128.Idx), bitcastToFloat (F := Ideal) .bf16 v x = Ideal.ofBits .bf16 (v x) := fun _ _ => rfl
  rw [u, u, e1, e2]
  rfl

end Cert.KernelIdeal.Val

namespace Cert.ReferenceIdeal.Val

open Cert.ReferenceIdeal Cert.ReferenceIdeal.Gen Cert.Spec
open Idealize.ShloMosaic

theorem pay14_apply (wp : Vec Ideal S576x4608 .i8) (a : Fin 576) (b : Fin 2) (n : Fin 4608) :
    k0_pay14 (F := Ideal) (iota .tc S576x2x4608 32 [1] iota_S576x2x4608_d1_w32) wp (ix3 a b n) = wcode (wp (ix2 a n)) b.val := by
  pointwise [k0_pay14]
  generalize wp (ix2 a n) = w
  revert w b
  decide +kernel

end Cert.ReferenceIdeal.Val

end
-- ==== Proof.Value.First.lean ====
/-
  The preparation of the first grid point, with what it leaves.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim
public import Idealize.ShloMosaic.Lib.Tactic.RunNames
public import proofs.«01_k».proof.Proof.Value.Blocks

@[expose] public section

set_option maxRecDepth 65536

noncomputable section

namespace Cert.KernelIdeal.Hand

open Cert.KernelIdeal Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

-- the run visits every memory operation of the stretch
set_option maxHeartbeats 1600000 in
/-- The preparation. -/
theorem prep_first (v0 v1 : Elt F .f32) (hi : k0_cond1 i = 1#1) {R : Type} (κ : Prog (TpuEff nD τ sig (Elt F) Λ₀ .tc) R) (Q : R → sProp 𝕄) :
    Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10
      ⊢ iprop((HeldAt c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 (WQ v0 v1 x6 (k0_pay102 x7) x9) (LD3 x8) (XQ v0 (LD3 x8) (prods x2 x5)) (PK v0 (prods x2 x5)) (SC v0 (prods x2 x5))
            -∗ wp frame (wpE (defs₀ (F := F)) Variants.none c none) Set.univ κ Q)
          -∗ wp frame (wpE (defs₀ (F := F)) Variants.none c none) Set.univ (top2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q) := by
  unfold top2
  simp only [Held, HeldAt, Done]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩⟩ Hk
  subst hf0 hf1 hf2 hf3 hf4 hf5 hf6 hf7 hf8 hf9 hf10
  dsimp only
  rw [dif_pos hi]
  simp only [
    k0_part34_eq_skeleton, k0_part35_eq_skeleton, k0_part36_eq_skeleton, k0_part37_eq_skeleton,
    k0_part38_eq_skeleton, k0_part39_eq_skeleton, k0_part40_eq_skeleton, k0_part41_eq_skeleton,
    k0_part42_eq_skeleton, k0_part43_eq_skeleton, k0_part44_eq_skeleton, k0_part45_eq_skeleton,
    k0_part46_eq_skeleton, k0_part47_eq_skeleton, k0_part48_eq_skeleton, k0_part49_eq_skeleton,
    k0_part50_eq_skeleton, k0_part51_eq_skeleton, k0_part52_eq_skeleton, k0_part53_eq_skeleton,
    k0_part54_eq_skeleton, k0_part55_eq_skeleton, k0_part56_eq_skeleton, k0_part57_eq_skeleton,
    k0_part58_eq_skeleton, k0_part59_eq_skeleton, k0_part60_eq_skeleton, k0_part61_eq_skeleton,
    k0_part62_eq_skeleton, k0_part63_eq_skeleton, k0_part64_eq_skeleton, k0_part65_eq_skeleton,
    k0_part66_eq_skeleton, k0_part67_eq_skeleton, k0_part68_eq_skeleton, k0_part69_eq_skeleton,
    k0_part70_eq_skeleton, k0_part71_eq_skeleton, k0_part72_eq_skeleton, k0_part73_eq_skeleton,
    k0_part74_eq_skeleton, k0_part75_eq_skeleton, k0_part76_eq_skeleton]
  sl_exec
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro
    refine read_wq (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ ?_
    · refine (View.read_writes_eq_canon _ _ _ (whole_cover _ (by decide) _)).trans ((View.canon_unit_zero (by decide) _ _).trans (congrArg k0_pay102 (View.ld_unit_zero (by decide) _ _)))
    · exact View.ld_unit_zero (by decide) _ _
  isplitl [H15]
  · iexists _; isplitr; swap; · iexact H15
    ipureintro
    exact (View.read_writes_eq_canon _ _ _ (whole_cover _ (by decide) _)).trans ((View.canon_unit_zero (by decide) _ _).trans (congrArg k0_pay112 (View.ld_unit_zero (by decide) _ _)))
  isplitl [H16]
  · iexists _, _; isplitr; swap; · iexact H16
    ipureintro; rfl
  isplitl [H17]
  · iexists _; isplitr; swap; · iexact H17
    ipureintro
    refine read_xq _ _ _ _ _ _ _ _ _ _ _ _ _ _ _ (tail_xq ?_ ?_) ?_ ?_ ?_ ?_ ?_ ?_ ?_ ?_ ?_
    · refine (readCov_whole _ _ (by decide) _).trans ?_
      refine canon_xs _ _ _ _ _ _ _ _ _ _ ?_ ?_ ?_ ?_ ?_ ?_ ?_ ?_ ?_
      · rfl
      · rfl
      · rfl
      · rfl
      · rfl
      · rfl
      · rfl
      · rfl
      · rfl
    · exact (readCov_whole _ _ (by decide) _).trans ((View.canon_unit_zero (by decide) _ _).trans (congrArg k0_pay112 (View.ld_unit_zero (by decide) _ _)))
    · rfl
    · rfl
    · rfl
    · rfl
    · rfl
    · rfl
    · rfl
    · rfl
    · rfl
  isplitl [H18]
  · iexists _, _; isplitr; swap; · iexact H18
    ipureintro; rfl
  isplitl [H19]
  · iexists _; isplitr; swap; · iexact H19
    ipureintro
    refine read_pk _ _ _ _ _ _ _ _ _ ?_ ?_ ?_ ?_ ?_
    · rfl
    · rfl
    · rfl
    · rfl
    · rfl
  isplitl [H20]
  · iexists _, _; isplitr; swap; · iexact H20
    ipureintro; rfl
  isplitl [H21]
  · iexists _; isplitr; swap; · iexact H21
    ipureintro
    exact (View.read_writes_eq_canon _ _ _ (whole_cover _ (by decide) _)).trans ((View.canon_unit_zero (by decide) _ _).trans rfl)
  isplitl [H22]
  · iexists _, _; isplitr; swap; · iexact H22
    ipureintro; rfl
  iexists _, _; isplitr; swap; · iexact H23
  ipureintro; rfl
end Cert.KernelIdeal.Hand
end
-- ==== Proof.Value.StepSafe.lean ====
/-
  One grid point, with what it leaves: the scale in the safe range.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim
public import Idealize.ShloMosaic.Lib.Tactic.RunNames
public import proofs.«01_k».proof.Proof.Value.Blocks

@[expose] public section

set_option maxRecDepth 65536

noncomputable section

namespace Cert.KernelIdeal.Hand

open Cert.KernelIdeal Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

-- the run visits every memory operation of the stretch
set_option maxHeartbeats 1600000 in
/-- The step. -/
theorem step_safe (v0 v1 : Elt F .f32) (wq : Vec F S1280x4608 .bf16) (ld3 : Vec F S1152x128 .bf16) (xq : Vec F S256x1280 .bf16) (pk : Vec F S256x576 .i8) (sc : Vec F S256x72 .fp8e4m3) (hi : safeOn v0 v1 = 1#1) {R : Type} (κ : Prog (TpuEff nD τ sig (Elt F) Λ₀ .tc) R) (Q : R → sProp 𝕄) :
    HeldAt c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 wq ld3 xq pk sc
      ⊢ iprop((Done c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 wq ld3 (XQ v0 ld3 (prods x4 x5)) (PK v0 (prods x4 x5)) (SC v0 (prods x4 x5)) (YS v0 v1 wq x10 xq (XQ v0 ld3 (prods x3 x5))) (PKO pk (PK v0 (prods x3 x5))) (SCO sc (SC v0 (prods x3 x5)))
            -∗ wp frame (wpE (defs₀ (F := F)) Variants.none c none) Set.univ κ Q)
          -∗ wp frame (wpE (defs₀ (F := F)) Variants.none c none) Set.univ (top3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q) := by
  unfold top3
  simp only [Held, HeldAt, Done]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%d16, %f16, -, H16⟩, ⟨%f17, %hf17, H17⟩, ⟨%d18, %f18, -, H18⟩, ⟨%f19, %hf19, H19⟩, ⟨%d20, %f20, -, H20⟩, ⟨%f21, %hf21, H21⟩, ⟨%d22, %f22, -, H22⟩, ⟨%d23, %f23, -, H23⟩⟩ Hk
  subst hf0 hf1 hf2 hf3 hf4 hf5 hf6 hf7 hf8 hf9 hf10 hf14 hf15 hf17 hf19 hf21
  dsimp only
  split; swap
  · rename_i h; exact absurd hi h
  simp only [
    k0_part167_eq_skeleton, k0_part168_eq_skeleton, k0_part77_eq_skeleton, k0_part78_eq_skeleton,
    k0_part79_eq_skeleton, k0_part80_eq_skeleton, k0_part81_eq_skeleton, k0_part82_eq_skeleton,
    k0_part83_eq_skeleton, k0_part84_eq_skeleton, k0_part85_eq_skeleton, k0_part86_eq_skeleton,
    k0_part87_eq_skeleton, k0_part88_eq_skeleton, k0_part89_eq_skeleton, k0_part90_eq_skeleton,
    k0_part91_eq_skeleton, k0_part92_eq_skeleton, k0_part93_eq_skeleton, k0_part94_eq_skeleton,
    k0_part95_eq_skeleton, k0_part96_eq_skeleton, k0_part97_eq_skeleton, k0_part98_eq_skeleton,
    k0_part99_eq_skeleton, k0_part100_eq_skeleton, k0_part101_eq_skeleton, k0_part102_eq_skeleton,
    k0_part103_eq_skeleton, k0_part104_eq_skeleton, k0_part105_eq_skeleton, k0_part106_eq_skeleton,
    k0_part107_eq_skeleton, k0_part108_eq_skeleton, k0_part109_eq_skeleton, k0_part110_eq_skeleton,
    k0_part111_eq_skeleton, k0_part112_eq_skeleton, k0_part113_eq_skeleton, k0_part114_eq_skeleton,
    k0_part115_eq_skeleton, k0_part116_eq_skeleton, k0_part117_eq_skeleton, k0_part118_eq_skeleton,
    k0_part119_eq_skeleton, k0_part120_eq_skeleton, k0_part121_eq_skeleton, k0_part122_eq_skeleton,
    k0_part123_eq_skeleton, k0_part124_eq_skeleton, k0_part125_eq_skeleton, k0_part126_eq_skeleton,
    k0_part127_eq_skeleton, k0_part128_eq_skeleton, k0_part129_eq_skeleton, k0_part130_eq_skeleton,
    k0_part131_eq_skeleton, k0_part132_eq_skeleton, k0_part133_eq_skeleton, k0_part134_eq_skeleton,
    k0_part135_eq_skeleton, k0_part136_eq_skeleton, k0_part137_eq_skeleton, k0_part138_eq_skeleton,
    k0_part139_eq_skeleton, k0_part140_eq_skeleton, k0_part141_eq_skeleton, k0_part142_eq_skeleton,
    k0_part143_eq_skeleton, k0_part144_eq_skeleton, k0_part145_eq_skeleton, k0_part146_eq_skeleton,
    k0_part147_eq_skeleton, k0_part148_eq_skeleton, k0_part149_eq_skeleton, k0_part150_eq_skeleton,
    k0_part151_eq_skeleton, k0_part152_eq_skeleton, k0_part153_eq_skeleton, k0_part154_eq_skeleton,
    k0_part155_eq_skeleton, k0_part156_eq_skeleton, k0_part157_eq_skeleton, k0_part158_eq_skeleton,
    k0_part159_eq_skeleton, k0_part160_eq_skeleton, k0_part161_eq_skeleton, k0_part162_eq_skeleton,
    k0_part163_eq_skeleton, k0_part164_eq_skeleton, k0_part165_eq_skeleton, k0_part166_eq_skeleton]
  sl_exec
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro
    refine read_ys _ _ _ _ _ _ _ _ _ _ ?_ ?_ _ _ _ _ _ _ _ _ _ _ _ _ _ _ _ _ _ _ rfl rfl rfl rfl rfl rfl rfl rfl rfl rfl rfl rfl rfl rfl rfl rfl rfl rfl
    · exact View.ld_unit_zero (by decide) _ _
    · refine (readCov_whole _ _ (by decide) _).trans ?_
      refine canon_xq _ _ _ _ _ _ _ _ _ _ _ _ _ (tail_xq ?_ ?_) ?_ ?_ ?_ ?_ ?_ ?_ ?_ ?_ ?_
      · refine (readCov_whole _ _ (by decide) _).trans ?_
        refine canon_xs_over _ _ _ _ _ _ _ _ _ _ _ ?_ ?_ ?_ ?_ ?_ ?_ ?_ ?_ ?_
        · rfl
        · rfl
        · rfl
        · rfl
        · rfl
        · rfl
        · rfl
        · rfl
        · rfl
      · exact View.ld_unit_zero (by decide) _ _
      · rfl
      · rfl
      · rfl
      · rfl
      · rfl
      · rfl
      · rfl
      · rfl
      · rfl
  isplitl [H12]
  · iexists _; isplitr; swap; · iexact H12
    ipureintro
    refine read_pko _ _ _ _ _ _ ?_ ?_
    · exact View.ld_unit_zero (by decide) _ _
    · refine (readCov_whole _ _ (by decide) _).trans ?_
      refine canon_pk _ _ _ _ _ _ _ ?_ ?_ ?_ ?_ ?_
      · rfl
      · rfl
      · rfl
      · rfl
      · rfl
  isplitl [H13]
  · iexists _; isplitr; swap; · iexact H13
    ipureintro
    refine read_sco _ _ _ _ _ _ ?_ ?_
    · exact View.ld_unit_zero (by decide) _ _
    · refine (readCov_whole _ _ (by decide) _).trans ?_
      exact (View.canon_unit_zero (by decide) _ _).trans rfl
  isplitl [H14]
  · iexists _; isplitr; swap; · iexact H14
    ipureintro
    rfl
  isplitl [H15]
  · iexists _; isplitr; swap; · iexact H15
    ipureintro
    rfl
  isplitl [H16]
  · iexists _, _; isplitr; swap; · iexact H16
    ipureintro; rfl
  isplitl [H17]
  · iexists _; isplitr; swap; · iexact H17
    ipureintro
    refine read_xq _ _ _ _ _ _ _ _ _ _ _ _ _ _ _ (tail_xq ?_ ?_) ?_ ?_ ?_ ?_ ?_ ?_ ?_ ?_ ?_
    · refine (readCov_whole _ _ (by decide) _).trans ?_
      refine canon_xs_over _ _ _ _ _ _ _ _ _ _ _ ?_ ?_ ?_ ?_ ?_ ?_ ?_ ?_ ?_
      · rfl
      · rfl
      · rfl
      · rfl
      · rfl
      · rfl
      · rfl
      · rfl
      · rfl
    · exact View.ld_unit_zero (by decide) _ _
    · rfl
    · rfl
    · rfl
    · rfl
    · rfl
    · rfl
    · rfl
    · rfl
    · rfl
  isplitl [H18]
  · iexists _, _; isplitr; swap; · iexact H18
    ipureintro; rfl
  isplitl [H19]
  · iexists _; isplitr; swap; · iexact H19
    ipureintro
    refine read_pk _ _ _ _ _ _ _ _ _ ?_ ?_ ?_ ?_ ?_
    · rfl
    · rfl
    · rfl
    · rfl
    · rfl
  isplitl [H20]
  · iexists _, _; isplitr; swap; · iexact H20
    ipureintro; rfl
  isplitl [H21]
  · iexists _; isplitr; swap; · iexact H21
    ipureintro
    exact (View.read_writes_eq_canon _ _ _ (whole_cover _ (by decide) _)).trans ((View.canon_unit_zero (by decide) _ _).trans rfl)
  isplitl [H22]
  · iexists _, _; isplitr; swap; · iexact H22
    ipureintro; rfl
  iexists _, _; isplitr; swap; · iexact H23
  ipureintro; rfl
end Cert.KernelIdeal.Hand
end
-- ==== Proof.Value.StepOther.lean ====
/-
  One grid point, with what it leaves: any other scale.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim
public import Idealize.ShloMosaic.Lib.Tactic.RunNames
public import proofs.«01_k».proof.Proof.Value.Blocks

@[expose] public section

set_option maxRecDepth 65536

noncomputable section

namespace Cert.KernelIdeal.Hand

open Cert.KernelIdeal Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

-- the run visits every memory operation of the stretch
set_option maxHeartbeats 1600000 in
/-- The step. -/
theorem step_other (v0 v1 : Elt F .f32) (wq : Vec F S1280x4608 .bf16) (ld3 : Vec F S1152x128 .bf16) (xq : Vec F S256x1280 .bf16) (pk : Vec F S256x576 .i8) (sc : Vec F S256x72 .fp8e4m3) (hi : otherOn v0 v1 = 1#1) {R : Type} (κ : Prog (TpuEff nD τ sig (Elt F) Λ₀ .tc) R) (Q : R → sProp 𝕄) :
    HeldAt c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 wq ld3 xq pk sc
      ⊢ iprop((Done c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 wq ld3 (XQ v0 ld3 (prods x4 x5)) (PK v0 (prods x4 x5)) (SC v0 (prods x4 x5)) (YU v0 v1 wq x9 x10 xq (XQ v0 ld3 (prods x3 x5))) (PKO pk (PK v0 (prods x3 x5))) (SCO sc (SC v0 (prods x3 x5)))
            -∗ wp frame (wpE (defs₀ (F := F)) Variants.none c none) Set.univ κ Q)
          -∗ wp frame (wpE (defs₀ (F := F)) Variants.none c none) Set.univ (top4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q) := by
  unfold top4
  simp only [Held, HeldAt, Done]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%d16, %f16, -, H16⟩, ⟨%f17, %hf17, H17⟩, ⟨%d18, %f18, -, H18⟩, ⟨%f19, %hf19, H19⟩, ⟨%d20, %f20, -, H20⟩, ⟨%f21, %hf21, H21⟩, ⟨%d22, %f22, -, H22⟩, ⟨%d23, %f23, -, H23⟩⟩ Hk
  subst hf0 hf1 hf2 hf3 hf4 hf5 hf6 hf7 hf8 hf9 hf10 hf14 hf15 hf17 hf19 hf21
  dsimp only
  split; swap
  · rename_i h; exact absurd hi h
  simp only [
    k0_part253_eq_skeleton, k0_part254_eq_skeleton, k0_part169_eq_skeleton, k0_part170_eq_skeleton,
    k0_part171_eq_skeleton, k0_part172_eq_skeleton, k0_part173_eq_skeleton, k0_part174_eq_skeleton,
    k0_part175_eq_skeleton, k0_part176_eq_skeleton, k0_part177_eq_skeleton, k0_part178_eq_skeleton,
    k0_part179_eq_skeleton, k0_part180_eq_skeleton, k0_part181_eq_skeleton, k0_part182_eq_skeleton,
    k0_part183_eq_skeleton, k0_part184_eq_skeleton, k0_part185_eq_skeleton, k0_part186_eq_skeleton,
    k0_part187_eq_skeleton, k0_part188_eq_skeleton, k0_part189_eq_skeleton, k0_part190_eq_skeleton,
    k0_part191_eq_skeleton, k0_part192_eq_skeleton, k0_part193_eq_skeleton, k0_part194_eq_skeleton,
    k0_part195_eq_skeleton, k0_part196_eq_skeleton, k0_part197_eq_skeleton, k0_part198_eq_skeleton,
    k0_part199_eq_skeleton, k0_part200_eq_skeleton, k0_part201_eq_skeleton, k0_part202_eq_skeleton,
    k0_part203_eq_skeleton, k0_part204_eq_skeleton, k0_part205_eq_skeleton, k0_part206_eq_skeleton,
    k0_part207_eq_skeleton, k0_part208_eq_skeleton, k0_part209_eq_skeleton, k0_part210_eq_skeleton,
    k0_part211_eq_skeleton, k0_part212_eq_skeleton, k0_part213_eq_skeleton, k0_part214_eq_skeleton,
    k0_part215_eq_skeleton, k0_part216_eq_skeleton, k0_part217_eq_skeleton, k0_part218_eq_skeleton,
    k0_part219_eq_skeleton, k0_part220_eq_skeleton, k0_part221_eq_skeleton, k0_part222_eq_skeleton,
    k0_part223_eq_skeleton, k0_part224_eq_skeleton, k0_part225_eq_skeleton, k0_part226_eq_skeleton,
    k0_part227_eq_skeleton, k0_part228_eq_skeleton, k0_part229_eq_skeleton, k0_part230_eq_skeleton,
    k0_part231_eq_skeleton, k0_part232_eq_skeleton, k0_part233_eq_skeleton, k0_part234_eq_skeleton,
    k0_part235_eq_skeleton, k0_part236_eq_skeleton, k0_part237_eq_skeleton, k0_part238_eq_skeleton,
    k0_part239_eq_skeleton, k0_part240_eq_skeleton, k0_part241_eq_skeleton, k0_part242_eq_skeleton,
    k0_part243_eq_skeleton, k0_part244_eq_skeleton, k0_part245_eq_skeleton, k0_part246_eq_skeleton,
    k0_part247_eq_skeleton, k0_part248_eq_skeleton, k0_part249_eq_skeleton, k0_part250_eq_skeleton,
    k0_part251_eq_skeleton, k0_part252_eq_skeleton]
  sl_exec
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro
    refine read_yu _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_
    refine read_xq _ _ _ _ _ _ _ _ _ _ _ _ _ _ _ (tail_xq ?_ ?_) ?_ ?_ ?_ ?_ ?_ ?_ ?_ ?_ ?_
    · refine (readCov_whole _ _ (by decide) _).trans ?_
      refine canon_xs_over _ _ _ _ _ _ _ _ _ _ _ ?_ ?_ ?_ ?_ ?_ ?_ ?_ ?_ ?_
      · rfl
      · rfl
      · rfl
      · rfl
      · rfl
      · rfl
      · rfl
      · rfl
      · rfl
    · exact View.ld_unit_zero (by decide) _ _
    · rfl
    · rfl
    · rfl
    · rfl
    · rfl
    · rfl
    · rfl
    · rfl
    · rfl
  isplitl [H12]
  · iexists _; isplitr; swap; · iexact H12
    ipureintro
    refine read_pko _ _ _ _ _ _ ?_ ?_
    · exact View.ld_unit_zero (by decide) _ _
    · refine (readCov_whole _ _ (by decide) _).trans ?_
      refine canon_pk _ _ _ _ _ _ _ ?_ ?_ ?_ ?_ ?_
      · rfl
      · rfl
      · rfl
      · rfl
      · rfl
  isplitl [H13]
  · iexists _; isplitr; swap; · iexact H13
    ipureintro
    refine read_sco _ _ _ _ _ _ ?_ ?_
    · exact View.ld_unit_zero (by decide) _ _
    · refine (readCov_whole _ _ (by decide) _).trans ?_
      exact (View.canon_unit_zero (by decide) _ _).trans rfl
  isplitl [H14]
  · iexists _; isplitr; swap; · iexact H14
    ipureintro
    rfl
  isplitl [H15]
  · iexists _; isplitr; swap; · iexact H15
    ipureintro
    rfl
  isplitl [H16]
  · iexists _, _; isplitr; swap; · iexact H16
    ipureintro; rfl
  isplitl [H17]
  · iexists _; isplitr; swap; · iexact H17
    ipureintro
    refine read_xq _ _ _ _ _ _ _ _ _ _ _ _ _ _ _ (tail_xq ?_ ?_) ?_ ?_ ?_ ?_ ?_ ?_ ?_ ?_ ?_
    · refine (readCov_whole _ _ (by decide) _).trans ?_
      refine canon_xs_over _ _ _ _ _ _ _ _ _ _ _ ?_ ?_ ?_ ?_ ?_ ?_ ?_ ?_ ?_
      · rfl
      · rfl
      · rfl
      · rfl
      · rfl
      · rfl
      · rfl
      · rfl
      · rfl
    · exact View.ld_unit_zero (by decide) _ _
    · rfl
    · rfl
    · rfl
    · rfl
    · rfl
    · rfl
    · rfl
    · rfl
    · rfl
  isplitl [H18]
  · iexists _, _; isplitr; swap; · iexact H18
    ipureintro; rfl
  isplitl [H19]
  · iexists _; isplitr; swap; · iexact H19
    ipureintro
    refine read_pk _ _ _ _ _ _ _ _ _ ?_ ?_ ?_ ?_ ?_
    · rfl
    · rfl
    · rfl
    · rfl
    · rfl
  isplitl [H20]
  · iexists _, _; isplitr; swap; · iexact H20
    ipureintro; rfl
  isplitl [H21]
  · iexists _; isplitr; swap; · iexact H21
    ipureintro
    exact (View.read_writes_eq_canon _ _ _ (whole_cover _ (by decide) _)).trans ((View.canon_unit_zero (by decide) _ _).trans rfl)
  isplitl [H22]
  · iexists _, _; isplitr; swap; · iexact H22
    ipureintro; rfl
  iexists _, _; isplitr; swap; · iexact H23
  ipureintro; rfl
end Cert.KernelIdeal.Hand
end
-- ==== Proof.Value.Body.lean ====
/-
  The body at one grid point, with what it leaves.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim
public import Idealize.ShloMosaic.Lib.Tactic.RunNames
public import proofs.«01_k».proof.Proof.Value.First
public import proofs.«01_k».proof.Proof.Value.StepSafe
public import proofs.«01_k».proof.Proof.Value.StepOther

@[expose] public section

set_option maxRecDepth 65536

noncomputable section

namespace Cert.KernelIdeal.Hand

open Cert.KernelIdeal Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S256x1152 .bf16) (harg3 : arg3.IsWhole)
  (arg4 : Memref sig .tc .vmem S256x1152 .bf16) (harg4 : arg4.IsWhole)
  (arg5 : Memref sig .tc .vmem S256x1152 .bf16) (harg5 : arg5.IsWhole)
  (arg6 : Memref sig .tc .vmem S1x1152 .f32) (harg6 : arg6.IsWhole)
  (arg7 : Memref sig .tc .vmem S576x4608 .i8) (harg7 : arg7.IsWhole)
  (arg8 : Memref sig .tc .vmem S72x4608 .fp8e4m3) (harg8 : arg8.IsWhole)
  (arg9 : Memref sig .tc .vmem S1152x32 .bf16) (harg9 : arg9.IsWhole)
  (arg10 : Memref sig .tc .vmem S32x4608 .bf16) (harg10 : arg10.IsWhole)
  (arg11 : Memref sig .tc .vmem S1x4608 .f32) (harg11 : arg11.IsWhole)
  (arg12 : Memref sig .tc .vmem S512x4608 .bf16) (harg12 : arg12.IsWhole)
  (arg13 : Memref sig .tc .vmem S512x576 .i8) (harg13 : arg13.IsWhole)
  (arg14 : Memref sig .tc .vmem S512x72 .fp8e4m3) (harg14 : arg14.IsWhole)
  (arg15 : Memref sig .tc .vmem S1280x4608 .bf16) (harg15 : arg15.IsWhole)
  (arg16 : Memref sig .tc .vmem S1152x128 .bf16) (harg16 : arg16.IsWhole)
  (arg17 : Memref sig .tc .vmem S256x1152 .bf16) (harg17 : arg17.IsWhole)
  (arg18 : Memref sig .tc .vmem S256x1280 .bf16) (harg18 : arg18.IsWhole)
  (arg19 : Memref sig .tc .vmem S256x1280 .bf16) (harg19 : arg19.IsWhole)
  (arg20 : Memref sig .tc .vmem S256x576 .i8) (harg20 : arg20.IsWhole)
  (arg21 : Memref sig .tc .vmem S256x576 .i8) (harg21 : arg21.IsWhole)
  (arg22 : Memref sig .tc .vmem S256x72 .fp8e4m3) (harg22 : arg22.IsWhole)
  (arg23 : Memref sig .tc .vmem S256x72 .fp8e4m3) (harg23 : arg23.IsWhole)
  (arg24 : Memref sig .tc .vmem S72x4608 .f32) (harg24 : arg24.IsWhole)
  (x0 : Vec F S1 .f32) (x1 : Vec F S1 .f32) (x2 : Vec F S256x1152 .bf16) (x3 : Vec F S256x1152 .bf16) (x4 : Vec F S256x1152 .bf16) (x5 : Vec F S1x1152 .f32) (x6 : Vec F S576x4608 .i8) (x7 : Vec F S72x4608 .fp8e4m3) (x8 : Vec F S1152x32 .bf16) (x9 : Vec F S32x4608 .bf16) (x10 : Vec F S1x4608 .f32)

/-- The one index of a one-word buffer. -/
def z1 : S1.Idx := fun a => ⟨0, by revert a; decide⟩

omit [FloatOps F] in
/-- A one-word load reads that word. -/
theorem word_eq {sig : RefSig} {k : Kind} {sp : Space} (v : View sig k sp S1 .f32) (f : v.ty.Contents (Elt F)) (inb)
    (j : (Rect.unit (s := S1) ![0] S1.size inb).toLoadRect.shape.Idx) :
    View.readAt (Elt F) v (Rect.unit (s := S1) ![0] S1.size inb).toLoadRect f j = View.read (Elt F) v f z1 := by
  rw [View.readAt_apply]
  refine congrArg _ (funext fun a => Fin.ext ?_)
  have h1 := ((Rect.unit (s := S1) ![0] S1.size inb).toLoadRect.idx j a).isLt
  have h2 := (by decide : ∀ a, S1.size a = 1) a
  show _ = 0
  omega

/-- The two words the body reads first. -/
theorem words_val {R : Type} (κ : top1.K (F := F) arg1 arg2 (R := R)) (Q : R → sProp 𝕄) :
    iprop(owns (c : Thread nD τ) arg1 fullShare x0 ∗ owns (c : Thread nD τ) arg2 fullShare x1)
      ⊢ iprop(((owns (c : Thread nD τ) arg1 fullShare x0 ∗ owns (c : Thread nD τ) arg2 fullShare x1) -∗ wp frame (wpE (defs₀ (F := F)) Variants.none c none) Set.univ (κ (x0 z1) (x1 z1)) Q)
          -∗ wp frame (wpE (defs₀ (F := F)) Variants.none c none) Set.univ (top1 arg1 arg2 κ) Q) := by
  unfold top1 owns
  iintro ⟨⟨%f0, %hf0, H0⟩, ⟨%f1, %hf1, H1⟩⟩ Hk
  subst hf0 hf1
  sl_exec
  sl_unfold_run_names
  rw [word_eq, word_eq]
  iapply Hk
  isplitl [H0]; · iexists _; isplitr; swap; · iexact H0
                  ipureintro; rfl
  iexists _; isplitr; swap; · iexact H1
  ipureintro; rfl

/-- The preparation is skipped at every point but the first. -/
theorem prep_skip (v0 v1 : Elt F .f32) (hi : ¬ k0_cond1 i = 1#1) {R : Type} (κ : Prog (TpuEff nD τ sig (Elt F) Λ₀ .tc) R) (Q : R → sProp 𝕄) :
    wp frame (wpE (defs₀ (F := F)) Variants.none c none) Set.univ κ Q ⊢ wp frame (wpE (defs₀ (F := F)) Variants.none c none) Set.univ (top2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q := by
  unfold top2
  iintro H
  dsimp only
  rw [dif_neg hi]
  iexact H

theorem safe_skip (v0 v1 : Elt F .f32) (hi : ¬ safeOn v0 v1 = 1#1) {R : Type} (κ : Prog (TpuEff nD τ sig (Elt F) Λ₀ .tc) R) (Q : R → sProp 𝕄) :
    wp frame (wpE (defs₀ (F := F)) Variants.none c none) Set.univ κ Q ⊢ wp frame (wpE (defs₀ (F := F)) Variants.none c none) Set.univ (top3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q := by
  unfold top3
  iintro H
  dsimp only
  split
  · rename_i h; exact absurd h hi
  iexact H

theorem other_skip (v0 v1 : Elt F .f32) (hi : ¬ otherOn v0 v1 = 1#1) {R : Type} (κ : Prog (TpuEff nD τ sig (Elt F) Λ₀ .tc) R) (Q : R → sProp 𝕄) :
    wp frame (wpE (defs₀ (F := F)) Variants.none c none) Set.univ κ Q ⊢ wp frame (wpE (defs₀ (F := F)) Variants.none c none) Set.univ (top4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ) Q := by
  unfold top4
  iintro H
  dsimp only
  split
  · rename_i h; exact absurd h hi
  iexact H

/-- Exactly one of the two steps is taken. -/
theorem other_of_not_safe (v0 v1 : Elt F .f32) : otherOn v0 v1 = 1#1 ↔ ¬ safeOn v0 v1 = 1#1 := by
  unfold otherOn safeOn
  generalize safeBit v0 v1 = b
  revert b; decide

/-- The result's block of a point. -/
def YB (v0 v1 : Elt F .f32) (wq : Vec F S1280x4608 .bf16) (lup : Vec F S32x4608 .bf16) (bias : Vec F S1x4608 .f32)
    (xq xq' : Vec F S256x1280 .bf16) : Vec F S512x4608 .bf16 :=
  if safeOn v0 v1 = 1#1 then YS v0 v1 wq bias xq xq' else YU v0 v1 wq lup bias xq xq'

/-- The step, whichever of the two is taken. -/
theorem step_val (v0 v1 : Elt F .f32) (wq : Vec F S1280x4608 .bf16) (ld3 : Vec F S1152x128 .bf16) (xq : Vec F S256x1280 .bf16) (pk : Vec F S256x576 .i8) (sc : Vec F S256x72 .fp8e4m3)
    {R : Type} (κ : Prog (TpuEff nD τ sig (Elt F) Λ₀ .tc) R) (Q : R → sProp 𝕄) :
    HeldAt c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 wq ld3 xq pk sc
      ⊢ iprop((Done c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 wq ld3 (XQ v0 ld3 (prods x4 x5)) (PK v0 (prods x4 x5)) (SC v0 (prods x4 x5)) (YB v0 v1 wq x9 x10 xq (XQ v0 ld3 (prods x3 x5))) (PKO pk (PK v0 (prods x3 x5))) (SCO sc (SC v0 (prods x3 x5)))
            -∗ wp frame (wpE (defs₀ (F := F)) Variants.none c none) Set.univ κ Q)
          -∗ wp frame (wpE (defs₀ (F := F)) Variants.none c none) Set.univ (top3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 (top4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 κ)) Q) := by
  by_cases hs : safeOn v0 v1 = 1#1
  · have ho : ¬ otherOn v0 v1 = 1#1 := fun h => (other_of_not_safe v0 v1).mp h hs
    unfold YB
    rw [if_pos hs]
    iintro HH Hk
    iapply (step_safe c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 v0 v1 wq ld3 xq pk sc hs _ Q) $$ HH
    iintro HH
    iapply (other_skip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 ho κ Q)
    iapply Hk
    iexact HH
  · have ho : otherOn v0 v1 = 1#1 := (other_of_not_safe v0 v1).mpr hs
    unfold YB
    rw [if_neg hs]
    iintro HH Hk
    iapply (safe_skip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v0 v1 hs _ Q)
    iapply (step_other c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 v0 v1 wq ld3 xq pk sc ho κ Q) $$ HH
    iintro HH
    iapply Hk
    iexact HH

/-- The body at the first point. -/
theorem body_first (hi : k0_cond1 i = 1#1) (Q : PUnit → sProp 𝕄) :
    iprop(Held c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 ∗ (Done c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 (WQ (x0 z1) (x1 z1) x6 (k0_pay102 x7) x9) (LD3 x8)
        (XQ (x0 z1) (LD3 x8) (prods x4 x5)) (PK (x0 z1) (prods x4 x5)) (SC (x0 z1) (prods x4 x5))
        (YB (x0 z1) (x1 z1) (WQ (x0 z1) (x1 z1) x6 (k0_pay102 x7) x9) x9 x10 (XQ (x0 z1) (LD3 x8) (prods x2 x5)) (XQ (x0 z1) (LD3 x8) (prods x3 x5)))
        (PKO (PK (x0 z1) (prods x2 x5)) (PK (x0 z1) (prods x3 x5))) (SCO (SC (x0 z1) (prods x2 x5)) (SC (x0 z1) (prods x3 x5))) -∗ Q ⟨⟩))
      ⊢ wp frame (wpE (defs₀ (F := F)) Variants.none c none) Set.univ (cc0_svdquant_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) Q := by
  iintro ⟨HH, Hk⟩
  rw [cc0_svdquant_linear_eq_skeleton, top1.eq]
  unfold Held
  icases HH with ⟨H0, H1, Hr⟩
  iapply (words_val c arg1 arg2 x0 x1) $$ [H0 H1]
  · isplitl [H0]; · iexact H0
    iexact H1
  iintro ⟨H0, H1⟩
  rw [top2.eq, top3.eq, top4.eq]
  iapply (prep_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 (x0 z1) (x1 z1) hi) $$ [H0 H1 Hr]
  · unfold Held
    isplitl [H0]; · iexact H0
    isplitl [H1]; · iexact H1
    iexact Hr
  iintro HH
  iapply (step_val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10) $$ HH
  iintro HH
  unfold top4.tail
  sl_step
  iapply Hk
  iexact HH

/-- The body at every later point. -/
theorem body_later (hi : ¬ k0_cond1 i = 1#1) (wq : Vec F S1280x4608 .bf16) (ld3 : Vec F S1152x128 .bf16) (xq : Vec F S256x1280 .bf16) (pk : Vec F S256x576 .i8) (sc : Vec F S256x72 .fp8e4m3) (Q : PUnit → sProp 𝕄) :
    iprop(HeldAt c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 wq ld3 xq pk sc ∗ (Done c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 wq ld3
        (XQ (x0 z1) ld3 (prods x4 x5)) (PK (x0 z1) (prods x4 x5)) (SC (x0 z1) (prods x4 x5))
        (YB (x0 z1) (x1 z1) wq x9 x10 xq (XQ (x0 z1) ld3 (prods x3 x5)))
        (PKO pk (PK (x0 z1) (prods x3 x5))) (SCO sc (SC (x0 z1) (prods x3 x5))) -∗ Q ⟨⟩))
      ⊢ wp frame (wpE (defs₀ (F := F)) Variants.none c none) Set.univ (cc0_svdquant_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) Q := by
  iintro ⟨HH, Hk⟩
  rw [cc0_svdquant_linear_eq_skeleton, top1.eq]
  unfold HeldAt
  icases HH with ⟨H0, H1, Hr⟩
  iapply (words_val c arg1 arg2 x0 x1) $$ [H0 H1]
  · isplitl [H0]; · iexact H0
    iexact H1
  iintro ⟨H0, H1⟩
  rw [top2.eq, top3.eq, top4.eq]
  iapply (prep_skip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (x0 z1) (x1 z1) hi)
  iapply (step_val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 (x0 z1) (x1 z1) wq ld3 xq pk sc) $$ [H0 H1 Hr]
  · unfold HeldAt
    isplitl [H0]; · iexact H0
    isplitl [H1]; · iexact H1
    iexact Hr
  iintro HH
  unfold top4.tail
  sl_step
  iapply Hk
  iexact HH

end Cert.KernelIdeal.Hand
end
-- ==== Proof.Value.YAt.lean ====
/-
  The result at an index: the product of the decoded activations and weights scaled by the two global scales, the low-rank
  branch and the bias. The step for a scale in the safe range takes the low-rank branch through the same product, divided by the
  scale; the other step adds it afterwards.
-/
module

public import proofs.«01_k».proof.Proof.Value.Weight
public import proofs.«01_k».proof.Proof.Value.Body

@[expose] public section

set_option maxRecDepth 16384

noncomputable section

namespace Cert.Spec

open Idealize.ShloMosaic

/-- The result of a row of products at column `n`. -/
def yAt (xg wg : EReal) (P : Fin 1152 → EReal) (wp : (⟨2, ![576, 4608]⟩ : Shape).Idx → BitVec 8) (ws : (⟨2, ![72, 4608]⟩ : Shape).Idx → EReal)
    (ld : (⟨2, ![1152, 32]⟩ : Shape).Idx → EReal) (lup : (⟨2, ![32, 4608]⟩ : Shape).Idx → EReal) (bias : (⟨2, ![1, 4608]⟩ : Shape).Idx → EReal)
    (n : Fin 4608) : EReal :=
  (∑ k : Fin 1152, deq xg P k * wval wp ws k n) * (xg * wg)
    + ∑ j : Fin 32, (∑ k : Fin 1152, P k * ld (ix2 k j)) * lup (ix2 j n) + bias (ix2 0 n)

theorem sum_mul_pos {n : ℕ} (f : Fin n → EReal) (c : ℝ) (hc : 0 < c) : (∑ j, f j) * (c : EReal) = ∑ j, f j * (c : EReal) := by
  have key : ∀ s : Finset (Fin n), (∑ j ∈ s, f j) * (c : EReal) = ∑ j ∈ s, f j * (c : EReal) := by
    intro s
    induction s using Finset.cons_induction with
    | empty => simp
    | cons a s h ih =>
      rw [Finset.sum_cons, Finset.sum_cons, ← ih, mul_comm, EReal.left_distrib_of_nonneg_of_ne_top (EReal.coe_nonneg.mpr hc.le) (EReal.coe_ne_top c),
        mul_comm, mul_comm (c : EReal) (∑ j ∈ s, f j)]
  exact key _

theorem div_mul_real (x c : ℝ) (hc : 0 < c) : Ideal.div (x : EReal) (c : EReal) * (c : EReal) = (x : EReal) := by
  rw [div_real hc.ne', ← EReal.coe_mul, div_mul_cancel₀ _ hc.ne']

/-- The product with the low-rank branch inside it. -/
theorem scaled (acc : EReal) (h u : Fin 32 → EReal) (c : ℝ) (hc : 0 < c) (hu : ∀ j, ∃ x : ℝ, u j = (x : EReal)) :
    (acc + ∑ j, h j * Ideal.div (u j) (c : EReal)) * (c : EReal) = acc * (c : EReal) + ∑ j, h j * u j := by
  rw [mul_comm, EReal.left_distrib_of_nonneg_of_ne_top (EReal.coe_nonneg.mpr hc.le) (EReal.coe_ne_top c), mul_comm (c : EReal) acc,
    mul_comm (c : EReal), sum_mul_pos _ c hc]
  congr 1
  refine Finset.sum_congr rfl fun j _ => ?_
  obtain ⟨x, hx⟩ := hu j
  rw [hx, mul_assoc, div_mul_real x c hc]

end Cert.Spec

namespace Cert.ReferenceIdeal.Val

open Cert.ReferenceIdeal Cert.ReferenceIdeal.Gen Cert.Spec
open Idealize.ShloMosaic

theorem pay15_apply (wp : Vec Ideal S576x4608 .i8) (a : Fin 576) (b : Fin 2) (n : Fin 4608) :
    k0_pay15 (F := Ideal) (iota .tc S576x2x4608 32 [1] iota_S576x2x4608_d1_w32) wp (ix3 a b n) = bitOf (wcode (wp (ix2 a n)) b.val) 8#32 := by
  have h := pay14_apply wp a b n
  unfold k0_pay15
  generalize k0_pay14 (F := Ideal) _ wp = T at h ⊢
  pointwise
  rw [h]

theorem pay16_apply (wp : Vec Ideal S576x4608 .i8) (a : Fin 576) (b : Fin 2) (n : Fin 4608) :
    k0_pay16 (F := Ideal) (iota .tc S576x2x4608 32 [1] iota_S576x2x4608_d1_w32) wp (ix3 a b n) = dmag (wcode (wp (ix2 a n)) b.val) := by
  have h := pay14_apply wp a b n
  unfold k0_pay16
  generalize k0_pay14 (F := Ideal) _ wp = T at h ⊢
  pointwise
  rw [h]
  rfl

theorem pay17_apply (a : Fin 576) (b : Fin 2) (n : Fin 4608) : k0_pay17 (F := Ideal) (ix3 a b n) = 0 := by
  pointwise [k0_pay17]

theorem pay2_apply (x : Vec Ideal S16384x1152 .bf16) (sm : Vec Ideal S1x1152 .f32) (r : Fin 16384) (c : Fin 1152) :
    k0_pay2 (F := Ideal) x sm (ix2 r c) = rowR x sm r c := by
  pointwise [k0_pay2]
  rfl

theorem pay1_raw (v0 v1 : EReal) (v8 : FVec Ideal S16384x1152 .f32) (v124 : FVec Ideal S16384x1152 .bf16) (v150 : IVec S576x2x4608 1)
    (v165 v166 : FVec Ideal S576x2x4608 .f32) (v171 : Vec Ideal S72x4608 .fp8e4m3) (v179 : Vec Ideal S1152x32 .bf16)
    (v182 : Vec Ideal S32x4608 .bf16) (v188 : Vec Ideal S1x4608 .f32) (r : Fin 16384) (n : Fin 4608) :
    k0_pay1 (F := Ideal) v0 v1 v8 v124 v150 v165 v166 v171 v179 v182 v188 (ix2 r n)
      = (∑ x : Fin 1152, v124 (ix2 r x) *
          (Scalar.select (v150 (ix3 ⟨x.val / 16 * 8 + x.val % 16 / 2, by omega⟩ ⟨x.val % 16 % 2, by omega⟩ n))
            (v166 (ix3 ⟨x.val / 16 * 8 + x.val % 16 / 2, by omega⟩ ⟨x.val % 16 % 2, by omega⟩ n)
              - v165 (ix3 ⟨x.val / 16 * 8 + x.val % 16 / 2, by omega⟩ ⟨x.val % 16 % 2, by omega⟩ n))
            (v165 (ix3 ⟨x.val / 16 * 8 + x.val % 16 / 2, by omega⟩ ⟨x.val % 16 % 2, by omega⟩ n))
            * v171 (ix2 ⟨x.val / 16, by omega⟩ n))) * (v0 * v1)
        + ∑ x : Fin 32, (∑ k : Fin 1152, v8 (ix2 r k) * v179 (ix2 k x)) * v182 (ix2 x n) + v188 (ix2 0 n) := by
  pointwise [k0_pay1]

theorem pay1_apply (xg wg : EReal) (x : Vec Ideal S16384x1152 .bf16) (sm : Vec Ideal S1x1152 .f32) (wp : Vec Ideal S576x4608 .i8)
    (ws : Vec Ideal S72x4608 .fp8e4m3) (ld : Vec Ideal S1152x32 .bf16) (lup : Vec Ideal S32x4608 .bf16) (bias : Vec Ideal S1x4608 .f32)
    (r : Fin 16384) (n : Fin 4608) :
    k0_pay1 (F := Ideal) xg wg (k0_pay2 (F := Ideal) x sm) (k0_pay13 (F := Ideal) (k0_pay4 (F := Ideal) xg x sm) (codes xg x sm))
      (k0_pay15 (F := Ideal) (iota .tc S576x2x4608 32 [1] iota_S576x2x4608_d1_w32) wp)
      (k0_pay16 (F := Ideal) (iota .tc S576x2x4608 32 [1] iota_S576x2x4608_d1_w32) wp) (k0_pay17 (F := Ideal)) ws ld lup bias (ix2 r n)
      = yAt xg wg (rowR x sm r) wp ws ld lup bias n := by
  have h13 := pay13_apply xg x sm r
  have h2 := pay2_apply x sm r
  have h15 := pay15_apply wp
  have h16 := pay16_apply wp
  have h17 := pay17_apply
  generalize k0_pay13 (F := Ideal) (k0_pay4 (F := Ideal) xg x sm) (codes xg x sm) = X at h13 ⊢
  generalize k0_pay2 (F := Ideal) x sm = Y at h2 ⊢
  generalize k0_pay15 (F := Ideal) _ wp = C at h15 ⊢
  generalize k0_pay16 (F := Ideal) _ wp = M at h16 ⊢
  generalize k0_pay17 (F := Ideal) = Z at h17 ⊢
  rw [pay1_raw]
  simp only [h13, h2, h15, h16, h17]
  unfold yAt
  refine congrArg₂ (· + ·) (congrArg₂ (· + ·) (congrArg (· * (xg * wg)) ?_) rfl) rfl
  refine Finset.sum_congr rfl fun k _ => ?_
  unfold wval dval
  have e1 : (⟨k.val / 16 * 8 + k.val % 16 / 2, by omega⟩ : Fin 576) = ⟨k.val / 2, by omega⟩ := Fin.ext (by show k.val / 16 * 8 + k.val % 16 / 2 = k.val / 2; omega)
  have e2 : k.val % 16 % 2 = k.val % 2 := by omega
  simp only [e1, e2]

end Cert.ReferenceIdeal.Val

namespace Cert.KernelIdeal.Val

open Cert.KernelIdeal Cert.KernelIdeal.Gen Cert.KernelIdeal.Hand Cert.Spec
open Idealize.ShloMosaic

theorem ld_apply {α : EltTy} {N M n m o q : ℕ} (v : Vec Ideal ⟨2, ![N, M]⟩ α)
    (inb : ∀ a, (![o, q] : Fin 2 → ℕ) a + (![n, m] : Fin 2 → ℕ) a ≤ (⟨2, ![N, M]⟩ : Shape).size a) (r : Fin n) (l : Fin m)
    (r' : Fin N) (l' : Fin M) (hr : r'.val = o + r.val) (hl : l'.val = q + l.val) :
    View.ld v (Rect.unit (s := ⟨2, ![N, M]⟩) ![o, q] ![n, m] inb) (ix2 r l) = v (ix2 r' l') := by
  show v _ = v _
  congr 1
  funext a
  match a with
  | ⟨0, _⟩ => exact Fin.ext (by show o + 1 * r.val = r'.val; omega)
  | ⟨1, _⟩ => exact Fin.ext (by show q + 1 * l.val = l'.val; omega)

theorem pay102_apply (ws : Vec Ideal S72x4608 .fp8e4m3) (r : Fin 72) (n : Fin 4608) : k0_pay102 (F := Ideal) ws (ix2 r n) = ws (ix2 r n) := by
  pointwise [k0_pay102]

theorem wqBlk_apply (sp : Vec Ideal S72x4608 .f32) (wp : Vec Ideal S576x4608 .i8) (g c : ℕ) (hg : g < 9) (hc : c < 36) (r n : Fin 128)
    (k : Fin 1152) (hk : k.val = 128 * g + r.val) (q : Fin 4608) (hq : q.val = 128 * c + n.val) :
    wqBlk (F := Ideal) sp wp g c hg hc (ix2 r n) = wval wp sp k q := by
  unfold wqBlk wval
  rw [pay7_apply, ld_apply wp _ _ n ⟨k.val / 2, by omega⟩ q (by show k.val / 2 = 64 * g + r.val / 2; omega) hq,
    ld_apply sp _ _ n ⟨k.val / 16, by omega⟩ q (by show k.val / 16 = 8 * g + r.val / 16; omega) hq, show r.val % 2 = k.val % 2 by omega]

theorem WQ_lo (v0 v1 : EReal) (wp : Vec Ideal S576x4608 .i8) (sp : Vec Ideal S72x4608 .f32) (lup : Vec Ideal S32x4608 .bf16)
    (j : Fin 1280) (n : Fin 4608) (k : Fin 1152) (hk : j.val = k.val) :
    WQ (F := Ideal) v0 v1 wp sp lup (ix2 j n) = wval wp sp k n := by
  unfold WQ
  split
  · exact wqBlk_apply sp wp _ _ _ _ _ _ k (by show k.val = 128 * (j.val / 128) + j.val % 128; omega) n
      (by show n.val = 128 * (n.val / 128) + n.val % 128; omega)
  · rename_i h; exact absurd (show j.val < 1152 by omega) h

theorem pay108_apply (v0 v1 : EReal) (lup : Vec Ideal S32x4608 .bf16) (r : Fin 32) (n : Fin 4608) :
    k0_pay108 (F := Ideal) (k0_pay1 (F := Ideal) v0 v1) 1#1 lup (ix2 r n) = Ideal.div (lup (ix2 r n)) (v0 * v1) := by
  pointwise [k0_pay108, k0_pay1, k0_pay103, k0_pay104, k0_pay105, k0_pay106, k0_pay107]

theorem pay109_apply (v0 v1 : EReal) (lup : Vec Ideal S32x4608 .bf16) (r : Fin 32) (n : Fin 4608) :
    k0_pay109 (F := Ideal) (k0_pay1 (F := Ideal) v0 v1) 1#1 lup (ix2 r n)
      = Ideal.div (lup (ix2 r n)) (v0 * v1) - Ideal.div (lup (ix2 r n)) (v0 * v1) := by
  pointwise [k0_pay109, k0_pay1, k0_pay103, k0_pay104, k0_pay105, k0_pay106, k0_pay107, k0_pay108]

theorem pay110_apply (v0 v1 : EReal) (lup : Vec Ideal S32x4608 .bf16) (r : Fin 32) (n : Fin 4608) :
    k0_pay110 (F := Ideal) (k0_pay1 (F := Ideal) v0 v1) 1#1 lup (ix2 r n)
      = Ideal.div (lup (ix2 r n)) (v0 * v1) - Ideal.div (lup (ix2 r n)) (v0 * v1)
        - (Ideal.div (lup (ix2 r n)) (v0 * v1) - Ideal.div (lup (ix2 r n)) (v0 * v1)) := by
  pointwise [k0_pay110, k0_pay1, k0_pay103, k0_pay104, k0_pay105, k0_pay106, k0_pay107, k0_pay108, k0_pay109]

theorem pay111_apply (r : Fin 32) (n : Fin 4608) : k0_pay111 (F := Ideal) (ix2 r n) = 0 := by
  pointwise [k0_pay111]

theorem LD3_apply (ld : Vec Ideal S1152x32 .bf16) (k : Fin 1152) (l : Fin 128) (j : Fin 32) (h : l.val = j.val) :
    LD3 (F := Ideal) ld (ix2 k l) = ld (ix2 k j) := by
  unfold LD3
  pointwise [k0_pay112]
  rw [dif_pos (by omega)]
  congr 2
  exact Fin.ext h

/-- The band of the low-rank factor in the decoded weights' rows, the scale in the safe range. -/
theorem WQ_hi (v0 v1 : EReal) (c : ℝ) (hc : 0 < c) (hv : v0 * v1 = (c : EReal)) (hs : safeBit (F := Ideal) v0 v1 = 1#1)
    (wp : Vec Ideal S576x4608 .i8) (sp : Vec Ideal S72x4608 .f32) (lup : Vec Ideal S32x4608 .bf16)
    (hl : ∀ j n, ∃ x : ℝ, lup (ix2 j n) = (x : EReal)) (j : Fin 1280) (n : Fin 4608) (hj : 1152 ≤ j.val) :
    WQ (F := Ideal) v0 v1 wp sp lup (ix2 j n)
      = if j.val < 1184 then Ideal.div (lup (ix2 ⟨j.val % 32, Nat.mod_lt _ (by decide)⟩ n)) (c : EReal) else 0 := by
  have z : ∀ r : Fin 32, Ideal.div (lup (ix2 r n)) (c : EReal) - Ideal.div (lup (ix2 r n)) (c : EReal) = 0 := by
    intro r
    obtain ⟨x, hx⟩ := hl r n
    rw [hx, div_real hc.ne', ← EReal.coe_sub, sub_self, EReal.coe_zero]
  unfold WQ
  split
  · rename_i h; exact absurd (show j.val < 1152 from h) (by omega)
  · rw [hs]
    show (if j.val < 1184 then _ else if j.val < 1216 then _ else if j.val < 1248 then _ else _ : FVec Ideal S32x4608 .bf16) _ = _
    by_cases h1 : j.val < 1184
    · rw [if_pos h1, if_pos h1]
      exact (pay108_apply v0 v1 lup _ n).trans (by rw [hv]; rfl)
    · rw [if_neg h1, if_neg h1]
      by_cases h2 : j.val < 1216
      · rw [if_pos h2]
        exact (pay109_apply v0 v1 lup _ n).trans (by rw [hv]; exact z _)
      · rw [if_neg h2]
        by_cases h3 : j.val < 1248
        · rw [if_pos h3]
          exact (pay110_apply v0 v1 lup _ n).trans (by rw [hv, z _, sub_zero])
        · rw [if_neg h3]
          exact pay111_apply _ n

/-- A scale in the safe range and not negative is a positive real. -/
theorem safe_real (v0 v1 : EReal) (h : safeOn (F := Ideal) v0 v1 = 1#1) (h0 : 0 ≤ v0 * v1) :
    safeBit (F := Ideal) v0 v1 = 1#1 ∧ ∃ c : ℝ, 0 < c ∧ v0 * v1 = (c : EReal) := by
  have hb : safeBit (F := Ideal) v0 v1 = 1#1 := by
    have : ∀ b : BitVec 1, Scalar.cmpi .ne (Scalar.extui b : BitVec 32) 0#32 = 1#1 → b = 1#1 := by decide
    exact this _ h
  refine ⟨hb, ?_⟩
  have hb' : (BitVec.ofBool (decide (B 0x27800000#32 ≤ mag (v0 * v1)))) &&& (BitVec.ofBool (decide (mag (v0 * v1) ≤ B 0x57800000#32))) = 1#1 := hb
  generalize v0 * v1 = z at hb' h0
  have lo : (0 : EReal) < B 0x27800000#32 := by
    have : B 0x27800000#32 = (((2 : ℝ) ^ (-48 : ℤ) : ℝ) : EReal) := by
      simp [B, Ideal.ofBits, Ideal.ieee, -EReal.coe_mul]; norm_num
    rw [this]; exact EReal.coe_pos.mpr (by positivity)
  have hi : B 0x57800000#32 < ⊤ := by
    have : B 0x57800000#32 = ((281474976710656 : ℝ) : EReal) := by
      simp [B, Ideal.ofBits, Ideal.ieee, -EReal.coe_mul, -EReal.coe_pow]; norm_num
    rw [this]; exact EReal.coe_lt_top _
  have a1 : B 0x27800000#32 ≤ mag z := by
    by_contra hn; rw [decide_eq_false hn] at hb'; simp at hb'
  have a2 : mag z ≤ B 0x57800000#32 := by
    by_contra hn; rw [decide_eq_false hn] at hb'; simp at hb'
  have hz : z < ⊤ := lt_of_le_of_lt (le_trans (le_max_left _ _) a2) hi
  have hz0 : z ≠ 0 := by
    rintro rfl
    have : mag (0 : EReal) = 0 := by simp [mag]
    rw [this] at a1
    exact absurd (lt_of_lt_of_le lo a1) (lt_irrefl _)
  lift z to ℝ using ⟨hz.ne, (lt_of_lt_of_le (EReal.bot_lt_zero) h0).ne'⟩
  exact ⟨z, lt_of_le_of_ne (EReal.coe_nonneg.mp h0) (fun e => hz0 (by rw [← e]; rfl)), rfl⟩

theorem pay4_apply (v0 v1 : EReal) (xq : Vec Ideal S256x1280 .bf16) (wq : Vec Ideal S1280x512 .bf16) (bias : Vec Ideal S1x512 .f32)
    (r : Fin 256) (n : Fin 512) :
    k0_pay4 (F := Ideal) v0 v1 xq wq bias (ix2 r n) = (∑ x : Fin 1280, xq (ix2 r x) * wq (ix2 x n)) * (v0 * v1) + bias (ix2 0 n) := by
  pointwise [k0_pay4]
  rfl

theorem pay6_apply (v0 v1 : EReal) (xq : Vec Ideal S256x1152 .bf16) (wq : Vec Ideal S1152x512 .bf16) (h : Vec Ideal S256x32 .bf16)
    (lup : Vec Ideal S32x512 .bf16) (bias : Vec Ideal S1x512 .f32) (r : Fin 256) (n : Fin 512) :
    k0_pay6 (F := Ideal) v0 v1 xq wq h lup bias (ix2 r n) = (∑ x : Fin 1152, xq (ix2 r x) * wq (ix2 x n)) * (v0 * v1)
      + ∑ x : Fin 32, h (ix2 r x) * lup (ix2 x n) + bias (ix2 0 n) := by
  pointwise [k0_pay6]
  rfl

theorem yS_apply (v0 v1 : EReal) (c : ℝ) (hc : 0 < c) (hv : v0 * v1 = (c : EReal)) (hs : safeBit (F := Ideal) v0 v1 = 1#1)
    (wp : Vec Ideal S576x4608 .i8) (sp : Vec Ideal S72x4608 .f32) (lup : Vec Ideal S32x4608 .bf16)
    (hl : ∀ j n, ∃ x : ℝ, lup (ix2 j n) = (x : EReal)) (ld : Vec Ideal S1152x32 .bf16) (bias : Vec Ideal S1x4608 .f32)
    (xq : Vec Ideal S256x1280 .bf16) (r : Fin 256) (P : Fin 1152 → EReal) (hx : ∀ x, xq (ix2 r x) = xqAt v0 (LD3 (F := Ideal) ld) P x)
    (k : Fin 9) (l : Fin 512) (n : Fin 4608) (hn : n.val = 512 * k.val + l.val) :
    yS (F := Ideal) v0 v1 (WQ (F := Ideal) v0 v1 wp sp lup) bias xq k (ix2 r l) = yAt v0 v1 P wp sp ld lup bias n := by
  unfold yS
  rw [pay4_apply, ld_apply bias _ 0 l 0 n rfl hn]
  have e : ∀ x : Fin 1280, View.ld (WQ (F := Ideal) v0 v1 wp sp lup) (Rect.unit (s := S1280x4608) ![0, 512 * k.val] S1280x512.size (inbW k)) (ix2 x l)
      = WQ (F := Ideal) v0 v1 wp sp lup (ix2 x n) := fun x => ld_apply _ _ x l x n (by omega) hn
  simp only [e, hx]
  unfold yAt
  congr 1
  rw [hv, show (∑ x : Fin 1280, xqAt v0 (LD3 (F := Ideal) ld) P x * WQ (F := Ideal) v0 v1 wp sp lup (ix2 x n))
    = (∑ k : Fin 1152, deq v0 P k * wval wp sp k n) + ∑ j : Fin 32, (∑ k : Fin 1152, P k * ld (ix2 k j)) * Ideal.div (lup (ix2 j n)) (c : EReal) from ?_]
  · exact scaled _ _ (fun j => lup (ix2 j n)) c hc fun j => hl j n
  · rw [Fin.sum_univ_add (a := 1152) (b := 128)]
    congr 1
    · refine Finset.sum_congr rfl fun k _ => ?_
      rw [WQ_lo _ _ _ _ _ _ n k rfl]
      unfold xqAt
      rw [dif_pos (show (Fin.castAdd 128 k).val < 1152 from k.isLt)]
      rfl
    · rw [Fin.sum_univ_add (a := 32) (b := 96)]
      rw [show (∑ i : Fin 96, xqAt v0 (LD3 (F := Ideal) ld) P (Fin.natAdd 1152 (Fin.natAdd 32 i)) * WQ (F := Ideal) v0 v1 wp sp lup (ix2 (Fin.natAdd 1152 (Fin.natAdd 32 i)) n)) = 0 from
        Finset.sum_eq_zero fun i _ => ?_, add_zero]
      · refine Finset.sum_congr rfl fun j _ => ?_
        have hj : (Fin.natAdd 1152 (Fin.castAdd 96 j)).val = 1152 + j.val := rfl
        rw [WQ_hi v0 v1 c hc hv hs wp sp lup hl _ n (by omega), if_pos (by omega)]
        unfold xqAt proj
        rw [dif_neg (by omega)]
        congr 1
        · refine Finset.sum_congr rfl fun k _ => ?_
          rw [LD3_apply ld k _ j (by show 1152 + j.val - 1152 = j.val; omega)]
        · congr 3
          exact Fin.ext (by show (1152 + j.val) % 32 = j.val; omega)
      · have hj : (Fin.natAdd 1152 (Fin.natAdd 32 i)).val = 1152 + (32 + i.val) := rfl
        rw [WQ_hi v0 v1 c hc hv hs wp sp lup hl _ n (by omega), if_neg (by omega), mul_zero]

theorem yU_apply (v0 v1 : EReal) (wp : Vec Ideal S576x4608 .i8) (sp : Vec Ideal S72x4608 .f32) (lup : Vec Ideal S32x4608 .bf16)
    (ld : Vec Ideal S1152x32 .bf16) (bias : Vec Ideal S1x4608 .f32)
    (xq : Vec Ideal S256x1280 .bf16) (r : Fin 256) (P : Fin 1152 → EReal) (hx : ∀ x, xq (ix2 r x) = xqAt v0 (LD3 (F := Ideal) ld) P x)
    (k : Fin 9) (l : Fin 512) (n : Fin 4608) (hn : n.val = 512 * k.val + l.val) :
    yU (F := Ideal) v0 v1 (WQ (F := Ideal) v0 v1 wp sp lup) lup bias xq k (ix2 r l) = yAt v0 v1 P wp sp ld lup bias n := by
  unfold yU
  rw [pay6_apply, ld_apply bias _ 0 l 0 n rfl hn]
  unfold yAt
  congr 2
  · congr 1
    refine Finset.sum_congr rfl fun x _ => ?_
    rw [ld_apply xq _ r x r ⟨x.val, by omega⟩ (by omega) (by show x.val = 0 + x.val; omega),
      ld_apply (WQ (F := Ideal) v0 v1 wp sp lup) _ x l ⟨x.val, by omega⟩ n (by show x.val = 0 + x.val; omega) hn, WQ_lo _ _ _ _ _ _ n x rfl, hx]
    unfold xqAt
    rw [dif_pos (show x.val < 1152 from x.isLt)]
  · refine Finset.sum_congr rfl fun j _ => ?_
    rw [ld_apply xq _ r j r ⟨1152 + j.val, by omega⟩ (by omega) rfl, ld_apply lup _ j l j n (by omega) hn, hx]
    unfold xqAt proj
    rw [dif_neg (show ¬ (1152 + j.val < 1152) by omega)]
    congr 1
    refine Finset.sum_congr rfl fun k _ => ?_
    rw [LD3_apply ld k _ j (by show 1152 + j.val - 1152 = j.val; omega)]

theorem tiled_lo (a b : Fin 9 → FVec Ideal S256x512 .bf16) (r : Fin 256) (n : Fin 4608) :
    tiled (F := Ideal) a b (ix2 ⟨r.val, by omega⟩ n) = a ⟨n.val / 512, by omega⟩ (ix2 r ⟨n.val % 512, by omega⟩) := by
  unfold tiled
  show (if r.val < 256 then a else b) _ (ix2 ⟨r.val % 256, _⟩ _) = _
  rw [if_pos r.isLt]
  congr 2
  exact Fin.ext (Nat.mod_eq_of_lt r.isLt)

theorem tiled_hi (a b : Fin 9 → FVec Ideal S256x512 .bf16) (r : Fin 256) (n : Fin 4608) :
    tiled (F := Ideal) a b (ix2 ⟨256 + r.val, by omega⟩ n) = b ⟨n.val / 512, by omega⟩ (ix2 r ⟨n.val % 512, by omega⟩) := by
  unfold tiled
  show (if 256 + r.val < 256 then a else b) _ (ix2 ⟨(256 + r.val) % 256, _⟩ _) = _
  rw [if_neg (by omega)]
  congr 2
  exact Fin.ext (by show (256 + r.val) % 256 = r.val; omega)

section
variable (v0 v1 : EReal) (h0 : 0 ≤ v0 * v1) (wp : Vec Ideal S576x4608 .i8) (sp : Vec Ideal S72x4608 .f32) (lup : Vec Ideal S32x4608 .bf16)
  (hl : ∀ j n, ∃ x : ℝ, lup (ix2 j n) = (x : EReal)) (ld : Vec Ideal S1152x32 .bf16) (bias : Vec Ideal S1x4608 .f32)
  (xq xq' : Vec Ideal S256x1280 .bf16) (r : Fin 256) (P : Fin 1152 → EReal) (n : Fin 4608)
include h0 hl

theorem YB_lo (hx : ∀ x, xq (ix2 r x) = xqAt v0 (LD3 (F := Ideal) ld) P x) :
    YB (F := Ideal) v0 v1 (WQ (F := Ideal) v0 v1 wp sp lup) lup bias xq xq' (ix2 ⟨r.val, by omega⟩ n) = yAt v0 v1 P wp sp ld lup bias n := by
  unfold YB
  split
  · rename_i h
    obtain ⟨hs, c, hc, hv⟩ := safe_real v0 v1 h h0
    unfold YS
    rw [tiled_lo]
    exact yS_apply v0 v1 c hc hv hs wp sp lup hl ld bias xq r P hx _ _ n (by show n.val = 512 * (n.val / 512) + n.val % 512; omega)
  · unfold YU
    rw [tiled_lo]
    exact yU_apply v0 v1 wp sp lup ld bias xq r P hx _ _ n (by show n.val = 512 * (n.val / 512) + n.val % 512; omega)

theorem YB_hi (hx : ∀ x, xq' (ix2 r x) = xqAt v0 (LD3 (F := Ideal) ld) P x) :
    YB (F := Ideal) v0 v1 (WQ (F := Ideal) v0 v1 wp sp lup) lup bias xq xq' (ix2 ⟨256 + r.val, by omega⟩ n) = yAt v0 v1 P wp sp ld lup bias n := by
  unfold YB
  split
  · rename_i h
    obtain ⟨hs, c, hc, hv⟩ := safe_real v0 v1 h h0
    unfold YS
    rw [tiled_hi]
    exact yS_apply v0 v1 c hc hv hs wp sp lup hl ld bias xq' r P hx _ _ n (by show n.val = 512 * (n.val / 512) + n.val % 512; omega)
  · unfold YU
    rw [tiled_hi]
    exact yU_apply v0 v1 wp sp lup ld bias xq' r P hx _ _ n (by show n.val = 512 * (n.val / 512) + n.val % 512; omega)
end

end Cert.KernelIdeal.Val

end
-- ==== Proof.Value.Run.lean ====
/-
  The run of the whole program with its outputs named: what the scratch holds between grid points, what each point leaves in
  the three output blocks, and the arrays at the end.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Frames.KernelIdealCuts
public import proofs.«01_k».proof.Proof.Frames.KernelIdealFrame
public import proofs.«01_k».proof.Proof.Value.Body
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 65536

noncomputable section

namespace Cert.KernelIdeal.Run

open Cert.KernelIdeal Cert.KernelIdeal.Gen Cert.KernelIdeal.Val Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute -/

/-- Point number `n` of the grid. -/
def pt (n : ℕ) : Fin cfg0.N := if h : n < cfg0.N then ⟨n, h⟩ else ⟨0, by decide⟩

theorem pt_val (t : Fin cfg0.N) : pt t.val = t := by
  unfold pt; rw [dif_pos t.isLt]

abbrev b0 (c : Dev nD) (t : Fin cfg0.N) : Vec F S1 .f32 := iblk m c 0 t
abbrev b1 (c : Dev nD) (t : Fin cfg0.N) : Vec F S1 .f32 := iblk m c 1 t
abbrev b2 (c : Dev nD) (t : Fin cfg0.N) : Vec F S256x1152 .bf16 := iblk m c 2 t
abbrev b3 (c : Dev nD) (t : Fin cfg0.N) : Vec F S256x1152 .bf16 := iblk m c 3 t
abbrev b4 (c : Dev nD) (t : Fin cfg0.N) : Vec F S256x1152 .bf16 := iblk m c 4 t
abbrev b5 (c : Dev nD) (t : Fin cfg0.N) : Vec F S1x1152 .f32 := iblk m c 5 t
abbrev b6 (c : Dev nD) (t : Fin cfg0.N) : Vec F S576x4608 .i8 := iblk m c 6 t
abbrev b7 (c : Dev nD) (t : Fin cfg0.N) : Vec F S72x4608 .fp8e4m3 := iblk m c 7 t
abbrev b8 (c : Dev nD) (t : Fin cfg0.N) : Vec F S1152x32 .bf16 := iblk m c 8 t
abbrev b9 (c : Dev nD) (t : Fin cfg0.N) : Vec F S32x4608 .bf16 := iblk m c 9 t
abbrev b10 (c : Dev nD) (t : Fin cfg0.N) : Vec F S1x4608 .f32 := iblk m c 10 t

/-- The decoded weights, as the first point leaves them. -/
def wqV (c : Dev nD) : Vec F S1280x4608 .bf16 :=
  WQ (b0 m c (pt 0) z1) (b1 m c (pt 0) z1) (b6 m c (pt 0)) (k0_pay102 (b7 m c (pt 0))) (b9 m c (pt 0))

/-- The repeated down-projection. -/
def ldV (c : Dev nD) : Vec F S1152x128 .bf16 := LD3 (b8 m c (pt 0))

/-- The products of the tile point `n` begins with. -/
def pN (c : Dev nD) : ℕ → Fin 9 → FVec F S256x128 .f32
  | 0 => prods (b2 m c (pt 0)) (b5 m c (pt 0))
  | n + 1 => prods (b4 m c (pt n)) (b5 m c (pt n))

/-- The word the tile point `n` begins with was scaled by. -/
def gN (c : Dev nD) : ℕ → Elt F .f32
  | 0 => b0 m c (pt 0) z1
  | n + 1 => b0 m c (pt n) z1

/-- The products of the second tile of point `t`. -/
def pS (c : Dev nD) (t : Fin cfg0.N) : Fin 9 → FVec F S256x128 .f32 := prods (b3 m c t) (b5 m c t)

/-- The result's block of point `t`. -/
def oY (c : Dev nD) (t : Fin cfg0.N) : Vec F S512x4608 .bf16 :=
  YB (b0 m c t z1) (b1 m c t z1) (wqV m c) (b9 m c t) (b10 m c t) (XQ (gN m c t.val) (ldV m c) (pN m c t.val)) (XQ (b0 m c t z1) (ldV m c) (pS m c t))

/-- The block of packed codes of point `t`. -/
def oP (c : Dev nD) (t : Fin cfg0.N) : Vec F S512x576 .i8 := PKO (PK (gN m c t.val) (pN m c t.val)) (PK (b0 m c t z1) (pS m c t))

/-- The block of scales of point `t`. -/
def oS (c : Dev nD) (t : Fin cfg0.N) : Vec F S512x72 .fp8e4m3 := SCO (SC (gN m c t.val) (pN m c t.val)) (SC (b0 m c t z1) (pS m c t))

/-- The scratch buffers, five of them at contents. -/
def Scr (c : Dev nD) (wq : Vec F S1280x4608 .bf16) (ld : Vec F S1152x128 .bf16) (xq : Vec F S256x1280 .bf16) (pk : Vec F S256x576 .i8) (sc : Vec F S256x72 .fp8e4m3) : sProp 𝕄 :=
  iprop((owns (c : Thread nD τ) scM0_0 fullShare wq ∗ owns (c : Thread nD τ) scM0_1 fullShare ld ∗ (∃ d, owns (c : Thread nD τ) scM0_2 fullShare d) ∗ owns (c : Thread nD τ) scM0_3 fullShare xq ∗ (∃ d, owns (c : Thread nD τ) scM0_4 fullShare d) ∗ owns (c : Thread nD τ) scM0_5 fullShare pk ∗ (∃ d, owns (c : Thread nD τ) scM0_6 fullShare d) ∗ owns (c : Thread nD τ) scM0_7 fullShare sc ∗ (∃ d, owns (c : Thread nD τ) scM0_8 fullShare d) ∗ (∃ d, owns (c : Thread nD τ) scM0_9 fullShare d)) ∗ (∃ r, prngReg c r))

/-- The invariant before point `n`. -/
def PhiN (c : Dev nD) : ℕ → sProp 𝕄
  | 0 => Pipeline.ΦA spec0 c
  | n + 1 => Scr c (wqV m c) (ldV m c) (XQ (gN m c (n + 1)) (ldV m c) (pN m c (n + 1))) (PK (gN m c (n + 1)) (pN m c (n + 1))) (SC (gN m c (n + 1)) (pN m c (n + 1)))

theorem PhiN_succ (c : Dev nD) (t : Fin cfg0.N) :
    PhiN m c (t.val + 1) = Scr c (wqV m c) (ldV m c) (XQ (b0 m c t z1) (ldV m c) (prods (b4 m c t) (b5 m c t))) (PK (b0 m c t z1) (prods (b4 m c t) (b5 m c t))) (SC (b0 m c t z1) (prods (b4 m c t) (b5 m c t))) := by
  unfold PhiN gN pN
  simp only [pt_val]

/-- The proof data: the arrays as the region finds them, each input's buffer at its block, each output's buffer at the point's result. -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => oY m c t
    | ⟨12, _⟩ => oP m c t
    | ⟨13, _⟩ => oS m c t
  Φ t := PhiN m c t.val
  q _ := fullShare
  owed _ := 0

theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = iblk m c 4 t := by dsimp only [vdats]
theorem vafter_5 (c : Dev nD) (t : Fin cfg0.N) : (vdats m 0 c).after 5 t = iblk m c 5 t := by dsimp only [vdats]
theorem vafter_6 (c : Dev nD) (t : Fin cfg0.N) : (vdats m 0 c).after 6 t = iblk m c 6 t := by dsimp only [vdats]
theorem vafter_7 (c : Dev nD) (t : Fin cfg0.N) : (vdats m 0 c).after 7 t = iblk m c 7 t := by dsimp only [vdats]
theorem vafter_8 (c : Dev nD) (t : Fin cfg0.N) : (vdats m 0 c).after 8 t = iblk m c 8 t := by dsimp only [vdats]
theorem vafter_9 (c : Dev nD) (t : Fin cfg0.N) : (vdats m 0 c).after 9 t = iblk m c 9 t := by dsimp only [vdats]
theorem vafter_10 (c : Dev nD) (t : Fin cfg0.N) : (vdats m 0 c).after 10 t = iblk m c 10 t := by dsimp only [vdats]
theorem vafter_11 (c : Dev nD) (t : Fin cfg0.N) : (vdats m 0 c).after 11 t = oY m c t := by dsimp only [vdats]
theorem vafter_12 (c : Dev nD) (t : Fin cfg0.N) : (vdats m 0 c).after 12 t = oP m c t := by dsimp only [vdats]
theorem vafter_13 (c : Dev nD) (t : Fin cfg0.N) : (vdats m 0 c).after 13 t = oS m c t := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d
theorem vbefore_4 (c : Dev nD) (t : Fin cfg0.N) (d) : (vdats m 0 c).before 4 t d = iblk m c 4 t :=
  before0_4_of m (vdats m 0 c) (vA_eq m c 4) (vafter_4 m c) t d
theorem vbefore_5 (c : Dev nD) (t : Fin cfg0.N) (d) : (vdats m 0 c).before 5 t d = iblk m c 5 t :=
  before0_5_of m (vdats m 0 c) (vA_eq m c 5) (vafter_5 m c) t d
theorem vbefore_6 (c : Dev nD) (t : Fin cfg0.N) (d) : (vdats m 0 c).before 6 t d = iblk m c 6 t :=
  before0_6_of m (vdats m 0 c) (vA_eq m c 6) (vafter_6 m c) t d
theorem vbefore_7 (c : Dev nD) (t : Fin cfg0.N) (d) : (vdats m 0 c).before 7 t d = iblk m c 7 t :=
  before0_7_of m (vdats m 0 c) (vA_eq m c 7) (vafter_7 m c) t d
theorem vbefore_8 (c : Dev nD) (t : Fin cfg0.N) (d) : (vdats m 0 c).before 8 t d = iblk m c 8 t :=
  before0_8_of m (vdats m 0 c) (vA_eq m c 8) (vafter_8 m c) t d
theorem vbefore_9 (c : Dev nD) (t : Fin cfg0.N) (d) : (vdats m 0 c).before 9 t d = iblk m c 9 t :=
  before0_9_of m (vdats m 0 c) (vA_eq m c 9) (vafter_9 m c) t d
theorem vbefore_10 (c : Dev nD) (t : Fin cfg0.N) (d) : (vdats m 0 c).before 10 t d = iblk m c 10 t :=
  before0_10_of m (vdats m 0 c) (vA_eq m c 10) (vafter_10 m c) t d

/-- What the body is called with at point `t`, -/
def vbodyPre (c : Dev nD) (t : Fin cfg0.N) : sProp 𝕄 :=
  iprop((vdats m 0 c).Φ t.castSucc ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d))
    ∗ (∃ d, owns (c : Thread nD τ) (ms0_5 t) fullShare ((vdats m 0 c).before 5 t d))
    ∗ (∃ d, owns (c : Thread nD τ) (ms0_6 t) fullShare ((vdats m 0 c).before 6 t d))
    ∗ (∃ d, owns (c : Thread nD τ) (ms0_7 t) fullShare ((vdats m 0 c).before 7 t d))
    ∗ (∃ d, owns (c : Thread nD τ) (ms0_8 t) fullShare ((vdats m 0 c).before 8 t d))
    ∗ (∃ d, owns (c : Thread nD τ) (ms0_9 t) fullShare ((vdats m 0 c).before 9 t d))
    ∗ (∃ d, owns (c : Thread nD τ) (ms0_10 t) fullShare ((vdats m 0 c).before 10 t d))
    ∗ (∃ d, owns (c : Thread nD τ) (ms0_11 t) fullShare ((vdats m 0 c).before 11 t d))
    ∗ (∃ d, owns (c : Thread nD τ) (ms0_12 t) fullShare ((vdats m 0 c).before 12 t d))
    ∗ (∃ d, owns (c : Thread nD τ) (ms0_13 t) fullShare ((vdats m 0 c).before 13 t d)))

/-- and what it returns. -/
def vbodyPost (c : Dev nD) (t : Fin cfg0.N) : sProp 𝕄 :=
  iprop((vdats m 0 c).Φ t.succ ∗ (vdats m 0 c).owesAt () t.succ
    ∗ owns (c : Thread nD τ) (ms0_0 t) fullShare ((vdats m 0 c).after 0 t)
    ∗ owns (c : Thread nD τ) (ms0_1 t) fullShare ((vdats m 0 c).after 1 t)
    ∗ owns (c : Thread nD τ) (ms0_2 t) fullShare ((vdats m 0 c).after 2 t)
    ∗ owns (c : Thread nD τ) (ms0_3 t) fullShare ((vdats m 0 c).after 3 t)
    ∗ owns (c : Thread nD τ) (ms0_4 t) fullShare ((vdats m 0 c).after 4 t)
    ∗ owns (c : Thread nD τ) (ms0_5 t) fullShare ((vdats m 0 c).after 5 t)
    ∗ owns (c : Thread nD τ) (ms0_6 t) fullShare ((vdats m 0 c).after 6 t)
    ∗ owns (c : Thread nD τ) (ms0_7 t) fullShare ((vdats m 0 c).after 7 t)
    ∗ owns (c : Thread nD τ) (ms0_8 t) fullShare ((vdats m 0 c).after 8 t)
    ∗ owns (c : Thread nD τ) (ms0_9 t) fullShare ((vdats m 0 c).after 9 t)
    ∗ owns (c : Thread nD τ) (ms0_10 t) fullShare ((vdats m 0 c).after 10 t)
    ∗ owns (c : Thread nD τ) (ms0_11 t) fullShare ((vdats m 0 c).after 11 t)
    ∗ owns (c : Thread nD τ) (ms0_12 t) fullShare ((vdats m 0 c).after 12 t)
    ∗ owns (c : Thread nD τ) (ms0_13 t) fullShare ((vdats m 0 c).after 13 t))

theorem cond1_iff : ∀ t : Fin cfg0.N, k0_cond1 (grid0.coords t) = 1#1 ↔ t.val = 0 :=
  (by decide +kernel : ∀ t : Fin grid0.N, k0_cond1 (grid0.coords t) = 1#1 ↔ t.val = 0)

theorem Phi_castSucc (c : Dev nD) (t : Fin cfg0.N) : (vdats m 0 c).Φ t.castSucc = PhiN m c t.val := by
  show PhiN m c t.castSucc.val = _
  rw [Fin.val_castSucc]

theorem Phi_succ (c : Dev nD) (t : Fin cfg0.N) : (vdats m 0 c).Φ t.succ = PhiN m c (t.val + 1) := by
  show PhiN m c t.succ.val = _
  rw [Fin.val_succ]

set_option maxHeartbeats 1600000 in
/-- The body at any point. -/
theorem vsound_body (c : Dev nD) (t : Fin cfg0.N) :
    vbodyPre m c t ⊢ wp frame (wpE (defs₀ (F := F)) Variants.none c none) Set.univ (bodyAt0 t) (fun _ => vbodyPost m c t) := by
  unfold vbodyPre vbodyPost bodyAt0
  simp only [vbefore_0, vbefore_1, vbefore_2, vbefore_3, vbefore_4, vbefore_5, vbefore_6, vbefore_7, vbefore_8, vbefore_9, vbefore_10]
  rw [show (vdats m 0 c).owesAt () t.succ = (vdats m 0 c).owesAt () t.castSucc from rfl,
    vafter_0, vafter_1, vafter_2, vafter_3, vafter_4, vafter_5, vafter_6, vafter_7, vafter_8, vafter_9, vafter_10, vafter_11, vafter_12, vafter_13, Phi_castSucc, Phi_succ, PhiN_succ]
  unfold Scr
  by_cases h0 : t.val = 0
  · have ht : t = pt 0 := by rw [← h0]; exact (pt_val t).symm
    rw [show PhiN m c t.val = Pipeline.ΦA spec0 c by rw [h0]; rfl, PhiA0_eq]
    have ey : oY m c t = YB (b0 m c t z1) (b1 m c t z1) (WQ (b0 m c t z1) (b1 m c t z1) (b6 m c t) (k0_pay102 (b7 m c t)) (b9 m c t)) (b9 m c t) (b10 m c t)
        (XQ (b0 m c t z1) (LD3 (b8 m c t)) (prods (b2 m c t) (b5 m c t))) (XQ (b0 m c t z1) (LD3 (b8 m c t)) (prods (b3 m c t) (b5 m c t))) := by
      unfold oY; rw [h0]; unfold gN pN pS wqV ldV; rw [← ht]
    have ep : oP m c t = PKO (PK (b0 m c t z1) (prods (b2 m c t) (b5 m c t))) (PK (b0 m c t z1) (prods (b3 m c t) (b5 m c t))) := by
      unfold oP; rw [h0]; unfold gN pN pS; rw [← ht]
    have es : oS m c t = SCO (SC (b0 m c t z1) (prods (b2 m c t) (b5 m c t))) (SC (b0 m c t z1) (prods (b3 m c t) (b5 m c t))) := by
      unfold oS; rw [h0]; unfold gN pN pS; rw [← ht]
    have ew : wqV m c = WQ (b0 m c t z1) (b1 m c t z1) (b6 m c t) (k0_pay102 (b7 m c t)) (b9 m c t) := by unfold wqV; rw [← ht]
    have el : ldV m c = LD3 (b8 m c t) := by unfold ldV; rw [← ht]
    rw [ey, ep, es, ew, el]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (b0 m c t) (b1 m c t) (b2 m c t) (b3 m c t) (b4 m c t) (b5 m c t) (b6 m c t) (b7 m c t) (b8 m c t) (b9 m c t) (b10 m c t) ((cond1_iff t).mpr h0))
    isplitr [Hg Ho]
    · unfold Held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      iexact HS
    · unfold Done
      iintro ⟨H0, H1, H2, H3, H4, H5, H6, H7, H8, H9, H10, H11, H12, H13, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · obtain ⟨n, hn⟩ := Nat.exists_eq_succ_of_ne_zero h0
    have e1 : PhiN m c t.val = Scr c (wqV m c) (ldV m c) (XQ (gN m c t.val) (ldV m c) (pN m c t.val)) (PK (gN m c t.val) (pN m c t.val)) (SC (gN m c t.val) (pN m c t.val)) := by
      rw [hn]; rfl
    rw [e1]
    unfold Scr oY oP oS pS
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (b0 m c t) (b1 m c t) (b2 m c t) (b3 m c t) (b4 m c t) (b5 m c t) (b6 m c t) (b7 m c t) (b8 m c t) (b9 m c t) (b10 m c t) (fun h => h0 ((cond1_iff t).mp h)) (wqV m c) (ldV m c) (XQ (gN m c t.val) (ldV m c) (pN m c t.val)) (PK (gN m c t.val) (pN m c t.val)) (SC (gN m c t.val) (pN m c t.val)))
    isplitr [Hg Ho]
    · unfold HeldAt
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      iexact HS
    · unfold Done
      iintro ⟨H0, H1, H2, H3, H4, H5, H6, H7, H8, H9, H10, H11, H12, H13, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

/-- The library's body obligation, at every point. -/
theorem vbody_obligation (c : Dev nD) : BodyObligation (vdats (F := F) m 0 c) (defs₀ (F := F)) Variants.none () Set.univ := fun t => by
  rw [bigSep_W0, bigSep_W0, defs₀_row]
  exact triple_restated (vsound_body m c t) rfl .rfl fun _ => .rfl

theorem vhin (c : Dev nD) : Pipeline.ΦA spec0 c ⊢ (vdats m 0 c).Φ 0 := Idealize.SL.BI.Entails.refl _

theorem vhout (c : Dev nD) : (vdats m 0 c).Φ (Fin.last cfg0.N) ⊢ Pipeline.ΦA spec0 c := by
  rw [show (vdats m 0 c).Φ (Fin.last cfg0.N) = Scr c (wqV m c) (ldV m c) (XQ (gN m c 32) (ldV m c) (pN m c 32)) (PK (gN m c 32) (pN m c 32)) (SC (gN m c 32) (pN m c 32)) from rfl, PhiA0_eq]
  unfold Scr
  iintro ⟨⟨H0, H1, H2, H3, H4, H5, H6, H7, H8, H9⟩, Hg⟩
  isplitr [Hg]
  · isplitl [H0]; · iexists _; iexact H0
    isplitl [H1]; · iexists _; iexact H1
    isplitl [H2]; · iexact H2
    isplitl [H3]; · iexists _; iexact H3
    isplitl [H4]; · iexact H4
    isplitl [H5]; · iexists _; iexact H5
    isplitl [H6]; · iexact H6
    isplitl [H7]; · iexists _; iexact H7
    isplitl [H8]; · iexact H8
    iexact H9
  iexact Hg

set_option backward.isDefEq.respectTransparency.types false in
set_option maxHeartbeats 800000 in
/-- The run, its arrays named. -/
theorem run_val : θ_run defs (onTc (τ := τ) (main (F := F))) (s₀ m ρ) (Pipeline.FramePost cfgs (vdats m) 0 (Pipeline.afterTail₀ cfgs (vdats m) 0 (V0 m) [hostOps1])) :=
  Pipeline.θ_run_frame_around_track cfgs (vdats m) (0 : Fin 1) launch0 defs₀ Variants.none m ρ main
    (hbody := fun c => (vbody_obligation m c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hin := vhin m) (hout := vhout m)

end Cert.KernelIdeal.Run

end
-- ==== Proof.Value.KerIn.lean ====
/-
  The kernel's input blocks as entries of the arguments, and the rows of products its tiles hold.
-/
module

public import proofs.«01_k».proof.Proof.Value.YAt
public import proofs.«01_k».proof.Proof.Value.Run
public import Idealize.ShloMosaic.Lib.Pipeline.ValueKit
public import Idealize.ShloMosaic.Lib.Pointwise

@[expose] public section

set_option maxRecDepth 65536

noncomputable section

namespace Cert.Spec

open Idealize.ShloMosaic

/-- Row `R` of the products of the activations and the smoothing factors. -/
def rowS (x : (⟨3, ![4, 4096, 1152]⟩ : Shape).Idx → EReal) (sm : (⟨1, ![1152]⟩ : Shape).Idx → EReal) (R : Fin 16384) (k : Fin 1152) : EReal :=
  x (ix3 ⟨R.val / 4096, by omega⟩ ⟨R.val % 4096, by omega⟩ k) * sm (ix1 k)

/-- A vector as one row. -/
def rowB (b : (⟨1, ![4608]⟩ : Shape).Idx → EReal) : (⟨2, ![1, 4608]⟩ : Shape).Idx → EReal := fun j => b (ix1 (j 1))

/-! ## The three results as arrays of the arguments -/

variable (x : (⟨3, ![4, 4096, 1152]⟩ : Shape).Idx → EReal) (sm : (⟨1, ![1152]⟩ : Shape).Idx → EReal) (xg : EReal)

/-- The scales. -/
def GS : (⟨2, ![16384, 72]⟩ : Shape).Idx → EReal := fun j => scale xg (rowS x sm (j 0)) (j 1)

/-- The packed codes. -/
def GP : (⟨2, ![16384, 576]⟩ : Shape).Idx → BitVec 8 := fun j => packB xg (rowS x sm (j 0)) (j 1)

variable (wg : EReal) (wp : (⟨2, ![576, 4608]⟩ : Shape).Idx → BitVec 8) (ws : (⟨2, ![72, 4608]⟩ : Shape).Idx → EReal)
  (ld : (⟨2, ![1152, 32]⟩ : Shape).Idx → EReal) (lup : (⟨2, ![32, 4608]⟩ : Shape).Idx → EReal) (b : (⟨1, ![4608]⟩ : Shape).Idx → EReal)

/-- The result of the layer. -/
def GY : (⟨2, ![16384, 4608]⟩ : Shape).Idx → EReal := fun j => yAt xg wg (rowS x sm (j 0)) wp ws ld lup (rowB b) (j 1)

end Cert.Spec

namespace Cert.KernelIdeal.Run

open Cert.KernelIdeal Cert.KernelIdeal.Gen Cert.KernelIdeal.Val Cert.KernelIdeal.Hand Cert.Spec
open Idealize.ShloMosaic Idealize.ShloMosaic.TcCoe Idealize.SL.Sem
open Idealize.ShloMosaic.Pipeline (Dat Cfg Window)

variable (m : (ℓ : Loc nD τ sig) → Buf (Elt Ideal) ℓ) (c : Dev nD)

theorem ei0 : ∀ t : Fin cfg0.N, win0_0.index t = ![0] := (by decide +kernel : ∀ t : Fin grid0.N, win0_0.index t = ![0])
theorem ei1 : ∀ t : Fin cfg0.N, win0_1.index t = ![0] := (by decide +kernel : ∀ t : Fin grid0.N, win0_1.index t = ![0])
theorem ei2 : ∀ t : Fin cfg0.N, win0_2.index t = ![0, 0] := (by decide +kernel : ∀ t : Fin grid0.N, win0_2.index t = ![0, 0])
theorem ei3 : ∀ t : Fin cfg0.N, win0_3.index t = ![2 * t.val + 1, 0] := (by decide +kernel : ∀ t : Fin grid0.N, win0_3.index t = ![2 * t.val + 1, 0])
theorem ei4 : ∀ t : Fin cfg0.N, win0_4.index t = ![min (2 * t.val + 2) 63, 0] := (by decide +kernel : ∀ t : Fin grid0.N, win0_4.index t = ![min (2 * t.val + 2) 63, 0])
theorem ei5 : ∀ t : Fin cfg0.N, win0_5.index t = ![0, 0] := (by decide +kernel : ∀ t : Fin grid0.N, win0_5.index t = ![0, 0])
theorem ei6 : ∀ t : Fin cfg0.N, win0_6.index t = ![0, 0] := (by decide +kernel : ∀ t : Fin grid0.N, win0_6.index t = ![0, 0])
theorem ei7 : ∀ t : Fin cfg0.N, win0_7.index t = ![0, 0] := (by decide +kernel : ∀ t : Fin grid0.N, win0_7.index t = ![0, 0])
theorem ei8 : ∀ t : Fin cfg0.N, win0_8.index t = ![0, 0] := (by decide +kernel : ∀ t : Fin grid0.N, win0_8.index t = ![0, 0])
theorem ei9 : ∀ t : Fin cfg0.N, win0_9.index t = ![0, 0] := (by decide +kernel : ∀ t : Fin grid0.N, win0_9.index t = ![0, 0])
theorem ei10 : ∀ t : Fin cfg0.N, win0_10.index t = ![0, 0] := (by decide +kernel : ∀ t : Fin grid0.N, win0_10.index t = ![0, 0])
theorem ei11 : ∀ t : Fin cfg0.N, win0_11.index t = ![t.val, 0] := (by decide +kernel : ∀ t : Fin grid0.N, win0_11.index t = ![t.val, 0])
theorem ei12 : ∀ t : Fin cfg0.N, win0_12.index t = ![t.val, 0] := (by decide +kernel : ∀ t : Fin grid0.N, win0_12.index t = ![t.val, 0])
theorem ei13 : ∀ t : Fin cfg0.N, win0_13.index t = ![t.val, 0] := (by decide +kernel : ∀ t : Fin grid0.N, win0_13.index t = ![t.val, 0])

theorem N_eq : cfg0.N = 32 := by decide

/-- The activations as the program is given them. -/
abbrev aX : S4x4096x1152.Idx → EReal := m ((c : Thread nD τ).loc main_arg0)
abbrev aSm : S1152.Idx → EReal := m ((c : Thread nD τ).loc main_arg1)
abbrev aXg : EReal := (m ((c : Thread nD τ).loc main_arg2) : S_.Idx → EReal) ix0
abbrev aWp : S576x4608.Idx → BitVec 8 := m ((c : Thread nD τ).loc main_arg3)
abbrev aWs : S72x4608.Idx → EReal := m ((c : Thread nD τ).loc main_arg4)
abbrev aWg : EReal := (m ((c : Thread nD τ).loc main_arg5) : S_.Idx → EReal) ix0
abbrev aLd : S1152x32.Idx → EReal := m ((c : Thread nD τ).loc main_arg6)
abbrev aLup : S32x4608.Idx → EReal := m ((c : Thread nD τ).loc main_arg7)
abbrev aB : S4608.Idx → EReal := m ((c : Thread nD τ).loc main_arg8)

theorem V_v2 (R : Fin 16384) (k : Fin 1152) : (V m c main_v2 : S16384x1152.Idx → EReal) (ix2 R k) = aX m c (ix3 ⟨R.val / 4096, by omega⟩ ⟨R.val % 4096, by omega⟩ k) := by
  simp only [V, V0, hostOps0, List.flatten_cons, List.flatten_nil, List.append_nil]
  after_results_simp
  pointwise

theorem V_v3 (R : Fin 16384) (k : Fin 1152) : (V m c main_v3 : S16384x1152.Idx → EReal) (ix2 R k) = aX m c (ix3 ⟨R.val / 4096, by omega⟩ ⟨R.val % 4096, by omega⟩ k) := by
  simp only [V, V0, hostOps0, List.flatten_cons, List.flatten_nil, List.append_nil]
  after_results_simp
  pointwise

theorem V_v4 (R : Fin 16384) (k : Fin 1152) : (V m c main_v4 : S16384x1152.Idx → EReal) (ix2 R k) = aX m c (ix3 ⟨R.val / 4096, by omega⟩ ⟨R.val % 4096, by omega⟩ k) := by
  simp only [V, V0, hostOps0, List.flatten_cons, List.flatten_nil, List.append_nil]
  after_results_simp
  pointwise

theorem V_v5 (k : Fin 1152) : (V m c main_v5 : S1x1152.Idx → EReal) (ix2 0 k) = aSm m c (ix1 k) := by
  simp only [V, V0, hostOps0, List.flatten_cons, List.flatten_nil, List.append_nil]
  after_results_simp
  pointwise

theorem V_v6 (k : Fin 4608) : (V m c main_v6 : S1x4608.Idx → EReal) (ix2 0 k) = aB m c (ix1 k) := by
  simp only [V, V0, hostOps0, List.flatten_cons, List.flatten_nil, List.append_nil]
  after_results_simp
  pointwise

theorem V_v0 : (V m c main_v0 : S1.Idx → EReal) (ix1 0) = aXg m c := by
  simp only [V, V0, hostOps0, List.flatten_cons, List.flatten_nil, List.append_nil]
  after_results_simp
  pointwise

theorem V_v1 : (V m c main_v1 : S1.Idx → EReal) (ix1 0) = aWg m c := by
  simp only [V, V0, hostOps0, List.flatten_cons, List.flatten_nil, List.append_nil]
  after_results_simp
  pointwise

theorem b0_eq (t : Fin cfg0.N) : b0 m c t z1 = aXg m c := by
  rw [← V_v0]
  blk_ext [iblk, ei0]

theorem b1_eq (t : Fin cfg0.N) : b1 m c t z1 = aWg m c := by
  rw [← V_v1]
  blk_ext [iblk, ei1]

theorem b2_apply (t : Fin cfg0.N) (r : Fin 256) (k : Fin 1152) :
    b2 m c t (ix2 r k) = (V m c main_v2 : S16384x1152.Idx → EReal) (ix2 ⟨r.val, by omega⟩ k) := by
  blk_ext [iblk, ei2]

theorem b3_apply (t : Fin cfg0.N) (r : Fin 256) (k : Fin 1152) (R : Fin 16384) (hR : R.val = 512 * t.val + 256 + r.val) :
    b3 m c t (ix2 r k) = (V m c main_v3 : S16384x1152.Idx → EReal) (ix2 R k) := by
  blk_ext [iblk, ei3]

theorem b4_apply (t : Fin cfg0.N) (r : Fin 256) (k : Fin 1152) (R : Fin 16384) (hR : R.val = 512 * (t.val + 1) + r.val) :
    b4 m c t (ix2 r k) = (V m c main_v4 : S16384x1152.Idx → EReal) (ix2 R k) := by
  blk_ext [iblk, ei4]

theorem b5_apply (t : Fin cfg0.N) (k : Fin 1152) : b5 m c t (ix2 0 k) = aSm m c (ix1 k) := by
  rw [← V_v5]
  blk_ext [iblk, ei5]

theorem b6_eq (t : Fin cfg0.N) : b6 m c t = aWp m c := by
  rw [aWp, ← V_main_arg3 m c]
  funext y
  blk_ext [iblk, ei6]

theorem b7_eq (t : Fin cfg0.N) : b7 m c t = aWs m c := by
  rw [aWs, ← V_main_arg4 m c]
  funext y
  blk_ext [iblk, ei7]

theorem b8_eq (t : Fin cfg0.N) : b8 m c t = aLd m c := by
  rw [aLd, ← V_main_arg6 m c]
  funext y
  blk_ext [iblk, ei8]

theorem b9_eq (t : Fin cfg0.N) : b9 m c t = aLup m c := by
  rw [aLup, ← V_main_arg7 m c]
  funext y
  blk_ext [iblk, ei9]

theorem b10_eq (t : Fin cfg0.N) : b10 m c t = rowB (aB m c) := by
  funext y
  obtain ⟨r, l, rfl⟩ := idx2_eq y
  obtain rfl : r = 0 := Subsingleton.elim _ _
  show _ = aB m c (ix1 l)
  rw [← V_v6]
  blk_ext [iblk, ei10]

end Cert.KernelIdeal.Run

end
-- ==== Proof.Value.KerOut.lean ====
/-
  The kernel's three result arrays, entry by entry.
-/
module

public import proofs.«01_k».proof.Proof.Value.KerIn

@[expose] public section

set_option maxRecDepth 65536

noncomputable section

namespace Cert.KernelIdeal.Run

open Cert.KernelIdeal Cert.KernelIdeal.Gen Cert.KernelIdeal.Val Cert.KernelIdeal.Hand Cert.Spec
open Idealize.ShloMosaic Idealize.ShloMosaic.TcCoe Idealize.SL.Sem
open Idealize.ShloMosaic.Pipeline (Dat Cfg Window)

/-! ## Two tiles, one under the other -/

/-- The array whose first 256 rows are `a` and whose last 256 rows are `b`. -/
def stack2 {α : Type} {w : ℕ} (a b : (⟨2, ![256, w]⟩ : Shape).Idx → α) : (⟨2, ![512, w]⟩ : Shape).Idx → α := fun j =>
  if h : (j 0).val < 256 then a (ix2 ⟨(j 0).val, h⟩ (j 1)) else b (ix2 ⟨(j 0).val - 256, by have := (j 0).isLt; change _ < 512 at this; omega⟩ (j 1))

theorem stack2_lo {α : Type} {w : ℕ} (a b : (⟨2, ![256, w]⟩ : Shape).Idx → α) (r : Fin 256) (l : Fin w) (R : Fin 512) (h : R.val = 0 + r.val) :
    stack2 a b (ix2 R l) = a (ix2 r l) := by
  refine (dif_pos (show ((ix2 R l) 0 : ℕ) < 256 by show R.val < 256; omega)).trans (congrArg a ?_)
  exact congrArg (fun q => ix2 q l) (Fin.ext (by show R.val = r.val; omega))

theorem stack2_hi {α : Type} {w : ℕ} (a b : (⟨2, ![256, w]⟩ : Shape).Idx → α) (r : Fin 256) (l : Fin w) (R : Fin 512) (h : R.val = 256 + r.val) :
    stack2 a b (ix2 R l) = b (ix2 r l) := by
  refine (dif_neg (show ¬ ((ix2 R l) 0 : ℕ) < 256 by show ¬ R.val < 256; omega)).trans (congrArg b ?_)
  exact congrArg (fun q => ix2 q l) (Fin.ext (by show R.val - 256 = r.val; omega))

theorem PKO_eq (a b : Vec Ideal S256x576 .i8) : PKO (F := Ideal) a b = stack2 a b := by
  unfold PKO
  funext y
  rw [← List.append_nil (_ :: _)]
  exact View.canon_append_of_piecesOf (Val := Elt Ideal) (stack2 a b) [] [_, _]
    ⟨fun x => piece_rows (n := 256) (N := 512) (w := 576) (o := 256) (stack2 a b) _ inb_S512x576_S256x576_256_0 (by norm_num) (fun r l => (stack2_hi a b r l _ rfl).symm) x,
      fun x => piece_rows (n := 256) (N := 512) (w := 576) (o := 0) (stack2 a b) _ inb_S512x576_S256x576_0_0 (by norm_num) (fun r l => (stack2_lo a b r l _ rfl).symm) x, trivial⟩ y
    (View.cover_of_tiledL _ ![256, 576] (by rfl) y)

theorem SCO_eq (a b : Vec Ideal S256x72 .fp8e4m3) : SCO (F := Ideal) a b = stack2 a b := by
  unfold SCO
  funext y
  rw [← List.append_nil (_ :: _)]
  exact View.canon_append_of_piecesOf (Val := Elt Ideal) (stack2 a b) [] [_, _]
    ⟨fun x => piece_rows (n := 256) (N := 512) (w := 72) (o := 256) (stack2 a b) _ inb_S512x72_S256x72_256_0 (by norm_num) (fun r l => (stack2_hi a b r l _ rfl).symm) x,
      fun x => piece_rows (n := 256) (N := 512) (w := 72) (o := 0) (stack2 a b) _ inb_S512x72_S256x72_0_0 (by norm_num) (fun r l => (stack2_lo a b r l _ rfl).symm) x, trivial⟩ y
    (View.cover_of_tiledL _ ![256, 72] (by rfl) y)

/-- A row among 512 is among the first 256 or among the last. -/
theorem half512 (R : Fin 512) : (∃ r : Fin 256, R = ⟨r.val, by omega⟩) ∨ ∃ r : Fin 256, R = ⟨256 + r.val, by omega⟩ := by
  by_cases h : R.val < 256
  · exact .inl ⟨⟨R.val, h⟩, rfl⟩
  · exact .inr ⟨⟨R.val - 256, by omega⟩, Fin.ext (by show R.val = 256 + (R.val - 256); omega)⟩

variable (m : (ℓ : Loc nD τ sig) → Buf (Elt Ideal) ℓ) (c : Dev nD)

/-! ## The rows of the two tiles of a point -/

theorem gN_eq (n : ℕ) : gN m c n = aXg m c := by
  cases n <;> exact b0_eq m c _

theorem row_pN (t : Fin cfg0.N) (r : Fin 256) (R : Fin 16384) (hR : R.val = 512 * t.val + r.val) :
    rowOf (pN m c t.val) r = rowS (aX m c) (aSm m c) R := by
  funext k
  obtain ⟨n, hn⟩ := t
  cases n with
  | zero =>
    show rowOf (prods (b2 m c (pt 0)) (b5 m c (pt 0))) r k = _
    have e : (⟨r.val, by omega⟩ : Fin 16384) = R := Fin.ext (by simpa using hR.symm)
    rw [rowOf_prods, b2_apply, e, b5_apply, V_v2]
    rfl
  | succ n =>
    have e : (pt n).val = n := congrArg Fin.val (pt_val ⟨n, by omega⟩)
    show rowOf (prods (b4 m c (pt n)) (b5 m c (pt n))) r k = _
    rw [rowOf_prods, b4_apply m c (pt n) r k R (by rw [e]; exact hR), b5_apply, V_v4]
    rfl

theorem row_pS (t : Fin cfg0.N) (r : Fin 256) (R : Fin 16384) (hR : R.val = 512 * t.val + 256 + r.val) :
    rowOf (pS m c t) r = rowS (aX m c) (aSm m c) R := by
  funext k
  show rowOf (prods (b3 m c t) (b5 m c t)) r k = _
  rw [rowOf_prods, b3_apply m c t r k R hR, b5_apply, V_v3]
  rfl

/-! ## The blocks -/

theorem oS_apply (t : Fin cfg0.N) (r : Fin 512) (g : Fin 72) (R : Fin 16384) (hR : R.val = 512 * t.val + r.val) :
    oS (F := Ideal) m c t (ix2 r g) = scale (aXg m c) (rowS (aX m c) (aSm m c) R) g := by
  unfold oS
  rw [SCO_eq, gN_eq, b0_eq]
  obtain ⟨r, rfl⟩ | ⟨r, rfl⟩ := half512 r
  · rw [stack2_lo _ _ r g _ (by show r.val = 0 + r.val; omega), SC_apply, row_pN m c t r R (by simpa [Nat.add_assoc] using hR)]
  · rw [stack2_hi _ _ r g _ rfl, SC_apply, row_pS m c t r R (by simpa [Nat.add_assoc] using hR)]

theorem oP_apply (hxg : aXg m c ≠ 0) (t : Fin cfg0.N) (r : Fin 512) (k : Fin 576) (R : Fin 16384) (hR : R.val = 512 * t.val + r.val) :
    oP (F := Ideal) m c t (ix2 r k) = packB (aXg m c) (rowS (aX m c) (aSm m c) R) k := by
  unfold oP
  rw [PKO_eq, gN_eq, b0_eq]
  obtain ⟨r, rfl⟩ | ⟨r, rfl⟩ := half512 r
  · rw [stack2_lo _ _ r k _ (by show r.val = 0 + r.val; omega), PK_apply _ hxg, row_pN m c t r R (by simpa [Nat.add_assoc] using hR)]
  · rw [stack2_hi _ _ r k _ rfl, PK_apply _ hxg, row_pS m c t r R (by simpa [Nat.add_assoc] using hR)]

theorem pay102_eq (ws : Vec Ideal S72x4608 .fp8e4m3) : k0_pay102 (F := Ideal) ws = ws := by
  funext y
  obtain ⟨r, l, rfl⟩ := idx2_eq y
  exact pay102_apply ws r l

theorem oY_apply (hxg : aXg m c ≠ 0) (h0 : 0 ≤ aXg m c * aWg m c) (hl : ∀ j n, ∃ x : ℝ, aLup m c (ix2 j n) = x)
    (t : Fin cfg0.N) (r : Fin 512) (n : Fin 4608) (R : Fin 16384) (hR : R.val = 512 * t.val + r.val) :
    oY (F := Ideal) m c t (ix2 r n)
      = yAt (aXg m c) (aWg m c) (rowS (aX m c) (aSm m c) R) (aWp m c) (aWs m c) (aLd m c) (aLup m c) (rowB (aB m c)) n := by
  unfold oY wqV ldV
  rw [gN_eq, b0_eq, b0_eq, b1_eq, b1_eq, b6_eq, b7_eq, b8_eq, b9_eq, b9_eq, b10_eq, pay102_eq]
  obtain ⟨r, rfl⟩ | ⟨r, rfl⟩ := half512 r
  · exact YB_lo _ _ h0 _ _ _ hl _ _ _ _ r _ n (fun x => by rw [XQ_apply _ hxg, row_pN m c t r R (by simpa [Nat.add_assoc] using hR)])
  · exact YB_hi _ _ h0 _ _ _ hl _ _ _ _ r _ n (fun x => by rw [XQ_apply _ hxg, row_pS m c t r R (by simpa [Nat.add_assoc] using hR)])

/-! ## The arrays -/

theorem arr13 : (vdats m 0 c).arrAt 13 cfg0.N = (GS (aX m c) (aSm m c) (aXg m c) : S16384x72.Idx → _) := by
  have key : ∀ (t : Fin cfg0.N) (y : S512x72.Idx), oS (F := Ideal) m c t y = (GS (aX m c) (aSm m c) (aXg m c) : S16384x72.Idx → _) ((win0_13.blk t).view.emb y) := by
    intro t y
    obtain ⟨r, l, rfl⟩ := idx2_eq y
    have ht : t.val < 32 := t.isLt
    have e : (win0_13.blk t).view.emb (ix2 r l) = (ix2 (⟨512 * t.val + r.val, by omega⟩ : Fin 16384) l : S16384x72.Idx) := by
      blk_ext [ei13]
    rw [e]
    exact oS_apply m c t r l _ rfl
  refine (vdats m 0 c).arrAt_eq_of_covers 13 _ (by decide +kernel) fun t hf y => ?_
  blk_simp
  rw [vafter_13]
  exact key t y

theorem arr12 (hxg : aXg m c ≠ 0) : (vdats m 0 c).arrAt 12 cfg0.N = (GP (aX m c) (aSm m c) (aXg m c) : S16384x576.Idx → _) := by
  have key : ∀ (t : Fin cfg0.N) (y : S512x576.Idx), oP (F := Ideal) m c t y = (GP (aX m c) (aSm m c) (aXg m c) : S16384x576.Idx → _) ((win0_12.blk t).view.emb y) := by
    intro t y
    obtain ⟨r, l, rfl⟩ := idx2_eq y
    have ht : t.val < 32 := t.isLt
    have e : (win0_12.blk t).view.emb (ix2 r l) = (ix2 (⟨512 * t.val + r.val, by omega⟩ : Fin 16384) l : S16384x576.Idx) := by
      blk_ext [ei12]
    rw [e]
    exact oP_apply m c hxg t r l _ rfl
  refine (vdats m 0 c).arrAt_eq_of_covers 12 _ (by decide +kernel) fun t hf y => ?_
  blk_simp
  rw [vafter_12]
  exact key t y

theorem arr11 (hxg : aXg m c ≠ 0) (h0 : 0 ≤ aXg m c * aWg m c) (hl : ∀ j n, ∃ x : ℝ, aLup m c (ix2 j n) = x) : (vdats m 0 c).arrAt 11 cfg0.N = (GY (aX m c) (aSm m c) (aXg m c) (aWg m c) (aWp m c) (aWs m c) (aLd m c) (aLup m c) (aB m c) : S16384x4608.Idx → _) := by
  have key : ∀ (t : Fin cfg0.N) (y : S512x4608.Idx), oY (F := Ideal) m c t y = (GY (aX m c) (aSm m c) (aXg m c) (aWg m c) (aWp m c) (aWs m c) (aLd m c) (aLup m c) (aB m c) : S16384x4608.Idx → _) ((win0_11.blk t).view.emb y) := by
    intro t y
    obtain ⟨r, l, rfl⟩ := idx2_eq y
    have ht : t.val < 32 := t.isLt
    have e : (win0_11.blk t).view.emb (ix2 r l) = (ix2 (⟨512 * t.val + r.val, by omega⟩ : Fin 16384) l : S16384x4608.Idx) := by
      blk_ext [ei11]
    rw [e]
    exact oY_apply m c hxg h0 hl t r l _ rfl
  refine (vdats m 0 c).arrAt_eq_of_covers 11 _ (by decide +kernel) fun t hf y => ?_
  blk_simp
  rw [vafter_11]
  exact key t y

end Cert.KernelIdeal.Run

end
-- ==== Proof.Value.KerTail.lean ====
/-
  The kernel program's three results: the reshapes that follow the kernel.
-/
module

public import proofs.«01_k».proof.Proof.Value.KerOut

@[expose] public section

set_option maxRecDepth 65536

noncomputable section

namespace Cert.KernelIdeal.Run

open Cert.KernelIdeal Cert.KernelIdeal.Gen Cert.KernelIdeal.Val Cert.KernelIdeal.Hand Cert.Spec
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- No two windows stage one array. -/
theorem arr_inj : Function.Injective (Pipeline.arrRef spec0) := by decide

theorem tail_v8 : (Pipeline.afterTail₀ cfgs (vdats m) 0 (V0 m) [hostOps1] c main_v8 : S4x4096x4608.Idx → _)
    = shapeCast S4x4096x4608 ((vdats m 0 c).arrAt 11 cfg0.N : S16384x4608.Idx → _) shapeCasts_S16384x4608_S4x4096x4608 := by
  unfold Pipeline.afterTail₀
  simp only [hostOps1, List.flatten_cons, List.flatten_nil, List.append_nil]
  after_results_simp
  exact congrArg (fun a => shapeCast S4x4096x4608 (a : S16384x4608.Idx → _) shapeCasts_S16384x4608_S4x4096x4608)
    (Pipeline.withArrays_arr spec0 arr_inj c (V0 m c) (fun w => (vdats m 0 c).arrAt w cfg0.N) 11)

theorem tail_v9 : (Pipeline.afterTail₀ cfgs (vdats m) 0 (V0 m) [hostOps1] c main_v9 : S4x4096x576.Idx → _)
    = shapeCast S4x4096x576 ((vdats m 0 c).arrAt 12 cfg0.N : S16384x576.Idx → _) shapeCasts_S16384x576_S4x4096x576 := by
  unfold Pipeline.afterTail₀
  simp only [hostOps1, List.flatten_cons, List.flatten_nil, List.append_nil]
  after_results_simp
  exact congrArg (fun a => shapeCast S4x4096x576 (a : S16384x576.Idx → _) shapeCasts_S16384x576_S4x4096x576)
    (Pipeline.withArrays_arr spec0 arr_inj c (V0 m c) (fun w => (vdats m 0 c).arrAt w cfg0.N) 12)

theorem tail_v10 : (Pipeline.afterTail₀ cfgs (vdats m) 0 (V0 m) [hostOps1] c main_v10 : S4x4096x72.Idx → _)
    = shapeCast S4x4096x72 ((vdats m 0 c).arrAt 13 cfg0.N : S16384x72.Idx → _) shapeCasts_S16384x72_S4x4096x72 := by
  unfold Pipeline.afterTail₀
  simp only [hostOps1, List.flatten_cons, List.flatten_nil, List.append_nil]
  after_results_simp
  exact congrArg (fun a => shapeCast S4x4096x72 (a : S16384x72.Idx → _) shapeCasts_S16384x72_S4x4096x72)
    (Pipeline.withArrays_arr spec0 arr_inj c (V0 m c) (fun w => (vdats m 0 c).arrAt w cfg0.N) 13)

end Cert.KernelIdeal.Run

end
-- ==== Proof.Value.RefOut.lean ====
/-
  The reference's three result arrays, entry by entry.
-/
module

public import proofs.«01_k».proof.Proof.Gen.ReferenceIdeal.Frame
public import proofs.«01_k».proof.Proof.Value.YAt
public import proofs.«01_k».proof.Proof.Value.KerIn
public import Idealize.ShloMosaic.Lib.Pipeline.ValueKit
public import Idealize.ShloMosaic.Lib.Pointwise

@[expose] public section

set_option maxRecDepth 65536

noncomputable section

namespace Cert.ReferenceIdeal.Run

open Cert.ReferenceIdeal Cert.ReferenceIdeal.Gen Cert.ReferenceIdeal.Val Cert.Spec
open Idealize.ShloMosaic Idealize.ShloMosaic.TcCoe Idealize.SL.Sem
open Cert.KernelIdeal.Val (idx2_eq)
open Idealize.ShloMosaic.Pipeline (Dat Cfg Window)

variable (m : (ℓ : Loc nD τ sig) → Buf (Elt Ideal) ℓ) (c : Dev nD)

/-- The grid's one point. -/
abbrev t0 : Fin cfg0.N := ⟨0, by decide⟩

theorem ei0 : ∀ t : Fin cfg0.N, win0_0.index t = ![0, 0] := (by decide +kernel : ∀ t : Fin grid0.N, win0_0.index t = ![0, 0])
theorem ei1 : ∀ t : Fin cfg0.N, win0_1.index t = ![0, 0] := (by decide +kernel : ∀ t : Fin grid0.N, win0_1.index t = ![0, 0])
theorem ei2 : ∀ t : Fin cfg0.N, win0_2.index t = ![0] := (by decide +kernel : ∀ t : Fin grid0.N, win0_2.index t = ![0])
theorem ei3 : ∀ t : Fin cfg0.N, win0_3.index t = ![0, 0] := (by decide +kernel : ∀ t : Fin grid0.N, win0_3.index t = ![0, 0])
theorem ei4 : ∀ t : Fin cfg0.N, win0_4.index t = ![0, 0] := (by decide +kernel : ∀ t : Fin grid0.N, win0_4.index t = ![0, 0])
theorem ei5 : ∀ t : Fin cfg0.N, win0_5.index t = ![0] := (by decide +kernel : ∀ t : Fin grid0.N, win0_5.index t = ![0])
theorem ei6 : ∀ t : Fin cfg0.N, win0_6.index t = ![0, 0] := (by decide +kernel : ∀ t : Fin grid0.N, win0_6.index t = ![0, 0])
theorem ei7 : ∀ t : Fin cfg0.N, win0_7.index t = ![0, 0] := (by decide +kernel : ∀ t : Fin grid0.N, win0_7.index t = ![0, 0])
theorem ei8 : ∀ t : Fin cfg0.N, win0_8.index t = ![0, 0] := (by decide +kernel : ∀ t : Fin grid0.N, win0_8.index t = ![0, 0])

/-- The activations as the program is given them. -/
abbrev aX : S4x4096x1152.Idx → EReal := m ((c : Thread nD τ).loc main_arg0)
abbrev aSm : S1152.Idx → EReal := m ((c : Thread nD τ).loc main_arg1)
abbrev aXg : EReal := (m ((c : Thread nD τ).loc main_arg2) : S_.Idx → EReal) ix0
abbrev aWp : S576x4608.Idx → BitVec 8 := m ((c : Thread nD τ).loc main_arg3)
abbrev aWs : S72x4608.Idx → EReal := m ((c : Thread nD τ).loc main_arg4)
abbrev aWg : EReal := (m ((c : Thread nD τ).loc main_arg5) : S_.Idx → EReal) ix0
abbrev aLd : S1152x32.Idx → EReal := m ((c : Thread nD τ).loc main_arg6)
abbrev aLup : S32x4608.Idx → EReal := m ((c : Thread nD τ).loc main_arg7)
abbrev aB : S4608.Idx → EReal := m ((c : Thread nD τ).loc main_arg8)

theorem V_v0 (R : Fin 16384) (k : Fin 1152) : (V m c main_v0 : S16384x1152.Idx → EReal) (ix2 R k) = aX m c (ix3 ⟨R.val / 4096, by omega⟩ ⟨R.val % 4096, by omega⟩ k) := by
  simp only [V, V0, hostOps0, List.flatten_cons, List.flatten_nil, List.append_nil]
  after_results_simp
  pointwise

theorem V_v1 (k : Fin 1152) : (V m c main_v1 : S1x1152.Idx → EReal) (ix2 0 k) = aSm m c (ix1 k) := by
  simp only [V, V0, hostOps0, List.flatten_cons, List.flatten_nil, List.append_nil]
  after_results_simp
  pointwise

theorem V_v4 (k : Fin 4608) : (V m c main_v4 : S1x4608.Idx → EReal) (ix2 0 k) = aB m c (ix1 k) := by
  simp only [V, V0, hostOps0, List.flatten_cons, List.flatten_nil, List.append_nil]
  after_results_simp
  pointwise

theorem V_v2 : (V m c main_v2 : S1.Idx → EReal) (ix1 0) = aXg m c := by
  simp only [V, V0, hostOps0, List.flatten_cons, List.flatten_nil, List.append_nil]
  after_results_simp
  pointwise

theorem V_v3 : (V m c main_v3 : S1.Idx → EReal) (ix1 0) = aWg m c := by
  simp only [V, V0, hostOps0, List.flatten_cons, List.flatten_nil, List.append_nil]
  after_results_simp
  pointwise

abbrev r0 (t : Fin cfg0.N) : Vec Ideal S16384x1152 .bf16 := iblk m c 0 t
abbrev r1 (t : Fin cfg0.N) : Vec Ideal S1x1152 .f32 := iblk m c 1 t
abbrev r2 (t : Fin cfg0.N) : Vec Ideal S1 .f32 := iblk m c 2 t
abbrev r3 (t : Fin cfg0.N) : Vec Ideal S576x4608 .i8 := iblk m c 3 t
abbrev r4 (t : Fin cfg0.N) : Vec Ideal S72x4608 .fp8e4m3 := iblk m c 4 t
abbrev r5 (t : Fin cfg0.N) : Vec Ideal S1 .f32 := iblk m c 5 t
abbrev r6 (t : Fin cfg0.N) : Vec Ideal S1152x32 .bf16 := iblk m c 6 t
abbrev r7 (t : Fin cfg0.N) : Vec Ideal S32x4608 .bf16 := iblk m c 7 t
abbrev r8 (t : Fin cfg0.N) : Vec Ideal S1x4608 .f32 := iblk m c 8 t

theorem r2_eq (t : Fin cfg0.N) : r2 m c t (ix1 0) = aXg m c := by
  rw [← V_v2]
  blk_ext [iblk, ei2]

theorem r5_eq (t : Fin cfg0.N) : r5 m c t (ix1 0) = aWg m c := by
  rw [← V_v3]
  blk_ext [iblk, ei5]

theorem r0_apply (t : Fin cfg0.N) (r : Fin 16384) (k : Fin 1152) :
    r0 m c t (ix2 r k) = (V m c main_v0 : S16384x1152.Idx → EReal) (ix2 r k) := by
  blk_ext [iblk, ei0]

theorem r1_apply (t : Fin cfg0.N) (k : Fin 1152) : r1 m c t (ix2 0 k) = aSm m c (ix1 k) := by
  rw [← V_v1]
  blk_ext [iblk, ei1]

theorem row_r (t : Fin cfg0.N) (R : Fin 16384) : rowR (r0 m c t) (r1 m c t) R = rowS (aX m c) (aSm m c) R := by
  funext k
  unfold rowR
  rw [r0_apply, r1_apply, V_v0]
  rfl

theorem r3_eq (t : Fin cfg0.N) : r3 m c t = aWp m c := by
  rw [aWp, ← V_main_arg3 m c]
  funext y
  blk_ext [iblk, ei3]

theorem r4_eq (t : Fin cfg0.N) : r4 m c t = aWs m c := by
  rw [aWs, ← V_main_arg4 m c]
  funext y
  blk_ext [iblk, ei4]

theorem r6_eq (t : Fin cfg0.N) : r6 m c t = aLd m c := by
  rw [aLd, ← V_main_arg6 m c]
  funext y
  blk_ext [iblk, ei6]

theorem r7_eq (t : Fin cfg0.N) : r7 m c t = aLup m c := by
  rw [aLup, ← V_main_arg7 m c]
  funext y
  blk_ext [iblk, ei7]

theorem r8_eq (t : Fin cfg0.N) : r8 m c t = rowB (aB m c) := by
  funext y
  obtain ⟨r, l, rfl⟩ := idx2_eq y
  obtain rfl : r = 0 := Subsingleton.elim _ _
  show _ = aB m c (ix1 l)
  rw [← V_v4]
  blk_ext [iblk, ei8]

theorem ix_first (h) : (Shape.Idx.first h : S1.Idx) = ix1 0 := by
  funext a
  obtain rfl : a = 0 := Subsingleton.elim (α := Fin 1) _ _
  exact Subsingleton.elim (α := Fin 1) _ _

theorem arr11 : (dats m 0 c).arrAt 11 cfg0.N = (GS (aX m c) (aSm m c) (aXg m c) : S16384x72.Idx → _) := by
  have key : ∀ j : S16384x72.Idx, k0_pay5 (F := Ideal) (r2 m c t0 (ix1 0)) (r0 m c t0) (r1 m c t0) j = GS (aX m c) (aSm m c) (aXg m c) j := by
    intro j
    obtain ⟨r, l, rfl⟩ := idx2_eq j
    rw [pay5_apply, row_r, r2_eq]
    rfl
  refine (dats m 0 c).arrAt_eq_of_after_last 11 t0 (by decide +kernel) _ fun j => ?_
  blk_simp
  rw [after0_11]
  frame_out
  simp only [read_unread_whole, ix_first]
  exact key j

theorem arr10 : (dats m 0 c).arrAt 10 cfg0.N = (GP (aX m c) (aSm m c) (aXg m c) : S16384x576.Idx → _) := by
  have key : ∀ j : S16384x576.Idx, k0_pay12 (k0_pay6 (F := Ideal) (r2 m c t0 (ix1 0)) (r0 m c t0) (r1 m c t0)) (k0_pay7 (F := Ideal) (r2 m c t0 (ix1 0)) (r0 m c t0) (r1 m c t0))
      (k0_pay8 (F := Ideal) (r2 m c t0 (ix1 0)) (r0 m c t0) (r1 m c t0)) (k0_pay9 (F := Ideal) (r2 m c t0 (ix1 0)) (r0 m c t0) (r1 m c t0)) (k0_pay10 (F := Ideal)) j
      = GP (aX m c) (aSm m c) (aXg m c) j := by
    intro j
    obtain ⟨r, l, rfl⟩ := idx2_eq j
    rw [pay12_apply, row_r, r2_eq]
    rfl
  refine (dats m 0 c).arrAt_eq_of_after_last 10 t0 (by decide +kernel) _ fun j => ?_
  blk_simp
  rw [after0_10]
  frame_out
  simp only [read_unread_whole, ix_first]
  exact key j

theorem arr9 : (dats m 0 c).arrAt 9 cfg0.N
    = (GY (aX m c) (aSm m c) (aXg m c) (aWg m c) (aWp m c) (aWs m c) (aLd m c) (aLup m c) (aB m c) : S16384x4608.Idx → _) := by
  have key : ∀ j : S16384x4608.Idx, k0_pay1 (F := Ideal) (r2 m c t0 (ix1 0)) (r5 m c t0 (ix1 0)) (k0_pay2 (F := Ideal) (r0 m c t0) (r1 m c t0))
      (k0_pay13 (F := Ideal) (k0_pay4 (F := Ideal) (r2 m c t0 (ix1 0)) (r0 m c t0) (r1 m c t0)) (codes (r2 m c t0 (ix1 0)) (r0 m c t0) (r1 m c t0)))
      (k0_pay15 (F := Ideal) (iota .tc S576x2x4608 32 [1] iota_S576x2x4608_d1_w32) (r3 m c t0))
      (k0_pay16 (F := Ideal) (iota .tc S576x2x4608 32 [1] iota_S576x2x4608_d1_w32) (r3 m c t0)) (k0_pay17 (F := Ideal)) (r4 m c t0) (r6 m c t0) (r7 m c t0) (r8 m c t0) j
      = GY (aX m c) (aSm m c) (aXg m c) (aWg m c) (aWp m c) (aWs m c) (aLd m c) (aLup m c) (aB m c) j := by
    intro j
    obtain ⟨r, l, rfl⟩ := idx2_eq j
    rw [pay1_apply, row_r, r2_eq, r5_eq, r3_eq, r4_eq, r6_eq, r7_eq, r8_eq]
    rfl
  refine (dats m 0 c).arrAt_eq_of_after_last 9 t0 (by decide +kernel) _ fun j => ?_
  blk_simp
  rw [after0_9]
  unfold outsAt0
  dsimp only
  frame_out
  simp only [read_unread_whole, ix_first]
  exact key j

end Cert.ReferenceIdeal.Run

end
-- ==== Proof.Value.RefTail.lean ====
/-
  The reference program's three results: the reshapes that follow the plain computation.
-/
module

public import proofs.«01_k».proof.Proof.Value.RefOut

@[expose] public section

set_option maxRecDepth 65536

noncomputable section

namespace Cert.ReferenceIdeal.Run

open Cert.ReferenceIdeal Cert.ReferenceIdeal.Gen Cert.ReferenceIdeal.Val Cert.Spec
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- No two windows stage one array. -/
theorem arr_inj : Function.Injective (Pipeline.arrRef spec0) := by decide

theorem tail_v6 : (Pipeline.afterTail₀ cfgs (dats m) 0 (V0 m) [hostOps1] c main_v6 : S4x4096x4608.Idx → _)
    = shapeCast S4x4096x4608 ((dats m 0 c).arrAt 9 cfg0.N : S16384x4608.Idx → _) shapeCasts_S16384x4608_S4x4096x4608 := by
  unfold Pipeline.afterTail₀
  simp only [hostOps1, List.flatten_cons, List.flatten_nil, List.append_nil]
  after_results_simp
  exact congrArg (fun a => shapeCast S4x4096x4608 (a : S16384x4608.Idx → _) shapeCasts_S16384x4608_S4x4096x4608)
    (Pipeline.withArrays_arr spec0 arr_inj c (V0 m c) (fun w => (dats m 0 c).arrAt w cfg0.N) 9)

theorem tail_v7 : (Pipeline.afterTail₀ cfgs (dats m) 0 (V0 m) [hostOps1] c main_v7 : S4x4096x576.Idx → _)
    = shapeCast S4x4096x576 ((dats m 0 c).arrAt 10 cfg0.N : S16384x576.Idx → _) shapeCasts_S16384x576_S4x4096x576 := by
  unfold Pipeline.afterTail₀
  simp only [hostOps1, List.flatten_cons, List.flatten_nil, List.append_nil]
  after_results_simp
  exact congrArg (fun a => shapeCast S4x4096x576 (a : S16384x576.Idx → _) shapeCasts_S16384x576_S4x4096x576)
    (Pipeline.withArrays_arr spec0 arr_inj c (V0 m c) (fun w => (dats m 0 c).arrAt w cfg0.N) 10)

theorem tail_v8 : (Pipeline.afterTail₀ cfgs (dats m) 0 (V0 m) [hostOps1] c main_v8 : S4x4096x72.Idx → _)
    = shapeCast S4x4096x72 ((dats m 0 c).arrAt 11 cfg0.N : S16384x72.Idx → _) shapeCasts_S16384x72_S4x4096x72 := by
  unfold Pipeline.afterTail₀
  simp only [hostOps1, List.flatten_cons, List.flatten_nil, List.append_nil]
  after_results_simp
  exact congrArg (fun a => shapeCast S4x4096x72 (a : S16384x72.Idx → _) shapeCasts_S16384x72_S4x4096x72)
    (Pipeline.withArrays_arr spec0 arr_inj c (V0 m c) (fun w => (dats m 0 c).arrAt w cfg0.N) 11)

end Cert.ReferenceIdeal.Run

end
-- ==== Proof.Value.Algebraic.lean ====
/-
  The kernel program and the reference program hold the same three results.
-/
module

public import proofs.«01_k».proof.Defs
public import proofs.«01_k».proof.Proof.Gen.KernelIdeal
public import proofs.«01_k».proof.Proof.Gen.ReferenceIdeal
public import proofs.«01_k».proof.Proof.Value.Pre
public import proofs.«01_k».proof.Proof.Value.KerTail
public import proofs.«01_k».proof.Proof.Value.RefTail

@[expose] public section

set_option maxRecDepth 65536

noncomputable section

namespace Cert.KernelIdeal.Run

open Cert.KernelIdeal Cert.KernelIdeal.Gen Cert.KernelIdeal.Val Cert.KernelIdeal.Hand Cert.Spec
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- What the kernel program holds at the end. -/
theorem results (hpre : ∀ c, aXg m c ≠ 0 ∧ 0 ≤ aXg m c * aWg m c ∧ ∀ j n, ∃ x : ℝ, aLup m c (ix2 j n) = x) :
    θ_run (defs (F := Ideal)) (onTc (τ := τ) (main (F := Ideal))) ⟨m, fun _ => 0, ρ⟩ (fun r => ∀ c : Dev nD,
      (r.2.mem ((c.tc : Thread nD τ).loc main_v8) : S4x4096x4608.Idx → EReal)
          = shapeCast S4x4096x4608 (GY (aX m c) (aSm m c) (aXg m c) (aWg m c) (aWp m c) (aWs m c) (aLd m c) (aLup m c) (aB m c) : S16384x4608.Idx → EReal) shapeCasts_S16384x4608_S4x4096x4608
      ∧ (r.2.mem ((c.tc : Thread nD τ).loc main_v9) : S4x4096x576.Idx → BitVec 8)
          = shapeCast S4x4096x576 (GP (aX m c) (aSm m c) (aXg m c) : S16384x576.Idx → BitVec 8) shapeCasts_S16384x576_S4x4096x576
      ∧ (r.2.mem ((c.tc : Thread nD τ).loc main_v10) : S4x4096x72.Idx → EReal)
          = shapeCast S4x4096x72 (GS (aX m c) (aSm m c) (aXg m c) : S16384x72.Idx → EReal) shapeCasts_S16384x72_S4x4096x72) := by
  refine (θ_run defs _ _).mono (fun r hr c => ?_) (run_val m ρ)
  obtain ⟨hx, h0, hl⟩ := hpre c
  refine ⟨?_, ?_, ?_⟩
  · rw [← arr11 m c hx h0 hl, ← tail_v8]
    exact hr.rest_eq c main_v8 (by decide)
  · rw [← arr12 m c hx, ← tail_v9]
    exact hr.rest_eq c main_v9 (by decide)
  · rw [← arr13 m c, ← tail_v10]
    exact hr.rest_eq c main_v10 (by decide)

end Cert.KernelIdeal.Run

namespace Cert.ReferenceIdeal.Run

open Cert.ReferenceIdeal Cert.ReferenceIdeal.Gen Cert.ReferenceIdeal.Val Cert.Spec
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- What the reference program holds at the end. -/
theorem results :
    θ_run (defs (F := Ideal)) (onTc (τ := τ) (main (F := Ideal))) ⟨m, fun _ => 0, ρ⟩ (fun r => ∀ c : Dev nD,
      (r.2.mem ((c.tc : Thread nD τ).loc main_v6) : S4x4096x4608.Idx → EReal)
          = shapeCast S4x4096x4608 (GY (aX m c) (aSm m c) (aXg m c) (aWg m c) (aWp m c) (aWs m c) (aLd m c) (aLup m c) (aB m c) : S16384x4608.Idx → EReal) shapeCasts_S16384x4608_S4x4096x4608
      ∧ (r.2.mem ((c.tc : Thread nD τ).loc main_v7) : S4x4096x576.Idx → BitVec 8)
          = shapeCast S4x4096x576 (GP (aX m c) (aSm m c) (aXg m c) : S16384x576.Idx → BitVec 8) shapeCasts_S16384x576_S4x4096x576
      ∧ (r.2.mem ((c.tc : Thread nD τ).loc main_v8) : S4x4096x72.Idx → EReal)
          = shapeCast S4x4096x72 (GS (aX m c) (aSm m c) (aXg m c) : S16384x72.Idx → EReal) shapeCasts_S16384x72_S4x4096x72) := by
  refine (θ_run defs _ _).mono (fun r hr c => ?_) (run_main m ρ)
  refine ⟨?_, ?_, ?_⟩
  · rw [← arr9 m c, ← tail_v6]
    exact hr.rest_eq c main_v6 (by decide)
  · rw [← arr10 m c, ← tail_v7]
    exact hr.rest_eq c main_v7 (by decide)
  · rw [← arr11 m c, ← tail_v8]
    exact hr.rest_eq c main_v8 (by decide)

end Cert.ReferenceIdeal.Run

namespace Cert.Proof

open Idealize.ShloMosaic Idealize.ShloMosaic.TcCoe Idealize.SL.Sem Cert.Spec

theorem pre_of (m : (ℓ : Loc Cert.KernelIdeal.nD Cert.KernelIdeal.τ Cert.KernelIdeal.sig) → Buf (Elt Ideal) ℓ)
    (h : Pre_KernelIdeal_scales_fit m) (c : Dev Cert.KernelIdeal.nD) :
    KernelIdeal.Run.aXg m c ≠ 0 ∧ 0 ≤ KernelIdeal.Run.aXg m c * KernelIdeal.Run.aWg m c
      ∧ ∀ j n, ∃ x : ℝ, KernelIdeal.Run.aLup m c (ix2 j n) = x := by
  have k := fun j n => Cert.Pre_scales_fit.fn_apply _ _ _ _ _ _ _ _ _ j n (congrFun (h c) (ix2 j n))
  exact ⟨(k 0 0).1, (k 0 0).2.1, fun j n => (k j n).2.2⟩

/-- From equal arguments, under the precondition, the two programs end with equal results. -/
theorem algebraic : algebraic_KernelIdeal_ReferenceIdeal_pre_scales_fit := by
  intro m g m' g' hpre hagree
  refine ⟨fun c => shapeCast KernelIdeal.S4x4096x4608 (GY (KernelIdeal.Run.aX m c) (KernelIdeal.Run.aSm m c) (KernelIdeal.Run.aXg m c) (KernelIdeal.Run.aWg m c) (KernelIdeal.Run.aWp m c) (KernelIdeal.Run.aWs m c) (KernelIdeal.Run.aLd m c) (KernelIdeal.Run.aLup m c) (KernelIdeal.Run.aB m c) : KernelIdeal.S16384x4608.Idx → EReal) KernelIdeal.Gen.shapeCasts_S16384x4608_S4x4096x4608,
    fun c => shapeCast KernelIdeal.S4x4096x576 (GP (KernelIdeal.Run.aX m c) (KernelIdeal.Run.aSm m c) (KernelIdeal.Run.aXg m c) : KernelIdeal.S16384x576.Idx → BitVec 8) KernelIdeal.Gen.shapeCasts_S16384x576_S4x4096x576,
    fun c => shapeCast KernelIdeal.S4x4096x72 (GS (KernelIdeal.Run.aX m c) (KernelIdeal.Run.aSm m c) (KernelIdeal.Run.aXg m c) : KernelIdeal.S16384x72.Idx → EReal) KernelIdeal.Gen.shapeCasts_S16384x72_S4x4096x72, ?_, ?_⟩
  · refine (θ_run _ _ _).mono (fun r hr c => ?_) (θ_run_and (KernelIdeal.Run.results m g (pre_of m hpre))
      (KernelIdeal.Gen.frame_of m g (KernelIdeal.Run.vdats m) (KernelIdeal.Run.vA_eq m) (KernelIdeal.Run.run_val m g)))
    exact ⟨(hr.1 c).1, (hr.1 c).2.1, (hr.1 c).2.2, hr.2 c⟩
  · refine (θ_run _ _ _).mono (fun r hr c => ?_) (θ_run_and (ReferenceIdeal.Run.results m' g') (ReferenceIdeal.Gen.unchanged m' g'))
    have e0 : ReferenceIdeal.Run.aX m' c = KernelIdeal.Run.aX m c := (hagree c).1
    have e1 : ReferenceIdeal.Run.aSm m' c = KernelIdeal.Run.aSm m c := (hagree c).2.1
    have e2 : ReferenceIdeal.Run.aXg m' c = KernelIdeal.Run.aXg m c := congrFun (hagree c).2.2.1 ix0
    have e3 : ReferenceIdeal.Run.aWp m' c = KernelIdeal.Run.aWp m c := (hagree c).2.2.2.1
    have e4 : ReferenceIdeal.Run.aWs m' c = KernelIdeal.Run.aWs m c := (hagree c).2.2.2.2.1
    have e5 : ReferenceIdeal.Run.aWg m' c = KernelIdeal.Run.aWg m c := congrFun (hagree c).2.2.2.2.2.1 ix0
    have e6 : ReferenceIdeal.Run.aLd m' c = KernelIdeal.Run.aLd m c := (hagree c).2.2.2.2.2.2.1
    have e7 : ReferenceIdeal.Run.aLup m' c = KernelIdeal.Run.aLup m c := (hagree c).2.2.2.2.2.2.2.1
    have e8 : ReferenceIdeal.Run.aB m' c = KernelIdeal.Run.aB m c := (hagree c).2.2.2.2.2.2.2.2
    obtain ⟨h0, h1, h2⟩ := hr.1 c
    rw [e0, e1, e2, e3, e4, e5, e6, e7, e8] at h0
    rw [e0, e1, e2] at h1 h2
    exact ⟨h0, h1, h2, hr.2 c⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_fit
public import proofs.«01_k».proof.Proof.Frames.KernelFrame
public import proofs.«01_k».proof.Proof.Frames.KernelIdealFrame
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_scales_fit.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
